-- ==== Defs.lean ====
def Pre_Experts [hPre_experts_range : Cert.Pre_experts_range.Facts] (m : (ℓ : Loc Cert.Experts.nD Cert.Experts.τ Cert.Experts.sig) → Buf (Elt Bits) ℓ) : Prop :=
  ∀ c : Dev Cert.Experts.nD,
    (Cert.Pre_experts_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_range : Cert.Pre_experts_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal [hPre_experts_range : Cert.Pre_experts_range.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_experts_range.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Comb (m : (ℓ : Loc Cert.Comb.nD Cert.Comb.τ Cert.Comb.sig) → Buf (Elt Bits) ℓ) : Prop :=
  True

def Pre_CombIdeal (m : (ℓ : Loc Cert.CombIdeal.nD Cert.CombIdeal.τ Cert.CombIdeal.sig) → Buf (Elt Ideal) ℓ) : Prop :=
  True

def Pre_CombRefIdeal (m : (ℓ : Loc Cert.CombRefIdeal.nD Cert.CombRefIdeal.τ Cert.CombRefIdeal.sig) → Buf (Elt Ideal) ℓ) : Prop :=
  True

def Pre_Rets (m : (ℓ : Loc Cert.Rets.nD Cert.Rets.τ Cert.Rets.sig) → Buf (Elt Bits) ℓ) : Prop :=
  True

def Pre_RetsIdeal (m : (ℓ : Loc Cert.RetsIdeal.nD Cert.RetsIdeal.τ Cert.RetsIdeal.sig) → Buf (Elt Ideal) ℓ) : Prop :=
  True

def Pre_RetsRefIdeal (m : (ℓ : Loc Cert.RetsRefIdeal.nD Cert.RetsRefIdeal.τ Cert.RetsRefIdeal.sig) → Buf (Elt Ideal) ℓ) : Prop :=
  True

def Pre_Atts (m : (ℓ : Loc Cert.Atts.nD Cert.Atts.τ Cert.Atts.sig) → Buf (Elt Bits) ℓ) : Prop :=
  True

def Pre_AttsIdeal (m : (ℓ : Loc Cert.AttsIdeal.nD Cert.AttsIdeal.τ Cert.AttsIdeal.sig) → Buf (Elt Ideal) ℓ) : Prop :=
  True

def Pre_AttsRefIdeal (m : (ℓ : Loc Cert.AttsRefIdeal.nD Cert.AttsRefIdeal.τ Cert.AttsRefIdeal.sig) → Buf (Elt Ideal) ℓ) : Prop :=
  True

def quiescent_Experts [hExperts : Cert.Experts.Facts] [hPre_experts_range : Cert.Pre_experts_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_range : Cert.Pre_experts_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] [hPre_experts_range : Cert.Pre_experts_range.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Comb [hComb : Cert.Comb.Facts] : Prop :=
  ∀ (m : (ℓ : Loc Cert.Comb.nD Cert.Comb.τ Cert.Comb.sig) → Buf (Elt Bits) ℓ) (g : Dev Cert.Comb.nD → PrngReg), Pre_Comb m →
    θ_run (Cert.Comb.defs (F := Bits)) (onTc (τ := Cert.Comb.τ) (Cert.Comb.main (F := Bits))) ⟨m, fun _ => 0, g⟩ (fun r => (∀ c : Dev Cert.Comb.nD,
      r.2.mem ((c.tc : Thread Cert.Comb.nD Cert.Comb.τ).loc Cert.Comb.main_arg0) = m ((c.tc : Thread Cert.Comb.nD Cert.Comb.τ).loc Cert.Comb.main_arg0)
      ∧ r.2.mem ((c.tc : Thread Cert.Comb.nD Cert.Comb.τ).loc Cert.Comb.main_arg1) = m ((c.tc : Thread Cert.Comb.nD Cert.Comb.τ).loc Cert.Comb.main_arg1)
      ∧ r.2.mem ((c.tc : Thread Cert.Comb.nD Cert.Comb.τ).loc Cert.Comb.main_arg2) = m ((c.tc : Thread Cert.Comb.nD Cert.Comb.τ).loc Cert.Comb.main_arg2)
      ∧ r.2.mem ((c.tc : Thread Cert.Comb.nD Cert.Comb.τ).loc Cert.Comb.main_arg3) = m ((c.tc : Thread Cert.Comb.nD Cert.Comb.τ).loc Cert.Comb.main_arg3)
      ∧ r.2.mem ((c.tc : Thread Cert.Comb.nD Cert.Comb.τ).loc Cert.Comb.main_arg4) = m ((c.tc : Thread Cert.Comb.nD Cert.Comb.τ).loc Cert.Comb.main_arg4)
      ∧ r.2.mem ((c.tc : Thread Cert.Comb.nD Cert.Comb.τ).loc Cert.Comb.main_arg5) = m ((c.tc : Thread Cert.Comb.nD Cert.Comb.τ).loc Cert.Comb.main_arg5)
      ∧ r.2.mem ((c.tc : Thread Cert.Comb.nD Cert.Comb.τ).loc Cert.Comb.main_arg6) = m ((c.tc : Thread Cert.Comb.nD Cert.Comb.τ).loc Cert.Comb.main_arg6))
      ∧ r.2.sem = fun _ => 0)

def quiescent_CombIdeal [hCombIdeal : Cert.CombIdeal.Facts] : Prop :=
  ∀ (m : (ℓ : Loc Cert.CombIdeal.nD Cert.CombIdeal.τ Cert.CombIdeal.sig) → Buf (Elt Ideal) ℓ) (g : Dev Cert.CombIdeal.nD → PrngReg), Pre_CombIdeal m →
    θ_run (Cert.CombIdeal.defs (F := Ideal)) (onTc (τ := Cert.CombIdeal.τ) (Cert.CombIdeal.main (F := Ideal))) ⟨m, fun _ => 0, g⟩ (fun r => (∀ c : Dev Cert.CombIdeal.nD,
      r.2.mem ((c.tc : Thread Cert.CombIdeal.nD Cert.CombIdeal.τ).loc Cert.CombIdeal.main_arg0) = m ((c.tc : Thread Cert.CombIdeal.nD Cert.CombIdeal.τ).loc Cert.CombIdeal.main_arg0)
      ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
      ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
      ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
      ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
      ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
      ∧ r.2.mem ((c.tc : Thread Cert.CombIdeal.nD Cert.CombIdeal.τ).loc Cert.CombIdeal.main_arg6) = m ((c.tc : Thread Cert.CombIdeal.nD Cert.CombIdeal.τ).loc Cert.CombIdeal.main_arg6))
      ∧ r.2.sem = fun _ => 0)

def quiescent_CombRefIdeal [hCombRefIdeal : Cert.CombRefIdeal.Facts] : Prop :=
  ∀ (m : (ℓ : Loc Cert.CombRefIdeal.nD Cert.CombRefIdeal.τ Cert.CombRefIdeal.sig) → Buf (Elt Ideal) ℓ) (g : Dev Cert.CombRefIdeal.nD → PrngReg), Pre_CombRefIdeal m →
    θ_run (Cert.CombRefIdeal.defs (F := Ideal)) (onTc (τ := Cert.CombRefIdeal.τ) (Cert.CombRefIdeal.main (F := Ideal))) ⟨m, fun _ => 0, g⟩ (fun r => (∀ c : Dev Cert.CombRefIdeal.nD,
      r.2.mem ((c.tc : Thread Cert.CombRefIdeal.nD Cert.CombRefIdeal.τ).loc Cert.CombRefIdeal.main_arg0) = m ((c.tc : Thread Cert.CombRefIdeal.nD Cert.CombRefIdeal.τ).loc Cert.CombRefIdeal.main_arg0)
      ∧ r.2.mem ((c.tc : Thread Cert.CombRefIdeal.nD Cert.CombRefIdeal.τ).loc Cert.CombRefIdeal.main_arg1) = m ((c.tc : Thread Cert.CombRefIdeal.nD Cert.CombRefIdeal.τ).loc Cert.CombRefIdeal.main_arg1)
      ∧ r.2.mem ((c.tc : Thread Cert.CombRefIdeal.nD Cert.CombRefIdeal.τ).loc Cert.CombRefIdeal.main_arg2) = m ((c.tc : Thread Cert.CombRefIdeal.nD Cert.CombRefIdeal.τ).loc Cert.CombRefIdeal.main_arg2)
      ∧ r.2.mem ((c.tc : Thread Cert.CombRefIdeal.nD Cert.CombRefIdeal.τ).loc Cert.CombRefIdeal.main_arg3) = m ((c.tc : Thread Cert.CombRefIdeal.nD Cert.CombRefIdeal.τ).loc Cert.CombRefIdeal.main_arg3)
      ∧ r.2.mem ((c.tc : Thread Cert.CombRefIdeal.nD Cert.CombRefIdeal.τ).loc Cert.CombRefIdeal.main_arg4) = m ((c.tc : Thread Cert.CombRefIdeal.nD Cert.CombRefIdeal.τ).loc Cert.CombRefIdeal.main_arg4)
      ∧ r.2.mem ((c.tc : Thread Cert.CombRefIdeal.nD Cert.CombRefIdeal.τ).loc Cert.CombRefIdeal.main_arg5) = m ((c.tc : Thread Cert.CombRefIdeal.nD Cert.CombRefIdeal.τ).loc Cert.CombRefIdeal.main_arg5)
      ∧ r.2.mem ((c.tc : Thread Cert.CombRefIdeal.nD Cert.CombRefIdeal.τ).loc Cert.CombRefIdeal.main_arg6) = m ((c.tc : Thread Cert.CombRefIdeal.nD Cert.CombRefIdeal.τ).loc Cert.CombRefIdeal.main_arg6))
      ∧ r.2.sem = fun _ => 0)

def quiescent_Rets [hRets : Cert.Rets.Facts] : Prop :=
  ∀ (m : (ℓ : Loc Cert.Rets.nD Cert.Rets.τ Cert.Rets.sig) → Buf (Elt Bits) ℓ) (g : Dev Cert.Rets.nD → PrngReg), Pre_Rets m →
    θ_run (Cert.Rets.defs (F := Bits)) (onTc (τ := Cert.Rets.τ) (Cert.Rets.main (F := Bits))) ⟨m, fun _ => 0, g⟩ (fun r => (∀ c : Dev Cert.Rets.nD,
      r.2.mem ((c.tc : Thread Cert.Rets.nD Cert.Rets.τ).loc Cert.Rets.main_arg0) = m ((c.tc : Thread Cert.Rets.nD Cert.Rets.τ).loc Cert.Rets.main_arg0)
      ∧ r.2.mem ((c.tc : Thread Cert.Rets.nD Cert.Rets.τ).loc Cert.Rets.main_arg1) = m ((c.tc : Thread Cert.Rets.nD Cert.Rets.τ).loc Cert.Rets.main_arg1)
      ∧ r.2.mem ((c.tc : Thread Cert.Rets.nD Cert.Rets.τ).loc Cert.Rets.main_arg2) = m ((c.tc : Thread Cert.Rets.nD Cert.Rets.τ).loc Cert.Rets.main_arg2)
      ∧ r.2.mem ((c.tc : Thread Cert.Rets.nD Cert.Rets.τ).loc Cert.Rets.main_arg3) = m ((c.tc : Thread Cert.Rets.nD Cert.Rets.τ).loc Cert.Rets.main_arg3)
      ∧ r.2.mem ((c.tc : Thread Cert.Rets.nD Cert.Rets.τ).loc Cert.Rets.main_arg4) = m ((c.tc : Thread Cert.Rets.nD Cert.Rets.τ).loc Cert.Rets.main_arg4)
      ∧ r.2.mem ((c.tc : Thread Cert.Rets.nD Cert.Rets.τ).loc Cert.Rets.main_arg5) = m ((c.tc : Thread Cert.Rets.nD Cert.Rets.τ).loc Cert.Rets.main_arg5)
      ∧ r.2.mem ((c.tc : Thread Cert.Rets.nD Cert.Rets.τ).loc Cert.Rets.main_arg6) = m ((c.tc : Thread Cert.Rets.nD Cert.Rets.τ).loc Cert.Rets.main_arg6)
      ∧ r.2.mem ((c.tc : Thread Cert.Rets.nD Cert.Rets.τ).loc Cert.Rets.main_arg7) = m ((c.tc : Thread Cert.Rets.nD Cert.Rets.τ).loc Cert.Rets.main_arg7)
      ∧ r.2.mem ((c.tc : Thread Cert.Rets.nD Cert.Rets.τ).loc Cert.Rets.main_arg8) = m ((c.tc : Thread Cert.Rets.nD Cert.Rets.τ).loc Cert.Rets.main_arg8))
      ∧ r.2.sem = fun _ => 0)

def quiescent_RetsIdeal [hRetsIdeal : Cert.RetsIdeal.Facts] : Prop :=
  ∀ (m : (ℓ : Loc Cert.RetsIdeal.nD Cert.RetsIdeal.τ Cert.RetsIdeal.sig) → Buf (Elt Ideal) ℓ) (g : Dev Cert.RetsIdeal.nD → PrngReg), Pre_RetsIdeal m →
    θ_run (Cert.RetsIdeal.defs (F := Ideal)) (onTc (τ := Cert.RetsIdeal.τ) (Cert.RetsIdeal.main (F := Ideal))) ⟨m, fun _ => 0, g⟩ (fun r => (∀ c : Dev Cert.RetsIdeal.nD,
      r.2.mem ((c.tc : Thread Cert.RetsIdeal.nD Cert.RetsIdeal.τ).loc Cert.RetsIdeal.main_arg0) = m ((c.tc : Thread Cert.RetsIdeal.nD Cert.RetsIdeal.τ).loc Cert.RetsIdeal.main_arg0)
      ∧ r.2.mem ((c.tc : Thread Cert.RetsIdeal.nD Cert.RetsIdeal.τ).loc Cert.RetsIdeal.main_arg1) = m ((c.tc : Thread Cert.RetsIdeal.nD Cert.RetsIdeal.τ).loc Cert.RetsIdeal.main_arg1)
      ∧ r.2.mem ((c.tc : Thread Cert.RetsIdeal.nD Cert.RetsIdeal.τ).loc Cert.RetsIdeal.main_arg2) = m ((c.tc : Thread Cert.RetsIdeal.nD Cert.RetsIdeal.τ).loc Cert.RetsIdeal.main_arg2)
      ∧ r.2.mem ((c.tc : Thread Cert.RetsIdeal.nD Cert.RetsIdeal.τ).loc Cert.RetsIdeal.main_arg3) = m ((c.tc : Thread Cert.RetsIdeal.nD Cert.RetsIdeal.τ).loc Cert.RetsIdeal.main_arg3)
      ∧ r.2.mem ((c.tc : Thread Cert.RetsIdeal.nD Cert.RetsIdeal.τ).loc Cert.RetsIdeal.main_arg4) = m ((c.tc : Thread Cert.RetsIdeal.nD Cert.RetsIdeal.τ).loc Cert.RetsIdeal.main_arg4)
      ∧ r.2.mem ((c.tc : Thread Cert.RetsIdeal.nD Cert.RetsIdeal.τ).loc Cert.RetsIdeal.main_arg5) = m ((c.tc : Thread Cert.RetsIdeal.nD Cert.RetsIdeal.τ).loc Cert.RetsIdeal.main_arg5)
      ∧ r.2.mem ((c.tc : Thread Cert.RetsIdeal.nD Cert.RetsIdeal.τ).loc Cert.RetsIdeal.main_arg6) = m ((c.tc : Thread Cert.RetsIdeal.nD Cert.RetsIdeal.τ).loc Cert.RetsIdeal.main_arg6)
      ∧ r.2.mem ((c.tc : Thread Cert.RetsIdeal.nD Cert.RetsIdeal.τ).loc Cert.RetsIdeal.main_arg7) = m ((c.tc : Thread Cert.RetsIdeal.nD Cert.RetsIdeal.τ).loc Cert.RetsIdeal.main_arg7)
      ∧ r.2.mem ((c.tc : Thread Cert.RetsIdeal.nD Cert.RetsIdeal.τ).loc Cert.RetsIdeal.main_arg8) = m ((c.tc : Thread Cert.RetsIdeal.nD Cert.RetsIdeal.τ).loc Cert.RetsIdeal.main_arg8))
      ∧ r.2.sem = fun _ => 0)

def quiescent_RetsRefIdeal [hRetsRefIdeal : Cert.RetsRefIdeal.Facts] : Prop :=
  ∀ (m : (ℓ : Loc Cert.RetsRefIdeal.nD Cert.RetsRefIdeal.τ Cert.RetsRefIdeal.sig) → Buf (Elt Ideal) ℓ) (g : Dev Cert.RetsRefIdeal.nD → PrngReg), Pre_RetsRefIdeal m →
    θ_run (Cert.RetsRefIdeal.defs (F := Ideal)) (onTc (τ := Cert.RetsRefIdeal.τ) (Cert.RetsRefIdeal.main (F := Ideal))) ⟨m, fun _ => 0, g⟩ (fun r => (∀ c : Dev Cert.RetsRefIdeal.nD,
      r.2.mem ((c.tc : Thread Cert.RetsRefIdeal.nD Cert.RetsRefIdeal.τ).loc Cert.RetsRefIdeal.main_arg0) = m ((c.tc : Thread Cert.RetsRefIdeal.nD Cert.RetsRefIdeal.τ).loc Cert.RetsRefIdeal.main_arg0)
      ∧ r.2.mem ((c.tc : Thread Cert.RetsRefIdeal.nD Cert.RetsRefIdeal.τ).loc Cert.RetsRefIdeal.main_arg1) = m ((c.tc : Thread Cert.RetsRefIdeal.nD Cert.RetsRefIdeal.τ).loc Cert.RetsRefIdeal.main_arg1)
      ∧ r.2.mem ((c.tc : Thread Cert.RetsRefIdeal.nD Cert.RetsRefIdeal.τ).loc Cert.RetsRefIdeal.main_arg2) = m ((c.tc : Thread Cert.RetsRefIdeal.nD Cert.RetsRefIdeal.τ).loc Cert.RetsRefIdeal.main_arg2)
      ∧ r.2.mem ((c.tc : Thread Cert.RetsRefIdeal.nD Cert.RetsRefIdeal.τ).loc Cert.RetsRefIdeal.main_arg3) = m ((c.tc : Thread Cert.RetsRefIdeal.nD Cert.RetsRefIdeal.τ).loc Cert.RetsRefIdeal.main_arg3)
      ∧ r.2.mem ((c.tc : Thread Cert.RetsRefIdeal.nD Cert.RetsRefIdeal.τ).loc Cert.RetsRefIdeal.main_arg4) = m ((c.tc : Thread Cert.RetsRefIdeal.nD Cert.RetsRefIdeal.τ).loc Cert.RetsRefIdeal.main_arg4)
      ∧ r.2.mem ((c.tc : Thread Cert.RetsRefIdeal.nD Cert.RetsRefIdeal.τ).loc Cert.RetsRefIdeal.main_arg5) = m ((c.tc : Thread Cert.RetsRefIdeal.nD Cert.RetsRefIdeal.τ).loc Cert.RetsRefIdeal.main_arg5)
      ∧ r.2.mem ((c.tc : Thread Cert.RetsRefIdeal.nD Cert.RetsRefIdeal.τ).loc Cert.RetsRefIdeal.main_arg6) = m ((c.tc : Thread Cert.RetsRefIdeal.nD Cert.RetsRefIdeal.τ).loc Cert.RetsRefIdeal.main_arg6)
      ∧ r.2.mem ((c.tc : Thread Cert.RetsRefIdeal.nD Cert.RetsRefIdeal.τ).loc Cert.RetsRefIdeal.main_arg7) = m ((c.tc : Thread Cert.RetsRefIdeal.nD Cert.RetsRefIdeal.τ).loc Cert.RetsRefIdeal.main_arg7)
      ∧ r.2.mem ((c.tc : Thread Cert.RetsRefIdeal.nD Cert.RetsRefIdeal.τ).loc Cert.RetsRefIdeal.main_arg8) = m ((c.tc : Thread Cert.RetsRefIdeal.nD Cert.RetsRefIdeal.τ).loc Cert.RetsRefIdeal.main_arg8))
      ∧ r.2.sem = fun _ => 0)

def quiescent_Atts [hAtts : Cert.Atts.Facts] : Prop :=
  ∀ (m : (ℓ : Loc Cert.Atts.nD Cert.Atts.τ Cert.Atts.sig) → Buf (Elt Bits) ℓ) (g : Dev Cert.Atts.nD → PrngReg), Pre_Atts m →
    θ_run (Cert.Atts.defs (F := Bits)) (onTc (τ := Cert.Atts.τ) (Cert.Atts.main (F := Bits))) ⟨m, fun _ => 0, g⟩ (fun r => (∀ c : Dev Cert.Atts.nD,
      r.2.mem ((c.tc : Thread Cert.Atts.nD Cert.Atts.τ).loc Cert.Atts.main_arg0) = m ((c.tc : Thread Cert.Atts.nD Cert.Atts.τ).loc Cert.Atts.main_arg0)
      ∧ r.2.mem ((c.tc : Thread Cert.Atts.nD Cert.Atts.τ).loc Cert.Atts.main_arg1) = m ((c.tc : Thread Cert.Atts.nD Cert.Atts.τ).loc Cert.Atts.main_arg1)
      ∧ r.2.mem ((c.tc : Thread Cert.Atts.nD Cert.Atts.τ).loc Cert.Atts.main_arg2) = m ((c.tc : Thread Cert.Atts.nD Cert.Atts.τ).loc Cert.Atts.main_arg2)
      ∧ r.2.mem ((c.tc : Thread Cert.Atts.nD Cert.Atts.τ).loc Cert.Atts.main_arg3) = m ((c.tc : Thread Cert.Atts.nD Cert.Atts.τ).loc Cert.Atts.main_arg3))
      ∧ r.2.sem = fun _ => 0)

def quiescent_AttsIdeal [hAttsIdeal : Cert.AttsIdeal.Facts] : Prop :=
  ∀ (m : (ℓ : Loc Cert.AttsIdeal.nD Cert.AttsIdeal.τ Cert.AttsIdeal.sig) → Buf (Elt Ideal) ℓ) (g : Dev Cert.AttsIdeal.nD → PrngReg), Pre_AttsIdeal m →
    θ_run (Cert.AttsIdeal.defs (F := Ideal)) (onTc (τ := Cert.AttsIdeal.τ) (Cert.AttsIdeal.main (F := Ideal))) ⟨m, fun _ => 0, g⟩ (fun r => (∀ c : Dev Cert.AttsIdeal.nD,
      r.2.mem ((c.tc : Thread Cert.AttsIdeal.nD Cert.AttsIdeal.τ).loc Cert.AttsIdeal.main_arg0) = m ((c.tc : Thread Cert.AttsIdeal.nD Cert.AttsIdeal.τ).loc Cert.AttsIdeal.main_arg0)
      ∧ r.2.mem ((c.tc : Thread Cert.AttsIdeal.nD Cert.AttsIdeal.τ).loc Cert.AttsIdeal.main_arg1) = m ((c.tc : Thread Cert.AttsIdeal.nD Cert.AttsIdeal.τ).loc Cert.AttsIdeal.main_arg1)
      ∧ r.2.mem ((c.tc : Thread Cert.AttsIdeal.nD Cert.AttsIdeal.τ).loc Cert.AttsIdeal.main_arg2) = m ((c.tc : Thread Cert.AttsIdeal.nD Cert.AttsIdeal.τ).loc Cert.AttsIdeal.main_arg2)
      ∧ r.2.mem ((c.tc : Thread Cert.AttsIdeal.nD Cert.AttsIdeal.τ).loc Cert.AttsIdeal.main_arg3) = m ((c.tc : Thread Cert.AttsIdeal.nD Cert.AttsIdeal.τ).loc Cert.AttsIdeal.main_arg3))
      ∧ r.2.sem = fun _ => 0)

def quiescent_AttsRefIdeal [hAttsRefIdeal : Cert.AttsRefIdeal.Facts] : Prop :=
  ∀ (m : (ℓ : Loc Cert.AttsRefIdeal.nD Cert.AttsRefIdeal.τ Cert.AttsRefIdeal.sig) → Buf (Elt Ideal) ℓ) (g : Dev Cert.AttsRefIdeal.nD → PrngReg), Pre_AttsRefIdeal m →
    θ_run (Cert.AttsRefIdeal.defs (F := Ideal)) (onTc (τ := Cert.AttsRefIdeal.τ) (Cert.AttsRefIdeal.main (F := Ideal))) ⟨m, fun _ => 0, g⟩ (fun r => (∀ c : Dev Cert.AttsRefIdeal.nD,
      r.2.mem ((c.tc : Thread Cert.AttsRefIdeal.nD Cert.AttsRefIdeal.τ).loc Cert.AttsRefIdeal.main_arg0) = m ((c.tc : Thread Cert.AttsRefIdeal.nD Cert.AttsRefIdeal.τ).loc Cert.AttsRefIdeal.main_arg0)
      ∧ r.2.mem ((c.tc : Thread Cert.AttsRefIdeal.nD Cert.AttsRefIdeal.τ).loc Cert.AttsRefIdeal.main_arg1) = m ((c.tc : Thread Cert.AttsRefIdeal.nD Cert.AttsRefIdeal.τ).loc Cert.AttsRefIdeal.main_arg1)
      ∧ r.2.mem ((c.tc : Thread Cert.AttsRefIdeal.nD Cert.AttsRefIdeal.τ).loc Cert.AttsRefIdeal.main_arg2) = m ((c.tc : Thread Cert.AttsRefIdeal.nD Cert.AttsRefIdeal.τ).loc Cert.AttsRefIdeal.main_arg2)
      ∧ r.2.mem ((c.tc : Thread Cert.AttsRefIdeal.nD Cert.AttsRefIdeal.τ).loc Cert.AttsRefIdeal.main_arg3) = m ((c.tc : Thread Cert.AttsRefIdeal.nD Cert.AttsRefIdeal.τ).loc Cert.AttsRefIdeal.main_arg3))
      ∧ r.2.sem = fun _ => 0)

def preserves_Experts_ExpertsIdeal : Prop :=
  True

def algebraic_ExpertsIdeal_ExpertsRefIdeal [hExpertsIdeal : Cert.ExpertsIdeal.Facts] [hExpertsRefIdeal : Cert.ExpertsRefIdeal.Facts] [hPre_experts_range : Cert.Pre_experts_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v33) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)) (v1 : (c : Dev Cert.ProjIdeal.nD) → Buf (Elt Ideal) ((c.tc : Thread Cert.ProjIdeal.nD Cert.ProjIdeal.τ).loc Cert.ProjIdeal.main_v17)) (v2 : (c : Dev Cert.ProjIdeal.nD) → Buf (Elt Ideal) ((c.tc : Thread Cert.ProjIdeal.nD Cert.ProjIdeal.τ).loc Cert.ProjIdeal.main_v18)) (v3 : (c : Dev Cert.ProjIdeal.nD) → Buf (Elt Ideal) ((c.tc : Thread Cert.ProjIdeal.nD Cert.ProjIdeal.τ).loc Cert.ProjIdeal.main_v19)) (v4 : (c : Dev Cert.ProjIdeal.nD) → Buf (Elt Ideal) ((c.tc : Thread Cert.ProjIdeal.nD Cert.ProjIdeal.τ).loc Cert.ProjIdeal.main_v20)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_v17) = v1 c
          ∧ r.2.mem ((c.tc : Thread Cert.ProjIdeal.nD Cert.ProjIdeal.τ).loc Cert.ProjIdeal.main_v18) = v2 c
          ∧ r.2.mem ((c.tc : Thread Cert.ProjIdeal.nD Cert.ProjIdeal.τ).loc Cert.ProjIdeal.main_v19) = v3 c
          ∧ r.2.mem ((c.tc : Thread Cert.ProjIdeal.nD Cert.ProjIdeal.τ).loc Cert.ProjIdeal.main_v20) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_v21) = v1 c
          ∧ r.2.mem ((c.tc : Thread Cert.ProjRefIdeal.nD Cert.ProjRefIdeal.τ).loc Cert.ProjRefIdeal.main_v22) = v2 c
          ∧ r.2.mem ((c.tc : Thread Cert.ProjRefIdeal.nD Cert.ProjRefIdeal.τ).loc Cert.ProjRefIdeal.main_v19) = v3 c
          ∧ r.2.mem ((c.tc : Thread Cert.ProjRefIdeal.nD Cert.ProjRefIdeal.τ).loc Cert.ProjRefIdeal.main_v20) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v24) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v31) = v0 c
          ∧ r.2.mem ((c.tc : Thread Cert.OutRefIdeal.nD Cert.OutRefIdeal.τ).loc Cert.OutRefIdeal.main_v32) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Comb_CombIdeal : Prop :=
  True

def algebraic_CombIdeal_CombRefIdeal [hCombIdeal : Cert.CombIdeal.Facts] [hCombRefIdeal : Cert.CombRefIdeal.Facts] : Prop :=
  ∀ (m : (ℓ : Loc Cert.CombIdeal.nD Cert.CombIdeal.τ Cert.CombIdeal.sig) → Buf (Elt Ideal) ℓ) (g : Dev Cert.CombIdeal.nD → PrngReg)
    (m' : (ℓ : Loc Cert.CombRefIdeal.nD Cert.CombRefIdeal.τ Cert.CombRefIdeal.sig) → Buf (Elt Ideal) ℓ) (g' : Dev Cert.CombRefIdeal.nD → PrngReg), Pre_CombIdeal m →
    (∀ c : Dev Cert.CombIdeal.nD,
      m' ((c.tc : Thread Cert.CombRefIdeal.nD Cert.CombRefIdeal.τ).loc Cert.CombRefIdeal.main_arg0) = m ((c.tc : Thread Cert.CombIdeal.nD Cert.CombIdeal.τ).loc Cert.CombIdeal.main_arg0)
      ∧ m' ((c.tc : Thread Cert.CombRefIdeal.nD Cert.CombRefIdeal.τ).loc Cert.CombRefIdeal.main_arg1) = m ((c.tc : Thread Cert.CombIdeal.nD Cert.CombIdeal.τ).loc Cert.CombIdeal.main_arg1)
      ∧ m' ((c.tc : Thread Cert.CombRefIdeal.nD Cert.CombRefIdeal.τ).loc Cert.CombRefIdeal.main_arg2) = m ((c.tc : Thread Cert.CombIdeal.nD Cert.CombIdeal.τ).loc Cert.CombIdeal.main_arg2)
      ∧ m' ((c.tc : Thread Cert.CombRefIdeal.nD Cert.CombRefIdeal.τ).loc Cert.CombRefIdeal.main_arg3) = m ((c.tc : Thread Cert.CombIdeal.nD Cert.CombIdeal.τ).loc Cert.CombIdeal.main_arg3)
      ∧ m' ((c.tc : Thread Cert.CombRefIdeal.nD Cert.CombRefIdeal.τ).loc Cert.CombRefIdeal.main_arg4) = m ((c.tc : Thread Cert.CombIdeal.nD Cert.CombIdeal.τ).loc Cert.CombIdeal.main_arg4)
      ∧ m' ((c.tc : Thread Cert.CombRefIdeal.nD Cert.CombRefIdeal.τ).loc Cert.CombRefIdeal.main_arg5) = m ((c.tc : Thread Cert.CombIdeal.nD Cert.CombIdeal.τ).loc Cert.CombIdeal.main_arg5)
      ∧ m' ((c.tc : Thread Cert.CombRefIdeal.nD Cert.CombRefIdeal.τ).loc Cert.CombRefIdeal.main_arg6) = m ((c.tc : Thread Cert.CombIdeal.nD Cert.CombIdeal.τ).loc Cert.CombIdeal.main_arg6)) →
    ∃ (v0 : (c : Dev Cert.CombIdeal.nD) → Buf (Elt Ideal) ((c.tc : Thread Cert.CombIdeal.nD Cert.CombIdeal.τ).loc Cert.CombIdeal.main_v1_0)) (v1 : (c : Dev Cert.CombIdeal.nD) → Buf (Elt Ideal) ((c.tc : Thread Cert.CombIdeal.nD Cert.CombIdeal.τ).loc Cert.CombIdeal.main_v1_1)),
      θ_run (Cert.CombIdeal.defs (F := Ideal)) (onTc (τ := Cert.CombIdeal.τ) (Cert.CombIdeal.main (F := Ideal))) ⟨m, fun _ => 0, g⟩ (fun r => ∀ c : Dev Cert.CombIdeal.nD,
          r.2.mem ((c.tc : Thread Cert.CombIdeal.nD Cert.CombIdeal.τ).loc Cert.CombIdeal.main_v1_0) = v0 c
          ∧ r.2.mem ((c.tc : Thread Cert.CombIdeal.nD Cert.CombIdeal.τ).loc Cert.CombIdeal.main_v1_1) = v1 c
          ∧ r.2.mem ((c.tc : Thread Cert.CombIdeal.nD Cert.CombIdeal.τ).loc Cert.CombIdeal.main_arg0) = m ((c.tc : Thread Cert.CombIdeal.nD Cert.CombIdeal.τ).loc Cert.CombIdeal.main_arg0)
          ∧ r.2.mem ((c.tc : Thread Cert.CombIdeal.nD Cert.CombIdeal.τ).loc Cert.CombIdeal.main_arg1) = m ((c.tc : Thread Cert.CombIdeal.nD Cert.CombIdeal.τ).loc Cert.CombIdeal.main_arg1)
          ∧ r.2.mem ((c.tc : Thread Cert.CombIdeal.nD Cert.CombIdeal.τ).loc Cert.CombIdeal.main_arg2) = m ((c.tc : Thread Cert.CombIdeal.nD Cert.CombIdeal.τ).loc Cert.CombIdeal.main_arg2)
          ∧ r.2.mem ((c.tc : Thread Cert.CombIdeal.nD Cert.CombIdeal.τ).loc Cert.CombIdeal.main_arg3) = m ((c.tc : Thread Cert.CombIdeal.nD Cert.CombIdeal.τ).loc Cert.CombIdeal.main_arg3)
          ∧ r.2.mem ((c.tc : Thread Cert.CombIdeal.nD Cert.CombIdeal.τ).loc Cert.CombIdeal.main_arg4) = m ((c.tc : Thread Cert.CombIdeal.nD Cert.CombIdeal.τ).loc Cert.CombIdeal.main_arg4)
          ∧ r.2.mem ((c.tc : Thread Cert.CombIdeal.nD Cert.CombIdeal.τ).loc Cert.CombIdeal.main_arg5) = m ((c.tc : Thread Cert.CombIdeal.nD Cert.CombIdeal.τ).loc Cert.CombIdeal.main_arg5)
          ∧ r.2.mem ((c.tc : Thread Cert.CombIdeal.nD Cert.CombIdeal.τ).loc Cert.CombIdeal.main_arg6) = m ((c.tc : Thread Cert.CombIdeal.nD Cert.CombIdeal.τ).loc Cert.CombIdeal.main_arg6))
      ∧ θ_run (Cert.CombRefIdeal.defs (F := Ideal)) (onTc (τ := Cert.CombRefIdeal.τ) (Cert.CombRefIdeal.main (F := Ideal))) ⟨m', fun _ => 0, g'⟩ (fun r => ∀ c : Dev Cert.CombRefIdeal.nD,
          r.2.mem ((c.tc : Thread Cert.CombRefIdeal.nD Cert.CombRefIdeal.τ).loc Cert.CombRefIdeal.main_v40) = v0 c
          ∧ r.2.mem ((c.tc : Thread Cert.CombRefIdeal.nD Cert.CombRefIdeal.τ).loc Cert.CombRefIdeal.main_v41) = v1 c
          ∧ r.2.mem ((c.tc : Thread Cert.CombRefIdeal.nD Cert.CombRefIdeal.τ).loc Cert.CombRefIdeal.main_arg0) = m' ((c.tc : Thread Cert.CombRefIdeal.nD Cert.CombRefIdeal.τ).loc Cert.CombRefIdeal.main_arg0)
          ∧ r.2.mem ((c.tc : Thread Cert.CombRefIdeal.nD Cert.CombRefIdeal.τ).loc Cert.CombRefIdeal.main_arg1) = m' ((c.tc : Thread Cert.CombRefIdeal.nD Cert.CombRefIdeal.τ).loc Cert.CombRefIdeal.main_arg1)
          ∧ r.2.mem ((c.tc : Thread Cert.CombRefIdeal.nD Cert.CombRefIdeal.τ).loc Cert.CombRefIdeal.main_arg2) = m' ((c.tc : Thread Cert.CombRefIdeal.nD Cert.CombRefIdeal.τ).loc Cert.CombRefIdeal.main_arg2)
          ∧ r.2.mem ((c.tc : Thread Cert.CombRefIdeal.nD Cert.CombRefIdeal.τ).loc Cert.CombRefIdeal.main_arg3) = m' ((c.tc : Thread Cert.CombRefIdeal.nD Cert.CombRefIdeal.τ).loc Cert.CombRefIdeal.main_arg3)
          ∧ r.2.mem ((c.tc : Thread Cert.CombRefIdeal.nD Cert.CombRefIdeal.τ).loc Cert.CombRefIdeal.main_arg4) = m' ((c.tc : Thread Cert.CombRefIdeal.nD Cert.CombRefIdeal.τ).loc Cert.CombRefIdeal.main_arg4)
          ∧ r.2.mem ((c.tc : Thread Cert.CombRefIdeal.nD Cert.CombRefIdeal.τ).loc Cert.CombRefIdeal.main_arg5) = m' ((c.tc : Thread Cert.CombRefIdeal.nD Cert.CombRefIdeal.τ).loc Cert.CombRefIdeal.main_arg5)
          ∧ r.2.mem ((c.tc : Thread Cert.CombRefIdeal.nD Cert.CombRefIdeal.τ).loc Cert.CombRefIdeal.main_arg6) = m' ((c.tc : Thread Cert.CombRefIdeal.nD Cert.CombRefIdeal.τ).loc Cert.CombRefIdeal.main_arg6))

def preserves_Rets_RetsIdeal : Prop :=
  True

def algebraic_RetsIdeal_RetsRefIdeal [hRetsIdeal : Cert.RetsIdeal.Facts] [hRetsRefIdeal : Cert.RetsRefIdeal.Facts] : Prop :=
  ∀ (m : (ℓ : Loc Cert.RetsIdeal.nD Cert.RetsIdeal.τ Cert.RetsIdeal.sig) → Buf (Elt Ideal) ℓ) (g : Dev Cert.RetsIdeal.nD → PrngReg)
    (m' : (ℓ : Loc Cert.RetsRefIdeal.nD Cert.RetsRefIdeal.τ Cert.RetsRefIdeal.sig) → Buf (Elt Ideal) ℓ) (g' : Dev Cert.RetsRefIdeal.nD → PrngReg), Pre_RetsIdeal m →
    (∀ c : Dev Cert.RetsIdeal.nD,
      m' ((c.tc : Thread Cert.RetsRefIdeal.nD Cert.RetsRefIdeal.τ).loc Cert.RetsRefIdeal.main_arg0) = m ((c.tc : Thread Cert.RetsIdeal.nD Cert.RetsIdeal.τ).loc Cert.RetsIdeal.main_arg0)
      ∧ m' ((c.tc : Thread Cert.RetsRefIdeal.nD Cert.RetsRefIdeal.τ).loc Cert.RetsRefIdeal.main_arg1) = m ((c.tc : Thread Cert.RetsIdeal.nD Cert.RetsIdeal.τ).loc Cert.RetsIdeal.main_arg1)
      ∧ m' ((c.tc : Thread Cert.RetsRefIdeal.nD Cert.RetsRefIdeal.τ).loc Cert.RetsRefIdeal.main_arg2) = m ((c.tc : Thread Cert.RetsIdeal.nD Cert.RetsIdeal.τ).loc Cert.RetsIdeal.main_arg2)
      ∧ m' ((c.tc : Thread Cert.RetsRefIdeal.nD Cert.RetsRefIdeal.τ).loc Cert.RetsRefIdeal.main_arg3) = m ((c.tc : Thread Cert.RetsIdeal.nD Cert.RetsIdeal.τ).loc Cert.RetsIdeal.main_arg3)
      ∧ m' ((c.tc : Thread Cert.RetsRefIdeal.nD Cert.RetsRefIdeal.τ).loc Cert.RetsRefIdeal.main_arg4) = m ((c.tc : Thread Cert.RetsIdeal.nD Cert.RetsIdeal.τ).loc Cert.RetsIdeal.main_arg4)
      ∧ m' ((c.tc : Thread Cert.RetsRefIdeal.nD Cert.RetsRefIdeal.τ).loc Cert.RetsRefIdeal.main_arg5) = m ((c.tc : Thread Cert.RetsIdeal.nD Cert.RetsIdeal.τ).loc Cert.RetsIdeal.main_arg5)
      ∧ m' ((c.tc : Thread Cert.RetsRefIdeal.nD Cert.RetsRefIdeal.τ).loc Cert.RetsRefIdeal.main_arg6) = m ((c.tc : Thread Cert.RetsIdeal.nD Cert.RetsIdeal.τ).loc Cert.RetsIdeal.main_arg6)
      ∧ m' ((c.tc : Thread Cert.RetsRefIdeal.nD Cert.RetsRefIdeal.τ).loc Cert.RetsRefIdeal.main_arg7) = m ((c.tc : Thread Cert.RetsIdeal.nD Cert.RetsIdeal.τ).loc Cert.RetsIdeal.main_arg7)
      ∧ m' ((c.tc : Thread Cert.RetsRefIdeal.nD Cert.RetsRefIdeal.τ).loc Cert.RetsRefIdeal.main_arg8) = m ((c.tc : Thread Cert.RetsIdeal.nD Cert.RetsIdeal.τ).loc Cert.RetsIdeal.main_arg8)) →
    ∃ (v0 : (c : Dev Cert.RetsIdeal.nD) → Buf (Elt Ideal) ((c.tc : Thread Cert.RetsIdeal.nD Cert.RetsIdeal.τ).loc Cert.RetsIdeal.main_v7_0)) (v1 : (c : Dev Cert.RetsIdeal.nD) → Buf (Elt Ideal) ((c.tc : Thread Cert.RetsIdeal.nD Cert.RetsIdeal.τ).loc Cert.RetsIdeal.main_v7_1)),
      θ_run (Cert.RetsIdeal.defs (F := Ideal)) (onTc (τ := Cert.RetsIdeal.τ) (Cert.RetsIdeal.main (F := Ideal))) ⟨m, fun _ => 0, g⟩ (fun r => ∀ c : Dev Cert.RetsIdeal.nD,
          r.2.mem ((c.tc : Thread Cert.RetsIdeal.nD Cert.RetsIdeal.τ).loc Cert.RetsIdeal.main_v7_0) = v0 c
          ∧ r.2.mem ((c.tc : Thread Cert.RetsIdeal.nD Cert.RetsIdeal.τ).loc Cert.RetsIdeal.main_v7_1) = v1 c
          ∧ r.2.mem ((c.tc : Thread Cert.RetsIdeal.nD Cert.RetsIdeal.τ).loc Cert.RetsIdeal.main_arg0) = m ((c.tc : Thread Cert.RetsIdeal.nD Cert.RetsIdeal.τ).loc Cert.RetsIdeal.main_arg0)
          ∧ r.2.mem ((c.tc : Thread Cert.RetsIdeal.nD Cert.RetsIdeal.τ).loc Cert.RetsIdeal.main_arg1) = m ((c.tc : Thread Cert.RetsIdeal.nD Cert.RetsIdeal.τ).loc Cert.RetsIdeal.main_arg1)
          ∧ r.2.mem ((c.tc : Thread Cert.RetsIdeal.nD Cert.RetsIdeal.τ).loc Cert.RetsIdeal.main_arg2) = m ((c.tc : Thread Cert.RetsIdeal.nD Cert.RetsIdeal.τ).loc Cert.RetsIdeal.main_arg2)
          ∧ r.2.mem ((c.tc : Thread Cert.RetsIdeal.nD Cert.RetsIdeal.τ).loc Cert.RetsIdeal.main_arg3) = m ((c.tc : Thread Cert.RetsIdeal.nD Cert.RetsIdeal.τ).loc Cert.RetsIdeal.main_arg3)
          ∧ r.2.mem ((c.tc : Thread Cert.RetsIdeal.nD Cert.RetsIdeal.τ).loc Cert.RetsIdeal.main_arg4) = m ((c.tc : Thread Cert.RetsIdeal.nD Cert.RetsIdeal.τ).loc Cert.RetsIdeal.main_arg4)
          ∧ r.2.mem ((c.tc : Thread Cert.RetsIdeal.nD Cert.RetsIdeal.τ).loc Cert.RetsIdeal.main_arg5) = m ((c.tc : Thread Cert.RetsIdeal.nD Cert.RetsIdeal.τ).loc Cert.RetsIdeal.main_arg5)
          ∧ r.2.mem ((c.tc : Thread Cert.RetsIdeal.nD Cert.RetsIdeal.τ).loc Cert.RetsIdeal.main_arg6) = m ((c.tc : Thread Cert.RetsIdeal.nD Cert.RetsIdeal.τ).loc Cert.RetsIdeal.main_arg6)
          ∧ r.2.mem ((c.tc : Thread Cert.RetsIdeal.nD Cert.RetsIdeal.τ).loc Cert.RetsIdeal.main_arg7) = m ((c.tc : Thread Cert.RetsIdeal.nD Cert.RetsIdeal.τ).loc Cert.RetsIdeal.main_arg7)
          ∧ r.2.mem ((c.tc : Thread Cert.RetsIdeal.nD Cert.RetsIdeal.τ).loc Cert.RetsIdeal.main_arg8) = m ((c.tc : Thread Cert.RetsIdeal.nD Cert.RetsIdeal.τ).loc Cert.RetsIdeal.main_arg8))
      ∧ θ_run (Cert.RetsRefIdeal.defs (F := Ideal)) (onTc (τ := Cert.RetsRefIdeal.τ) (Cert.RetsRefIdeal.main (F := Ideal))) ⟨m', fun _ => 0, g'⟩ (fun r => ∀ c : Dev Cert.RetsRefIdeal.nD,
          r.2.mem ((c.tc : Thread Cert.RetsRefIdeal.nD Cert.RetsRefIdeal.τ).loc Cert.RetsRefIdeal.main_v93) = v0 c
          ∧ r.2.mem ((c.tc : Thread Cert.RetsRefIdeal.nD Cert.RetsRefIdeal.τ).loc Cert.RetsRefIdeal.main_v55) = v1 c
          ∧ r.2.mem ((c.tc : Thread Cert.RetsRefIdeal.nD Cert.RetsRefIdeal.τ).loc Cert.RetsRefIdeal.main_arg0) = m' ((c.tc : Thread Cert.RetsRefIdeal.nD Cert.RetsRefIdeal.τ).loc Cert.RetsRefIdeal.main_arg0)
          ∧ r.2.mem ((c.tc : Thread Cert.RetsRefIdeal.nD Cert.RetsRefIdeal.τ).loc Cert.RetsRefIdeal.main_arg1) = m' ((c.tc : Thread Cert.RetsRefIdeal.nD Cert.RetsRefIdeal.τ).loc Cert.RetsRefIdeal.main_arg1)
          ∧ r.2.mem ((c.tc : Thread Cert.RetsRefIdeal.nD Cert.RetsRefIdeal.τ).loc Cert.RetsRefIdeal.main_arg2) = m' ((c.tc : Thread Cert.RetsRefIdeal.nD Cert.RetsRefIdeal.τ).loc Cert.RetsRefIdeal.main_arg2)
          ∧ r.2.mem ((c.tc : Thread Cert.RetsRefIdeal.nD Cert.RetsRefIdeal.τ).loc Cert.RetsRefIdeal.main_arg3) = m' ((c.tc : Thread Cert.RetsRefIdeal.nD Cert.RetsRefIdeal.τ).loc Cert.RetsRefIdeal.main_arg3)
          ∧ r.2.mem ((c.tc : Thread Cert.RetsRefIdeal.nD Cert.RetsRefIdeal.τ).loc Cert.RetsRefIdeal.main_arg4) = m' ((c.tc : Thread Cert.RetsRefIdeal.nD Cert.RetsRefIdeal.τ).loc Cert.RetsRefIdeal.main_arg4)
          ∧ r.2.mem ((c.tc : Thread Cert.RetsRefIdeal.nD Cert.RetsRefIdeal.τ).loc Cert.RetsRefIdeal.main_arg5) = m' ((c.tc : Thread Cert.RetsRefIdeal.nD Cert.RetsRefIdeal.τ).loc Cert.RetsRefIdeal.main_arg5)
          ∧ r.2.mem ((c.tc : Thread Cert.RetsRefIdeal.nD Cert.RetsRefIdeal.τ).loc Cert.RetsRefIdeal.main_arg6) = m' ((c.tc : Thread Cert.RetsRefIdeal.nD Cert.RetsRefIdeal.τ).loc Cert.RetsRefIdeal.main_arg6)
          ∧ r.2.mem ((c.tc : Thread Cert.RetsRefIdeal.nD Cert.RetsRefIdeal.τ).loc Cert.RetsRefIdeal.main_arg7) = m' ((c.tc : Thread Cert.RetsRefIdeal.nD Cert.RetsRefIdeal.τ).loc Cert.RetsRefIdeal.main_arg7)
          ∧ r.2.mem ((c.tc : Thread Cert.RetsRefIdeal.nD Cert.RetsRefIdeal.τ).loc Cert.RetsRefIdeal.main_arg8) = m' ((c.tc : Thread Cert.RetsRefIdeal.nD Cert.RetsRefIdeal.τ).loc Cert.RetsRefIdeal.main_arg8))

def preserves_Atts_AttsIdeal : Prop :=
  True

def algebraic_AttsIdeal_AttsRefIdeal [hAttsIdeal : Cert.AttsIdeal.Facts] [hAttsRefIdeal : Cert.AttsRefIdeal.Facts] : Prop :=
  ∀ (m : (ℓ : Loc Cert.AttsIdeal.nD Cert.AttsIdeal.τ Cert.AttsIdeal.sig) → Buf (Elt Ideal) ℓ) (g : Dev Cert.AttsIdeal.nD → PrngReg)
    (m' : (ℓ : Loc Cert.AttsRefIdeal.nD Cert.AttsRefIdeal.τ Cert.AttsRefIdeal.sig) → Buf (Elt Ideal) ℓ) (g' : Dev Cert.AttsRefIdeal.nD → PrngReg), Pre_AttsIdeal m →
    (∀ c : Dev Cert.AttsIdeal.nD,
      m' ((c.tc : Thread Cert.AttsRefIdeal.nD Cert.AttsRefIdeal.τ).loc Cert.AttsRefIdeal.main_arg0) = m ((c.tc : Thread Cert.AttsIdeal.nD Cert.AttsIdeal.τ).loc Cert.AttsIdeal.main_arg0)
      ∧ m' ((c.tc : Thread Cert.AttsRefIdeal.nD Cert.AttsRefIdeal.τ).loc Cert.AttsRefIdeal.main_arg1) = m ((c.tc : Thread Cert.AttsIdeal.nD Cert.AttsIdeal.τ).loc Cert.AttsIdeal.main_arg1)
      ∧ m' ((c.tc : Thread Cert.AttsRefIdeal.nD Cert.AttsRefIdeal.τ).loc Cert.AttsRefIdeal.main_arg2) = m ((c.tc : Thread Cert.AttsIdeal.nD Cert.AttsIdeal.τ).loc Cert.AttsIdeal.main_arg2)
      ∧ m' ((c.tc : Thread Cert.AttsRefIdeal.nD Cert.AttsRefIdeal.τ).loc Cert.AttsRefIdeal.main_arg3) = m ((c.tc : Thread Cert.AttsIdeal.nD Cert.AttsIdeal.τ).loc Cert.AttsIdeal.main_arg3)) →
    ∃ (v0 : (c : Dev Cert.AttsIdeal.nD) → Buf (Elt Ideal) ((c.tc : Thread Cert.AttsIdeal.nD Cert.AttsIdeal.τ).loc Cert.AttsIdeal.main_v0)),
      θ_run (Cert.AttsIdeal.defs (F := Ideal)) (onTc (τ := Cert.AttsIdeal.τ) (Cert.AttsIdeal.main (F := Ideal))) ⟨m, fun _ => 0, g⟩ (fun r => ∀ c : Dev Cert.AttsIdeal.nD,
          r.2.mem ((c.tc : Thread Cert.AttsIdeal.nD Cert.AttsIdeal.τ).loc Cert.AttsIdeal.main_v0) = v0 c
          ∧ r.2.mem ((c.tc : Thread Cert.AttsIdeal.nD Cert.AttsIdeal.τ).loc Cert.AttsIdeal.main_arg0) = m ((c.tc : Thread Cert.AttsIdeal.nD Cert.AttsIdeal.τ).loc Cert.AttsIdeal.main_arg0)
          ∧ r.2.mem ((c.tc : Thread Cert.AttsIdeal.nD Cert.AttsIdeal.τ).loc Cert.AttsIdeal.main_arg1) = m ((c.tc : Thread Cert.AttsIdeal.nD Cert.AttsIdeal.τ).loc Cert.AttsIdeal.main_arg1)
          ∧ r.2.mem ((c.tc : Thread Cert.AttsIdeal.nD Cert.AttsIdeal.τ).loc Cert.AttsIdeal.main_arg2) = m ((c.tc : Thread Cert.AttsIdeal.nD Cert.AttsIdeal.τ).loc Cert.AttsIdeal.main_arg2)
          ∧ r.2.mem ((c.tc : Thread Cert.AttsIdeal.nD Cert.AttsIdeal.τ).loc Cert.AttsIdeal.main_arg3) = m ((c.tc : Thread Cert.AttsIdeal.nD Cert.AttsIdeal.τ).loc Cert.AttsIdeal.main_arg3))
      ∧ θ_run (Cert.AttsRefIdeal.defs (F := Ideal)) (onTc (τ := Cert.AttsRefIdeal.τ) (Cert.AttsRefIdeal.main (F := Ideal))) ⟨m', fun _ => 0, g'⟩ (fun r => ∀ c : Dev Cert.AttsRefIdeal.nD,
          r.2.mem ((c.tc : Thread Cert.AttsRefIdeal.nD Cert.AttsRefIdeal.τ).loc Cert.AttsRefIdeal.main_v24) = v0 c
          ∧ r.2.mem ((c.tc : Thread Cert.AttsRefIdeal.nD Cert.AttsRefIdeal.τ).loc Cert.AttsRefIdeal.main_arg0) = m' ((c.tc : Thread Cert.AttsRefIdeal.nD Cert.AttsRefIdeal.τ).loc Cert.AttsRefIdeal.main_arg0)
          ∧ r.2.mem ((c.tc : Thread Cert.AttsRefIdeal.nD Cert.AttsRefIdeal.τ).loc Cert.AttsRefIdeal.main_arg1) = m' ((c.tc : Thread Cert.AttsRefIdeal.nD Cert.AttsRefIdeal.τ).loc Cert.AttsRefIdeal.main_arg1)
          ∧ r.2.mem ((c.tc : Thread Cert.AttsRefIdeal.nD Cert.AttsRefIdeal.τ).loc Cert.AttsRefIdeal.main_arg2) = m' ((c.tc : Thread Cert.AttsRefIdeal.nD Cert.AttsRefIdeal.τ).loc Cert.AttsRefIdeal.main_arg2)
          ∧ r.2.mem ((c.tc : Thread Cert.AttsRefIdeal.nD Cert.AttsRefIdeal.τ).loc Cert.AttsRefIdeal.main_arg3) = m' ((c.tc : Thread Cert.AttsRefIdeal.nD Cert.AttsRefIdeal.τ).loc Cert.AttsRefIdeal.main_arg3))

def Claim : Prop :=
  ∃ (hExperts : Cert.Experts.Facts) (hExpertsIdeal : Cert.ExpertsIdeal.Facts) (hExpertsRefIdeal : Cert.ExpertsRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hOut : Cert.Out.Facts) (hOutIdeal : Cert.OutIdeal.Facts) (hOutRefIdeal : Cert.OutRefIdeal.Facts) (hComb : Cert.Comb.Facts) (hCombIdeal : Cert.CombIdeal.Facts) (hCombRefIdeal : Cert.CombRefIdeal.Facts) (hRets : Cert.Rets.Facts) (hRetsIdeal : Cert.RetsIdeal.Facts) (hRetsRefIdeal : Cert.RetsRefIdeal.Facts) (hAtts : Cert.Atts.Facts) (hAttsIdeal : Cert.AttsIdeal.Facts) (hAttsRefIdeal : Cert.AttsRefIdeal.Facts) (hPre_experts_range : Cert.Pre_experts_range.Facts),
    quiescent_Experts (hExperts := hExperts) (hPre_experts_range := hPre_experts_range)
    ∧ quiescent_ExpertsIdeal (hExpertsIdeal := hExpertsIdeal) (hPre_experts_range := hPre_experts_range)
    ∧ quiescent_ExpertsRefIdeal (hExpertsRefIdeal := hExpertsRefIdeal) (hPre_experts_range := hPre_experts_range)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Out (hOut := hOut)
    ∧ quiescent_OutIdeal (hOutIdeal := hOutIdeal)
    ∧ quiescent_OutRefIdeal (hOutRefIdeal := hOutRefIdeal)
    ∧ quiescent_Comb (hComb := hComb)
    ∧ quiescent_CombIdeal (hCombIdeal := hCombIdeal)
    ∧ quiescent_CombRefIdeal (hCombRefIdeal := hCombRefIdeal)
    ∧ quiescent_Rets (hRets := hRets)
    ∧ quiescent_RetsIdeal (hRetsIdeal := hRetsIdeal)
    ∧ quiescent_RetsRefIdeal (hRetsRefIdeal := hRetsRefIdeal)
    ∧ quiescent_Atts (hAtts := hAtts)
    ∧ quiescent_AttsIdeal (hAttsIdeal := hAttsIdeal)
    ∧ quiescent_AttsRefIdeal (hAttsRefIdeal := hAttsRefIdeal)
    ∧ preserves_Experts_ExpertsIdeal
    ∧ algebraic_ExpertsIdeal_ExpertsRefIdeal (hExpertsIdeal := hExpertsIdeal) (hExpertsRefIdeal := hExpertsRefIdeal) (hPre_experts_range := hPre_experts_range)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Out_OutIdeal
    ∧ algebraic_OutIdeal_OutRefIdeal (hOutIdeal := hOutIdeal) (hOutRefIdeal := hOutRefIdeal)
    ∧ preserves_Comb_CombIdeal
    ∧ algebraic_CombIdeal_CombRefIdeal (hCombIdeal := hCombIdeal) (hCombRefIdeal := hCombRefIdeal)
    ∧ preserves_Rets_RetsIdeal
    ∧ algebraic_RetsIdeal_RetsRefIdeal (hRetsIdeal := hRetsIdeal) (hRetsRefIdeal := hRetsRefIdeal)
    ∧ preserves_Atts_AttsIdeal
    ∧ algebraic_AttsIdeal_AttsRefIdeal (hAttsIdeal := hAttsIdeal) (hAttsRefIdeal := hAttsRefIdeal)
-- ==== Pre_experts_range.lean ====
abbrev S584 : Shape := ⟨1, ![584]⟩
abbrev S1 : Shape := ⟨1, ![1]⟩
abbrev S299008x2048 : Shape := ⟨2, ![299008, 2048]⟩
abbrev S2x64x2048x1024 : Shape := ⟨4, ![2, 64, 2048, 1024]⟩
abbrev S2x64x512x2048 : Shape := ⟨4, ![2, 64, 512, 2048]⟩
abbrev S_ : Shape := ⟨0, ![]⟩

class Facts : Prop where
  bcast_S_S584 : S_.BroadcastsInDim S584 (![] : Fin 0 → Fin S584.rank)

variable [Facts]

def fn {F : FTy → Type} [FloatOps F] (main_arg0 : IVec S584 32) (main_arg1 : IVec S1 32) (main_arg2 : FVec F S299008x2048 .bf16) (main_arg3 : FVec F S2x64x2048x1024 .f32) (main_arg4 : FVec F S2x64x512x2048 .f32) : IVec S584 1 :=
  let main_c : IVec S_ 32 := constantI S_ 32 0#32
  let main_v0 : IVec S584 32 := broadcastInDim S584 ![] bcast_S_S584 main_c
  let main_v1 : IVec S584 1 := cmpi .sge main_arg0 main_v0
  let main_c_0 : IVec S_ 32 := constantI S_ 32 64#32
  let main_v2 : IVec S584 32 := broadcastInDim S584 ![] bcast_S_S584 main_c_0
  let main_v3 : IVec S584 1 := cmpi .slt main_arg0 main_v2
  let main_v4 : IVec S584 1 := andi main_v1 main_v3
  main_v4
-- ==== Experts.lean ====
abbrev S584 : Shape := ⟨1, ![584]⟩
abbrev S1 : Shape := ⟨1, ![1]⟩
abbrev S299008x2048 : Shape := ⟨2, ![299008, 2048]⟩
abbrev S2x64x2048x1024 : Shape := ⟨4, ![2, 64, 2048, 1024]⟩
abbrev S2x64x512x2048 : Shape := ⟨4, ![2, 64, 512, 2048]⟩
abbrev S512x2048 : Shape := ⟨2, ![512, 2048]⟩
abbrev S1x1x2048x1024 : Shape := ⟨4, ![1, 1, 2048, 1024]⟩
abbrev S1x1x512x2048 : Shape := ⟨4, ![1, 1, 512, 2048]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 4
  | .vmem => 10
  | .smem => 2
  | _ => 0

abbrev bufTy : (tb : Table) → Fin (tcTables nBuf tb) → BufTy
  | .hbm, ⟨0, _⟩ => ⟨S299008x2048, .bf16⟩
  | .hbm, ⟨1, _⟩ => ⟨S2x64x2048x1024, .f32⟩
  | .hbm, ⟨2, _⟩ => ⟨S2x64x512x2048, .f32⟩
  | .hbm, ⟨3, _⟩ => ⟨S299008x2048, .bf16⟩
  | .local _ .vmem, ⟨0, _⟩ => ⟨S512x2048, .bf16⟩
  | .local _ .vmem, ⟨1, _⟩ => ⟨S512x2048, .bf16⟩
  | .local _ .vmem, ⟨2, _⟩ => ⟨S1x1x2048x1024, .f32⟩
  | .local _ .vmem, ⟨3, _⟩ => ⟨S1x1x2048x1024, .f32⟩
  | .local _ .vmem, ⟨4, _⟩ => ⟨S1x1x512x2048, .f32⟩
  | .local _ .vmem, ⟨5, _⟩ => ⟨S1x1x512x2048, .f32⟩
  | .local _ .vmem, ⟨6, _⟩ => ⟨S512x2048, .bf16⟩
  | .local _ .vmem, ⟨7, _⟩ => ⟨S512x2048, .bf16⟩
  | .local _ .vmem, ⟨8, _⟩ => ⟨S2048x1024, .bf16⟩
  | .local _ .vmem, ⟨9, _⟩ => ⟨S512x2048, .bf16⟩
  | .local _ .smem, ⟨0, _⟩ => ⟨S584, .i32⟩
  | .local _ .smem, ⟨1, _⟩ => ⟨S1, .i32⟩
  | _, _ => ⟨S299008x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![584], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S584.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S584) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S584.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S584) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ExpertsRefIdeal.lean ====
abbrev S584 : Shape := ⟨1, ![584]⟩
abbrev S1 : Shape := ⟨1, ![1]⟩
abbrev S299008x2048 : Shape := ⟨2, ![299008, 2048]⟩
abbrev S2x64x2048x1024 : Shape := ⟨4, ![2, 64, 2048, 1024]⟩
abbrev S2x64x512x2048 : Shape := ⟨4, ![2, 64, 512, 2048]⟩
abbrev S584x512x2048 : Shape := ⟨3, ![584, 512, 2048]⟩
abbrev S1x64x2048x1024 : Shape := ⟨4, ![1, 64, 2048, 1024]⟩
abbrev S64x2048x1024 : Shape := ⟨3, ![64, 2048, 1024]⟩
abbrev S_ : Shape := ⟨0, ![]⟩
abbrev S584x1 : Shape := ⟨2, ![584, 1]⟩
abbrev S584x2048x1024 : Shape := ⟨3, ![584, 2048, 1024]⟩
abbrev S584x512x1024 : Shape := ⟨3, ![584, 512, 1024]⟩
abbrev S584x512x512 : Shape := ⟨3, ![584, 512, 512]⟩
abbrev S1x64x512x2048 : Shape := ⟨4, ![1, 64, 512, 2048]⟩
abbrev S64x512x2048 : Shape := ⟨3, ![64, 512, 2048]⟩
abbrev S584x1x1 : Shape := ⟨3, ![584, 1, 1]⟩

abbrev nBuf : Space → Nat
  | .hbm => 55
  | .vmem => 0
  | .smem => 0
  | _ => 0

abbrev bufTy : (tb : Table) → Fin (tcTables nBuf tb) → BufTy
  | .hbm, ⟨0, _⟩ => ⟨S584, .i32⟩
  | .hbm, ⟨1, _⟩ => ⟨S1, .i32⟩
  | .hbm, ⟨2, _⟩ => ⟨S299008x2048, .bf16⟩
  | .hbm, ⟨3, _⟩ => ⟨S2x64x2048x1024, .f32⟩
  | .hbm, ⟨4, _⟩ => ⟨S2x64x512x2048, .f32⟩
  | .hbm, ⟨5, _⟩ => ⟨S299008x2048, .f32⟩
  | .hbm, ⟨6, _⟩ => ⟨S584x512x2048, .f32⟩
  | .hbm, ⟨7, _⟩ => ⟨S1x64x2048x1024, .f32⟩
  | .hbm, ⟨8, _⟩ => ⟨S64x2048x1024, .f32⟩
  | .hbm, ⟨9, _⟩ => ⟨S_, .i32⟩
  | .hbm, ⟨10, _⟩ => ⟨S584, .i32⟩
  | .hbm, ⟨11, _⟩ => ⟨S584, .i1⟩
  | .hbm, ⟨12, _⟩ => ⟨S_, .i32⟩
  | .hbm, ⟨13, _⟩ => ⟨S584, .i32⟩
  | .hbm, ⟨14, _⟩ => ⟨S584, .i32⟩
  | .hbm, ⟨15, _⟩ => ⟨S584, .i32⟩
  | .hbm, ⟨16, _⟩ => ⟨S584x1, .i32⟩
  | .hbm, ⟨17, _⟩ => ⟨S584x2048x1024, .f32⟩
  | .hbm, ⟨18, _⟩ => ⟨S584x512x1024, .f32⟩
  | .hbm, ⟨19, _⟩ => ⟨S584x512x512, .f32⟩
  | .hbm, ⟨20, _⟩ => ⟨S584x512x512, .f32⟩
  | .hbm, ⟨21, _⟩ => ⟨S584x512x512, .f32⟩
  | .hbm, ⟨22, _⟩ => ⟨S584x512x512, .f32⟩
  | .hbm, ⟨23, _⟩ => ⟨S_, .f32⟩
  | .hbm, ⟨24, _⟩ => ⟨S584x512x512, .f32⟩
  | .hbm, ⟨25, _⟩ => ⟨S584x512x512, .f32⟩
  | .hbm, ⟨26, _⟩ => ⟨S_, .f32⟩
  | .hbm, ⟨27, _⟩ => ⟨S584x512x512, .f32⟩
  | .hbm, ⟨28, _⟩ => ⟨S584x512x512, .f32⟩
  | .hbm, ⟨29, _⟩ => ⟨S584x512x512, .f32⟩
  | .hbm, ⟨30, _⟩ => ⟨S584x512x512, .f32⟩
  | .hbm, ⟨31, _⟩ => ⟨S1x64x512x2048, .f32⟩
  | .hbm, ⟨32, _⟩ => ⟨S64x512x2048, .f32⟩
  | .hbm, ⟨33, _⟩ => ⟨S_, .i32⟩
  | .hbm, ⟨34, _⟩ => ⟨S584, .i32⟩
  | .hbm, ⟨35, _⟩ => ⟨S584, .i1⟩
  | .hbm, ⟨36, _⟩ => ⟨S_, .i32⟩
  | .hbm, ⟨37, _⟩ => ⟨S584, .i32⟩
  | .hbm, ⟨38, _⟩ => ⟨S584, .i32⟩
  | .hbm, ⟨39, _⟩ => ⟨S584, .i32⟩
  | .hbm, ⟨40, _⟩ => ⟨S584x1, .i32⟩
  | .hbm, ⟨41, _⟩ => ⟨S584x512x2048, .f32⟩
  | .hbm, ⟨42, _⟩ => ⟨S584x512x2048, .f32⟩
  | .hbm, ⟨43, _⟩ => ⟨S584, .i32⟩
  | .hbm, ⟨44, _⟩ => ⟨S_, .i32⟩
  | .hbm, ⟨45, _⟩ => ⟨S584, .i32⟩
  | .hbm, ⟨46, _⟩ => ⟨S584, .i1⟩
  | .hbm, ⟨47, _⟩ => ⟨S584x1x1, .i1⟩
  | .hbm, ⟨48, _⟩ => ⟨S_, .f32⟩
  | .hbm, ⟨49, _⟩ => ⟨S_, .f32⟩
  | .hbm, ⟨50, _⟩ => ⟨S584x512x2048, .i1⟩
  | .hbm, ⟨51, _⟩ => ⟨S584x512x2048, .f32⟩
  | .hbm, ⟨52, _⟩ => ⟨S584x512x2048, .f32⟩
  | .hbm, ⟨53, _⟩ => ⟨S299008x2048, .f32⟩
  | .hbm, ⟨54, _⟩ => ⟨S299008x2048, .bf16⟩
  | _, _ => ⟨S584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proj.lean ====
abbrev S33280x2048 : Shape := ⟨2, ![33280, 2048]⟩
abbrev S2048x16896 : Shape := ⟨2, ![2048, 16896]⟩
abbrev S33280x16896 : Shape := ⟨2, ![33280, 16896]⟩
abbrev S1280x2048 : Shape := ⟨2, ![1280, 2048]⟩
abbrev S2048x768 : Shape := ⟨2, ![2048, 768]⟩
abbrev S1280x768 : Shape := ⟨2, ![1280, 768]⟩
abbrev S512x16896 : Shape := ⟨2, ![512, 16896]⟩
abbrev S512x1024 : Shape := ⟨2, ![512, 1024]⟩
abbrev S8x64x1024 : Shape := ⟨3, ![8, 64, 1024]⟩
abbrev S512x2048 : Shape := ⟨2, ![512, 2048]⟩
abbrev S1x512x2048 : Shape := ⟨3, ![1, 512, 2048]⟩
abbrev S4x512x2048 : Shape := ⟨3, ![4, 512, 2048]⟩
abbrev S4x512x1024 : Shape := ⟨3, ![4, 512, 1024]⟩
abbrev S4x512x16x64 : Shape := ⟨4, ![4, 512, 16, 64]⟩
abbrev S8x64x16x64 : Shape := ⟨4, ![8, 64, 16, 64]⟩

abbrev nBuf : Space → Nat
  | .hbm => 23
  | .vmem => 6
  | .smem => 0
  | _ => 0

abbrev bufTy : (tb : Table) → Fin (tcTables nBuf tb) → BufTy
  | .hbm, ⟨0, _⟩ => ⟨S33280x2048, .bf16⟩
  | .hbm, ⟨1, _⟩ => ⟨S2048x16896, .bf16⟩
  | .hbm, ⟨2, _⟩ => ⟨S33280x16896, .f32⟩
  | .hbm, ⟨3, _⟩ => ⟨S512x16896, .f32⟩
  | .hbm, ⟨4, _⟩ => ⟨S512x1024, .f32⟩
  | .hbm, ⟨5, _⟩ => ⟨S8x64x1024, .f32⟩
  | .hbm, ⟨6, _⟩ => ⟨S512x1024, .f32⟩
  | .hbm, ⟨7, _⟩ => ⟨S8x64x1024, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S1x512x2048, .f32⟩
  | .hbm, ⟨16, _⟩ => ⟨S4x512x2048, .f32⟩
  | .hbm, ⟨17, _⟩ => ⟨S4x512x1024, .f32⟩
  | .hbm, ⟨18, _⟩ => ⟨S4x512x1024, .f32⟩
  | .hbm, ⟨19, _⟩ => ⟨S4x512x16x64, .f32⟩
  | .hbm, ⟨20, _⟩ => ⟨S4x512x16x64, .f32⟩
  | .hbm, ⟨21, _⟩ => ⟨S8x64x16x64, .f32⟩
  | .hbm, ⟨22, _⟩ => ⟨S8x64x16x64, .f32⟩
  | .local _ .vmem, ⟨0, _⟩ => ⟨S1280x2048, .bf16⟩
  | .local _ .vmem, ⟨1, _⟩ => ⟨S1280x2048, .bf16⟩
  | .local _ .vmem, ⟨2, _⟩ => ⟨S2048x768, .bf16⟩
  | .local _ .vmem, ⟨3, _⟩ => ⟨S2048x768, .bf16⟩
  | .local _ .vmem, ⟨4, _⟩ => ⟨S1280x768, .f32⟩
  | .local _ .vmem, ⟨5, _⟩ => ⟨S1280x768, .f32⟩
  | _, _ => ⟨S33280x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![26, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1280x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S33280x2048 : Shape := ⟨2, ![33280, 2048]⟩
abbrev S2048x16896 : Shape := ⟨2, ![2048, 16896]⟩
abbrev S33280x16896 : Shape := ⟨2, ![33280, 16896]⟩
abbrev S32768x16896 : Shape := ⟨2, ![32768, 16896]⟩
abbrev S32768x3072 : Shape := ⟨2, ![32768, 3072]⟩
abbrev S4x8192x3072 : Shape := ⟨3, ![4, 8192, 3072]⟩
abbrev S4x8192x1024 : Shape := ⟨3, ![4, 8192, 1024]⟩
abbrev S4x8192x16x64 : Shape := ⟨4, ![4, 8192, 16, 64]⟩
abbrev S512x16896 : Shape := ⟨2, ![512, 16896]⟩
abbrev S512x3072 : Shape := ⟨2, ![512, 3072]⟩
abbrev S8x64x3072 : Shape := ⟨3, ![8, 64, 3072]⟩
abbrev S8x64x1024 : Shape := ⟨3, ![8, 64, 1024]⟩
abbrev S8x64x16x64 : Shape := ⟨4, ![8, 64, 16, 64]⟩
abbrev S4x512x16x64 : Shape := ⟨4, ![4, 512, 16, 64]⟩

abbrev nBuf : Space → Nat
  | .hbm => 25
  | .vmem => 0
  | .smem => 0
  | _ => 0

abbrev bufTy : (tb : Table) → Fin (tcTables nBuf tb) → BufTy
  | .hbm, ⟨0, _⟩ => ⟨S33280x2048, .bf16⟩
  | .hbm, ⟨1, _⟩ => ⟨S2048x16896, .bf16⟩
  | .hbm, ⟨2, _⟩ => ⟨S33280x2048, .f32⟩
  | .hbm, ⟨3, _⟩ => ⟨S2048x16896, .f32⟩
  | .hbm, ⟨4, _⟩ => ⟨S33280x16896, .f32⟩
  | .hbm, ⟨5, _⟩ => ⟨S32768x16896, .f32⟩
  | .hbm, ⟨6, _⟩ => ⟨S32768x3072, .f32⟩
  | .hbm, ⟨7, _⟩ => ⟨S4x8192x3072, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x16x64, .f32⟩
  | .hbm, ⟨12, _⟩ => ⟨S4x8192x16x64, .f32⟩
  | .hbm, ⟨13, _⟩ => ⟨S4x8192x16x64, .f32⟩
  | .hbm, ⟨14, _⟩ => ⟨S512x16896, .f32⟩
  | .hbm, ⟨15, _⟩ => ⟨S512x3072, .f32⟩
  | .hbm, ⟨16, _⟩ => ⟨S8x64x3072, .f32⟩
  | .hbm, ⟨17, _⟩ => ⟨S8x64x1024, .f32⟩
  | .hbm, ⟨18, _⟩ => ⟨S8x64x1024, .f32⟩
  | .hbm, ⟨19, _⟩ => ⟨S8x64x1024, .f32⟩
  | .hbm, ⟨20, _⟩ => ⟨S8x64x16x64, .f32⟩
  | .hbm, ⟨21, _⟩ => ⟨S8x64x16x64, .f32⟩
  | .hbm, ⟨22, _⟩ => ⟨S8x64x16x64, .f32⟩
  | .hbm, ⟨23, _⟩ => ⟨S4x512x16x64, .f32⟩
  | .hbm, ⟨24, _⟩ => ⟨S4x512x16x64, .f32⟩
  | _, _ => ⟨S33280x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩

abbrev nD : Nat := 1
abbrev τ : Topo := Topo.v7x

variable {F : FTy → Type} [FloatOps F]
-- ==== Merge.lean ====
abbrev S33280x1024 : Shape := ⟨2, ![33280, 1024]⟩
abbrev S33280x16896 : Shape := ⟨2, ![33280, 16896]⟩
abbrev S1024x2048 : Shape := ⟨2, ![1024, 2048]⟩
abbrev S33280x2048 : Shape := ⟨2, ![33280, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x1024, .bf16⟩
  | .hbm, ⟨3, _⟩ => ⟨S33280x16896, .f32⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S33280x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S512x512, .bf16⟩
  | .local _ .vmem, ⟨19, _⟩ => ⟨S512x512, .bf16⟩
  | _, _ => ⟨S33280x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![65, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c29_i32 : BitVec 32 := 29#32
  let v0 : BitVec 32 := Scalar.addi c29_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S33280x1024 : Shape := ⟨2, ![33280, 1024]⟩
abbrev S33280x16896 : Shape := ⟨2, ![33280, 16896]⟩
abbrev S1024x2048 : Shape := ⟨2, ![1024, 2048]⟩
abbrev S33280x6144 : Shape := ⟨2, ![33280, 6144]⟩
abbrev S_ : Shape := ⟨0, ![]⟩
abbrev S33280x2048 : Shape := ⟨2, ![33280, 2048]⟩

abbrev nBuf : Space → Nat
  | .hbm => 34
  | .vmem => 0
  | .smem => 0
  | _ => 0

abbrev bufTy : (tb : Table) → Fin (tcTables nBuf tb) → BufTy
  | .hbm, ⟨0, _⟩ => ⟨S33280x1024, .bf16⟩
  | .hbm, ⟨1, _⟩ => ⟨S33280x1024, .bf16⟩
  | .hbm, ⟨2, _⟩ => ⟨S33280x1024, .bf16⟩
  | .hbm, ⟨3, _⟩ => ⟨S33280x16896, .f32⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S33280x6144, .f32⟩
  | .hbm, ⟨8, _⟩ => ⟨S33280x6144, .f32⟩
  | .hbm, ⟨9, _⟩ => ⟨S33280x6144, .f32⟩
  | .hbm, ⟨10, _⟩ => ⟨S_, .f32⟩
  | .hbm, ⟨11, _⟩ => ⟨S33280x6144, .f32⟩
  | .hbm, ⟨12, _⟩ => ⟨S33280x6144, .f32⟩
  | .hbm, ⟨13, _⟩ => ⟨S_, .f32⟩
  | .hbm, ⟨14, _⟩ => ⟨S33280x6144, .f32⟩
  | .hbm, ⟨15, _⟩ => ⟨S33280x6144, .f32⟩
  | .hbm, ⟨16, _⟩ => ⟨S33280x2048, .f32⟩
  | .hbm, ⟨17, _⟩ => ⟨S33280x2048, .f32⟩
  | .hbm, ⟨18, _⟩ => ⟨S33280x2048, .f32⟩
  | .hbm, ⟨19, _⟩ => ⟨S33280x1024, .f32⟩
  | .hbm, ⟨20, _⟩ => ⟨S1024x2048, .f32⟩
  | .hbm, ⟨21, _⟩ => ⟨S33280x2048, .f32⟩
  | .hbm, ⟨22, _⟩ => ⟨S33280x2048, .f32⟩
  | .hbm, ⟨23, _⟩ => ⟨S33280x1024, .f32⟩
  | .hbm, ⟨24, _⟩ => ⟨S1024x2048, .f32⟩
  | .hbm, ⟨25, _⟩ => ⟨S33280x2048, .f32⟩
  | .hbm, ⟨26, _⟩ => ⟨S33280x2048, .f32⟩
  | .hbm, ⟨27, _⟩ => ⟨S33280x2048, .f32⟩
  | .hbm, ⟨28, _⟩ => ⟨S33280x1024, .f32⟩
  | .hbm, ⟨29, _⟩ => ⟨S1024x2048, .f32⟩
  | .hbm, ⟨30, _⟩ => ⟨S33280x2048, .f32⟩
  | .hbm, ⟨31, _⟩ => ⟨S33280x2048, .f32⟩
  | .hbm, ⟨32, _⟩ => ⟨S33280x2048, .f32⟩
  | .hbm, ⟨33, _⟩ => ⟨S33280x2048, .bf16⟩
  | _, _ => ⟨S33280x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Out.lean ====
abbrev S33280x2048 : Shape := ⟨2, ![33280, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 11
  | .smem => 0
  | _ => 0

abbrev bufTy : (tb : Table) → Fin (tcTables nBuf tb) → BufTy
  | .hbm, ⟨0, _⟩ => ⟨S33280x2048, .f32⟩
  | .hbm, ⟨1, _⟩ => ⟨S33280x2048, .bf16⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S33280x2048, .f32⟩
  | .hbm, ⟨6, _⟩ => ⟨S33280x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![130], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S33280x2048 : Shape := ⟨2, ![33280, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S33280 : Shape := ⟨1, ![33280]⟩
abbrev S33280x1 : Shape := ⟨2, ![33280, 1]⟩

abbrev nBuf : Space → Nat
  | .hbm => 44
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S33280x2048, .bf16⟩
  | .hbm, ⟨2, _⟩ => ⟨S2048x2048, .bf16⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S33280x2048, .f32⟩
  | .hbm, ⟨7, _⟩ => ⟨S33280x2048, .f32⟩
  | .hbm, ⟨8, _⟩ => ⟨S33280x2048, .f32⟩
  | .hbm, ⟨9, _⟩ => ⟨S2048x2048, .f32⟩
  | .hbm, ⟨10, _⟩ => ⟨S33280x2048, .f32⟩
  | .hbm, ⟨11, _⟩ => ⟨S33280x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S33280, .f32⟩
  | .hbm, ⟨16, _⟩ => ⟨S33280x1, .f32⟩
  | .hbm, ⟨17, _⟩ => ⟨S_, .f32⟩
  | .hbm, ⟨18, _⟩ => ⟨S33280x1, .f32⟩
  | .hbm, ⟨19, _⟩ => ⟨S33280x1, .f32⟩
  | .hbm, ⟨20, _⟩ => ⟨S33280x2048, .f32⟩
  | .hbm, ⟨21, _⟩ => ⟨S33280x2048, .f32⟩
  | .hbm, ⟨22, _⟩ => ⟨S33280x2048, .f32⟩
  | .hbm, ⟨23, _⟩ => ⟨S_, .f32⟩
  | .hbm, ⟨24, _⟩ => ⟨S33280, .f32⟩
  | .hbm, ⟨25, _⟩ => ⟨S33280x1, .f32⟩
  | .hbm, ⟨26, _⟩ => ⟨S_, .f32⟩
  | .hbm, ⟨27, _⟩ => ⟨S33280x1, .f32⟩
  | .hbm, ⟨28, _⟩ => ⟨S33280x1, .f32⟩
  | .hbm, ⟨29, _⟩ => ⟨S33280x2048, .f32⟩
  | .hbm, ⟨30, _⟩ => ⟨S33280x2048, .f32⟩
  | .hbm, ⟨31, _⟩ => ⟨S_, .f32⟩
  | .hbm, ⟨32, _⟩ => ⟨S33280x1, .f32⟩
  | .hbm, ⟨33, _⟩ => ⟨S33280x1, .f32⟩
  | .hbm, ⟨34, _⟩ => ⟨S33280x1, .f32⟩
  | .hbm, ⟨35, _⟩ => ⟨S33280x2048, .f32⟩
  | .hbm, ⟨36, _⟩ => ⟨S33280x2048, .f32⟩
  | .hbm, ⟨37, _⟩ => ⟨S1x2048, .f32⟩
  | .hbm, ⟨38, _⟩ => ⟨S33280x2048, .f32⟩
  | .hbm, ⟨39, _⟩ => ⟨S33280x2048, .f32⟩
  | .hbm, ⟨40, _⟩ => ⟨S1x2048, .f32⟩
  | .hbm, ⟨41, _⟩ => ⟨S33280x2048, .f32⟩
  | .hbm, ⟨42, _⟩ => ⟨S33280x2048, .f32⟩
  | .hbm, ⟨43, _⟩ => ⟨S33280x2048, .bf16⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Comb.lean ====
abbrev S33280x2048 : Shape := ⟨2, ![33280, 2048]⟩
abbrev S8x33280x2048 : Shape := ⟨3, ![8, 33280, 2048]⟩
abbrev S33280x128 : Shape := ⟨2, ![33280, 128]⟩
abbrev S2048x1024 : Shape := ⟨2, ![2048, 1024]⟩
abbrev S512x2048 : Shape := ⟨2, ![512, 2048]⟩
abbrev S1x2048 : Shape := ⟨2, ![1, 2048]⟩
abbrev S128x2048 : Shape := ⟨2, ![128, 2048]⟩
abbrev S8x128x2048 : Shape := ⟨3, ![8, 128, 2048]⟩
abbrev S128x128 : Shape := ⟨2, ![128, 128]⟩
abbrev S128x1024 : Shape := ⟨2, ![128, 1024]⟩
abbrev S128x512 : Shape := ⟨2, ![128, 512]⟩
abbrev S128x1 : Shape := ⟨2, ![128, 1]⟩
abbrev S1x128x2048 : Shape := ⟨3, ![1, 128, 2048]⟩
abbrev S128 : Shape := ⟨1, ![128]⟩

abbrev nBuf : Space → Nat
  | .hbm => 10
  | .vmem => 16
  | .smem => 0
  | _ => 0

abbrev bufTy : (tb : Table) → Fin (tcTables nBuf tb) → BufTy
  | .hbm, ⟨0, _⟩ => ⟨S33280x2048, .f32⟩
  | .hbm, ⟨1, _⟩ => ⟨S8x33280x2048, .bf16⟩
  | .hbm, ⟨2, _⟩ => ⟨S33280x128, .f32⟩
  | .hbm, ⟨3, _⟩ => ⟨S2048x1024, .bf16⟩
  | .hbm, ⟨4, _⟩ => ⟨S512x2048, .bf16⟩
  | .hbm, ⟨5, _⟩ => ⟨S1x2048, .f32⟩
  | .hbm, ⟨6, _⟩ => ⟨S1x2048, .f32⟩
  | .hbm, ⟨7, _⟩ => ⟨S33280x2048, .bf16⟩
  | .hbm, ⟨8, _⟩ => ⟨S33280x2048, .f32⟩
  | .hbm, ⟨9, _⟩ => ⟨S33280x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .bf16⟩
  | .local _ .vmem, ⟨3, _⟩ => ⟨S128x2048, .bf16⟩
  | .local _ .vmem, ⟨4, _⟩ => ⟨S8x128x2048, .bf16⟩
  | .local _ .vmem, ⟨5, _⟩ => ⟨S8x128x2048, .bf16⟩
  | .local _ .vmem, ⟨6, _⟩ => ⟨S128x128, .f32⟩
  | .local _ .vmem, ⟨7, _⟩ => ⟨S128x128, .f32⟩
  | .local _ .vmem, ⟨8, _⟩ => ⟨S2048x1024, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | _, _ => ⟨S33280x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![260], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== CombRefIdeal.lean ====
abbrev S33280x2048 : Shape := ⟨2, ![33280, 2048]⟩
abbrev S8x33280x2048 : Shape := ⟨3, ![8, 33280, 2048]⟩
abbrev S33280x128 : Shape := ⟨2, ![33280, 128]⟩
abbrev S2048x1024 : Shape := ⟨2, ![2048, 1024]⟩
abbrev S512x2048 : Shape := ⟨2, ![512, 2048]⟩
abbrev S1x2048 : Shape := ⟨2, ![1, 2048]⟩
abbrev S33280x1024 : Shape := ⟨2, ![33280, 1024]⟩
abbrev S33280x512 : Shape := ⟨2, ![33280, 512]⟩
abbrev S_ : Shape := ⟨0, ![]⟩
abbrev S33280x8 : Shape := ⟨2, ![33280, 8]⟩
abbrev S2048 : Shape := ⟨1, ![2048]⟩
abbrev S33280 : Shape := ⟨1, ![33280]⟩
abbrev S33280x1 : Shape := ⟨2, ![33280, 1]⟩

abbrev nBuf : Space → Nat
  | .hbm => 63
  | .vmem => 0
  | .smem => 0
  | _ => 0

abbrev bufTy : (tb : Table) → Fin (tcTables nBuf tb) → BufTy
  | .hbm, ⟨0, _⟩ => ⟨S33280x2048, .f32⟩
  | .hbm, ⟨1, _⟩ => ⟨S8x33280x2048, .bf16⟩
  | .hbm, ⟨2, _⟩ => ⟨S33280x128, .f32⟩
  | .hbm, ⟨3, _⟩ => ⟨S2048x1024, .bf16⟩
  | .hbm, ⟨4, _⟩ => ⟨S512x2048, .bf16⟩
  | .hbm, ⟨5, _⟩ => ⟨S1x2048, .f32⟩
  | .hbm, ⟨6, _⟩ => ⟨S1x2048, .f32⟩
  | .hbm, ⟨7, _⟩ => ⟨S2048x1024, .f32⟩
  | .hbm, ⟨8, _⟩ => ⟨S33280x1024, .f32⟩
  | .hbm, ⟨9, _⟩ => ⟨S33280x512, .f32⟩
  | .hbm, ⟨10, _⟩ => ⟨S33280x512, .f32⟩
  | .hbm, ⟨11, _⟩ => ⟨S33280x512, .f32⟩
  | .hbm, ⟨12, _⟩ => ⟨S33280x512, .f32⟩
  | .hbm, ⟨13, _⟩ => ⟨S_, .f32⟩
  | .hbm, ⟨14, _⟩ => ⟨S33280x512, .f32⟩
  | .hbm, ⟨15, _⟩ => ⟨S33280x512, .f32⟩
  | .hbm, ⟨16, _⟩ => ⟨S_, .f32⟩
  | .hbm, ⟨17, _⟩ => ⟨S33280x512, .f32⟩
  | .hbm, ⟨18, _⟩ => ⟨S33280x512, .f32⟩
  | .hbm, ⟨19, _⟩ => ⟨S33280x512, .f32⟩
  | .hbm, ⟨20, _⟩ => ⟨S33280x512, .f32⟩
  | .hbm, ⟨21, _⟩ => ⟨S512x2048, .f32⟩
  | .hbm, ⟨22, _⟩ => ⟨S33280x2048, .f32⟩
  | .hbm, ⟨23, _⟩ => ⟨S8x33280x2048, .f32⟩
  | .hbm, ⟨24, _⟩ => ⟨S33280x8, .f32⟩
  | .hbm, ⟨25, _⟩ => ⟨S33280x2048, .f32⟩
  | .hbm, ⟨26, _⟩ => ⟨S_, .f32⟩
  | .hbm, ⟨27, _⟩ => ⟨S33280x2048, .f32⟩
  | .hbm, ⟨28, _⟩ => ⟨S33280x2048, .f32⟩
  | .hbm, ⟨29, _⟩ => ⟨S33280x2048, .f32⟩
  | .hbm, ⟨30, _⟩ => ⟨S33280x2048, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S33280, .f32⟩
  | .hbm, ⟨35, _⟩ => ⟨S33280x1, .f32⟩
  | .hbm, ⟨36, _⟩ => ⟨S_, .f32⟩
  | .hbm, ⟨37, _⟩ => ⟨S33280x1, .f32⟩
  | .hbm, ⟨38, _⟩ => ⟨S33280x1, .f32⟩
  | .hbm, ⟨39, _⟩ => ⟨S33280x2048, .f32⟩
  | .hbm, ⟨40, _⟩ => ⟨S33280x2048, .f32⟩
  | .hbm, ⟨41, _⟩ => ⟨S33280x2048, .f32⟩
  | .hbm, ⟨42, _⟩ => ⟨S_, .f32⟩
  | .hbm, ⟨43, _⟩ => ⟨S33280, .f32⟩
  | .hbm, ⟨44, _⟩ => ⟨S33280x1, .f32⟩
  | .hbm, ⟨45, _⟩ => ⟨S_, .f32⟩
  | .hbm, ⟨46, _⟩ => ⟨S33280x1, .f32⟩
  | .hbm, ⟨47, _⟩ => ⟨S33280x1, .f32⟩
  | .hbm, ⟨48, _⟩ => ⟨S33280x2048, .f32⟩
  | .hbm, ⟨49, _⟩ => ⟨S33280x2048, .f32⟩
  | .hbm, ⟨50, _⟩ => ⟨S_, .f32⟩
  | .hbm, ⟨51, _⟩ => ⟨S33280x1, .f32⟩
  | .hbm, ⟨52, _⟩ => ⟨S33280x1, .f32⟩
  | .hbm, ⟨53, _⟩ => ⟨S33280x1, .f32⟩
  | .hbm, ⟨54, _⟩ => ⟨S33280x2048, .f32⟩
  | .hbm, ⟨55, _⟩ => ⟨S33280x2048, .f32⟩
  | .hbm, ⟨56, _⟩ => ⟨S1x2048, .f32⟩
  | .hbm, ⟨57, _⟩ => ⟨S33280x2048, .f32⟩
  | .hbm, ⟨58, _⟩ => ⟨S33280x2048, .f32⟩
  | .hbm, ⟨59, _⟩ => ⟨S1x2048, .f32⟩
  | .hbm, ⟨60, _⟩ => ⟨S33280x2048, .f32⟩
  | .hbm, ⟨61, _⟩ => ⟨S33280x2048, .f32⟩
  | .hbm, ⟨62, _⟩ => ⟨S33280x2048, .bf16⟩
  | _, _ => ⟨S33280x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_0 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩

abbrev nD : Nat := 1
abbrev τ : Topo := Topo.v7x

variable {F : FTy → Type} [FloatOps F]
-- ==== Rets.lean ====
abbrev S33280x16896 : Shape := ⟨2, ![33280, 16896]⟩
abbrev S8x8x128x128 : Shape := ⟨4, ![8, 8, 128, 128]⟩
abbrev S1x1024 : Shape := ⟨2, ![1, 1024]⟩
abbrev S8x64x64 : Shape := ⟨3, ![8, 64, 64]⟩
abbrev S8x64 : Shape := ⟨2, ![8, 64]⟩
abbrev S64x64 : Shape := ⟨2, ![64, 64]⟩
abbrev S8x64x1 : Shape := ⟨3, ![8, 64, 1]⟩
abbrev S8x64x128 : Shape := ⟨3, ![8, 64, 128]⟩
abbrev S64x128 : Shape := ⟨2, ![64, 128]⟩
abbrev S512x1024 : Shape := ⟨2, ![512, 1024]⟩
abbrev S64x512 : Shape := ⟨2, ![64, 512]⟩
abbrev S1x8x128x128 : Shape := ⟨4, ![1, 8, 128, 128]⟩
abbrev S64x1024 : Shape := ⟨2, ![64, 1024]⟩
abbrev S8x128x128 : Shape := ⟨3, ![8, 128, 128]⟩
abbrev S1x64x64 : Shape := ⟨3, ![1, 64, 64]⟩
abbrev S1x128x128 : Shape := ⟨3, ![1, 128, 128]⟩
abbrev S128x128 : Shape := ⟨2, ![128, 128]⟩
abbrev S1x64x128 : Shape := ⟨3, ![1, 64, 128]⟩
abbrev S64 : Shape := ⟨1, ![64]⟩
abbrev S64x1 : Shape := ⟨2, ![64, 1]⟩

abbrev nBuf : Space → Nat
  | .hbm => 18
  | .vmem => 30
  | .smem => 0
  | _ => 0

abbrev bufTy : (tb : Table) → Fin (tcTables nBuf tb) → BufTy
  | .hbm, ⟨0, _⟩ => ⟨S33280x16896, .f32⟩
  | .hbm, ⟨1, _⟩ => ⟨S8x8x128x128, .f32⟩
  | .hbm, ⟨2, _⟩ => ⟨S1x1024, .f32⟩
  | .hbm, ⟨3, _⟩ => ⟨S1x1024, .f32⟩
  | .hbm, ⟨4, _⟩ => ⟨S8x64x64, .f32⟩
  | .hbm, ⟨5, _⟩ => ⟨S8x64, .f32⟩
  | .hbm, ⟨6, _⟩ => ⟨S8x64, .f32⟩
  | .hbm, ⟨7, _⟩ => ⟨S64x64, .f32⟩
  | .hbm, ⟨8, _⟩ => ⟨S64x64, .f32⟩
  | .hbm, ⟨9, _⟩ => ⟨S8x64x1, .f32⟩
  | .hbm, ⟨10, _⟩ => ⟨S8x64x128, .f32⟩
  | .hbm, ⟨11, _⟩ => ⟨S8x64x1, .f32⟩
  | .hbm, ⟨12, _⟩ => ⟨S8x64x128, .f32⟩
  | .hbm, ⟨13, _⟩ => ⟨S64x128, .f32⟩
  | .hbm, ⟨14, _⟩ => ⟨S64x64, .f32⟩
  | .hbm, ⟨15, _⟩ => ⟨S64x128, .f32⟩
  | .hbm, ⟨16, _⟩ => ⟨S512x1024, .bf16⟩
  | .hbm, ⟨17, _⟩ => ⟨S8x8x128x128, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x128, .f32⟩
  | .local _ .vmem, ⟨17, _⟩ => ⟨S64x128, .f32⟩
  | .local _ .vmem, ⟨18, _⟩ => ⟨S8x64x64, .f32⟩
  | .local _ .vmem, ⟨19, _⟩ => ⟨S8x64x128, .f32⟩
  | .local _ .vmem, ⟨20, _⟩ => ⟨S8x64x128, .f32⟩
  | .local _ .vmem, ⟨21, _⟩ => ⟨S1x8x128x128, .f32⟩
  | .local _ .vmem, ⟨22, _⟩ => ⟨S1x8x128x128, .f32⟩
  | .local _ .vmem, ⟨23, _⟩ => ⟨S1x1024, .f32⟩
  | .local _ .vmem, ⟨24, _⟩ => ⟨S1x1024, .f32⟩
  | .local _ .vmem, ⟨25, _⟩ => ⟨S64x1024, .bf16⟩
  | .local _ .vmem, ⟨26, _⟩ => ⟨S64x1024, .bf16⟩
  | .local _ .vmem, ⟨27, _⟩ => ⟨S1x8x128x128, .f32⟩
  | .local _ .vmem, ⟨28, _⟩ => ⟨S1x8x128x128, .f32⟩
  | .local _ .vmem, ⟨29, _⟩ => ⟨S8x128x128, .f32⟩
  | _, _ => ⟨S33280x16896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem15_0 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_277 : BitVec 32 := 0#32
  let v492 : BitVec 1 := Scalar.cmpi .eq arg1 c0_i32_277
  let v493 : BitVec 32 := Scalar.extui v492
  let c0_i32_278 : BitVec 32 := 0#32
  let v494 : BitVec 1 := Scalar.cmpi .ne v493 c0_i32_278
  v494

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c7_i32 : BitVec 32 := 7#32
  let c0_i32 : BitVec 32 := 0#32
  ![v2.toNat, c7_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c8_i32 : BitVec 32 := 8#32
  let c0_i32 : BitVec 32 := 0#32
  ![v2.toNat, c8_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c9_i32 : BitVec 32 := 9#32
  let c0_i32 : BitVec 32 := 0#32
  ![v2.toNat, c9_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c10_i32 : BitVec 32 := 10#32
  let c0_i32 : BitVec 32 := 0#32
  ![v2.toNat, c10_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c11_i32 : BitVec 32 := 11#32
  let c0_i32 : BitVec 32 := 0#32
  ![v2.toNat, c11_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c12_i32 : BitVec 32 := 12#32
  let c0_i32 : BitVec 32 := 0#32
  ![v2.toNat, c12_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c13_i32 : BitVec 32 := 13#32
  let c0_i32 : BitVec 32 := 0#32
  ![v2.toNat, c13_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg1
  let c14_i32 : BitVec 32 := 14#32
  let c0_i32 : BitVec 32 := 0#32
  ![v2.toNat, c14_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 1 → Memref sig .tc .vmem S8x64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S8x64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x8x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S64x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== RetsRefIdeal.lean ====
abbrev S33280x16896 : Shape := ⟨2, ![33280, 16896]⟩
abbrev S8x8x128x128 : Shape := ⟨4, ![8, 8, 128, 128]⟩
abbrev S1x1024 : Shape := ⟨2, ![1, 1024]⟩
abbrev S8x64x64 : Shape := ⟨3, ![8, 64, 64]⟩
abbrev S8x64 : Shape := ⟨2, ![8, 64]⟩
abbrev S64x64 : Shape := ⟨2, ![64, 64]⟩
abbrev S8 : Shape := ⟨1, ![8]⟩
abbrev S1x8x1x1 : Shape := ⟨4, ![1, 8, 1, 1]⟩
abbrev S512x4096 : Shape := ⟨2, ![512, 4096]⟩
abbrev S8x64x4096 : Shape := ⟨3, ![8, 64, 4096]⟩
abbrev S8x64x1024 : Shape := ⟨3, ![8, 64, 1024]⟩
abbrev S8x64x8x128 : Shape := ⟨4, ![8, 64, 8, 128]⟩
abbrev S1x64x1x64 : Shape := ⟨4, ![1, 64, 1, 64]⟩
abbrev S8x64x8x64 : Shape := ⟨4, ![8, 64, 8, 64]⟩
abbrev S_ : Shape := ⟨0, ![]⟩
abbrev S8x8x64x64 : Shape := ⟨4, ![8, 8, 64, 64]⟩
abbrev S1x8x64x64 : Shape := ⟨4, ![1, 8, 64, 64]⟩
abbrev S8x8x128x64 : Shape := ⟨4, ![8, 8, 128, 64]⟩
abbrev S64x8 : Shape := ⟨2, ![64, 8]⟩
abbrev S1x64x8x1 : Shape := ⟨4, ![1, 64, 8, 1]⟩
abbrev S1024 : Shape := ⟨1, ![1024]⟩
abbrev S8x64x8 : Shape := ⟨3, ![8, 64, 8]⟩
abbrev S8x64x8x1 : Shape := ⟨4, ![8, 64, 8, 1]⟩
abbrev S1x1x1024 : Shape := ⟨3, ![1, 1, 1024]⟩
abbrev S512x1024 : Shape := ⟨2, ![512, 1024]⟩

abbrev nBuf : Space → Nat
  | .hbm => 118
  | .vmem => 0
  | .smem => 0
  | _ => 0

abbrev bufTy : (tb : Table) → Fin (tcTables nBuf tb) → BufTy
  | .hbm, ⟨0, _⟩ => ⟨S33280x16896, .f32⟩
  | .hbm, ⟨1, _⟩ => ⟨S8x8x128x128, .f32⟩
  | .hbm, ⟨2, _⟩ => ⟨S1x1024, .f32⟩
  | .hbm, ⟨3, _⟩ => ⟨S1x1024, .f32⟩
  | .hbm, ⟨4, _⟩ => ⟨S8x64x64, .f32⟩
  | .hbm, ⟨5, _⟩ => ⟨S8x64, .f32⟩
  | .hbm, ⟨6, _⟩ => ⟨S8x64, .f32⟩
  | .hbm, ⟨7, _⟩ => ⟨S64x64, .f32⟩
  | .hbm, ⟨8, _⟩ => ⟨S64x64, .f32⟩
  | .hbm, ⟨9, _⟩ => ⟨S8, .f32⟩
  | .hbm, ⟨10, _⟩ => ⟨S1x8x1x1, .f32⟩
  | .hbm, ⟨11, _⟩ => ⟨S512x4096, .f32⟩
  | .hbm, ⟨12, _⟩ => ⟨S8x64x4096, .f32⟩
  | .hbm, ⟨13, _⟩ => ⟨S8x64x1024, .f32⟩
  | .hbm, ⟨14, _⟩ => ⟨S8x64x1024, .f32⟩
  | .hbm, ⟨15, _⟩ => ⟨S8x64x1024, .f32⟩
  | .hbm, ⟨16, _⟩ => ⟨S8x64x1024, .f32⟩
  | .hbm, ⟨17, _⟩ => ⟨S8x64x8x128, .f32⟩
  | .hbm, ⟨18, _⟩ => ⟨S1x64x1x64, .f32⟩
  | .hbm, ⟨19, _⟩ => ⟨S1x64x1x64, .f32⟩
  | .hbm, ⟨20, _⟩ => ⟨S8x64x8x64, .f32⟩
  | .hbm, ⟨21, _⟩ => ⟨S8x64x8x64, .f32⟩
  | .hbm, ⟨22, _⟩ => ⟨S8x64x8x64, .f32⟩
  | .hbm, ⟨23, _⟩ => ⟨S8x64x8x64, .f32⟩
  | .hbm, ⟨24, _⟩ => ⟨S8x64x8x64, .f32⟩
  | .hbm, ⟨25, _⟩ => ⟨S8x64x8x64, .f32⟩
  | .hbm, ⟨26, _⟩ => ⟨S8x64x8x64, .f32⟩
  | .hbm, ⟨27, _⟩ => ⟨S8x64x8x64, .f32⟩
  | .hbm, ⟨28, _⟩ => ⟨S8x64x8x64, .f32⟩
  | .hbm, ⟨29, _⟩ => ⟨S8x64x8x64, .f32⟩
  | .hbm, ⟨30, _⟩ => ⟨S8x64x8x64, .f32⟩
  | .hbm, ⟨31, _⟩ => ⟨S8x64x8x64, .f32⟩
  | .hbm, ⟨32, _⟩ => ⟨S8x64x8x128, .f32⟩
  | .hbm, ⟨33, _⟩ => ⟨S8x64x8x128, .f32⟩
  | .hbm, ⟨34, _⟩ => ⟨S1x64x1x64, .f32⟩
  | .hbm, ⟨35, _⟩ => ⟨S1x64x1x64, .f32⟩
  | .hbm, ⟨36, _⟩ => ⟨S8x64x8x64, .f32⟩
  | .hbm, ⟨37, _⟩ => ⟨S8x64x8x64, .f32⟩
  | .hbm, ⟨38, _⟩ => ⟨S8x64x8x64, .f32⟩
  | .hbm, ⟨39, _⟩ => ⟨S8x64x8x64, .f32⟩
  | .hbm, ⟨40, _⟩ => ⟨S8x64x8x64, .f32⟩
  | .hbm, ⟨41, _⟩ => ⟨S8x64x8x64, .f32⟩
  | .hbm, ⟨42, _⟩ => ⟨S8x64x8x64, .f32⟩
  | .hbm, ⟨43, _⟩ => ⟨S8x64x8x64, .f32⟩
  | .hbm, ⟨44, _⟩ => ⟨S8x64x8x64, .f32⟩
  | .hbm, ⟨45, _⟩ => ⟨S8x64x8x64, .f32⟩
  | .hbm, ⟨46, _⟩ => ⟨S8x64x8x64, .f32⟩
  | .hbm, ⟨47, _⟩ => ⟨S8x64x8x64, .f32⟩
  | .hbm, ⟨48, _⟩ => ⟨S8x64x8x128, .f32⟩
  | .hbm, ⟨49, _⟩ => ⟨S_, .f32⟩
  | .hbm, ⟨50, _⟩ => ⟨S8x64x8x128, .f32⟩
  | .hbm, ⟨51, _⟩ => ⟨S8x64x8x128, .f32⟩
  | .hbm, ⟨52, _⟩ => ⟨S8x64x8x128, .f32⟩
  | .hbm, ⟨53, _⟩ => ⟨S8x8x64x64, .f32⟩
  | .hbm, ⟨54, _⟩ => ⟨S1x8x64x64, .f32⟩
  | .hbm, ⟨55, _⟩ => ⟨S8x8x64x64, .f32⟩
  | .hbm, ⟨56, _⟩ => ⟨S8x8x64x64, .f32⟩
  | .hbm, ⟨57, _⟩ => ⟨S8x8x128x64, .f32⟩
  | .hbm, ⟨58, _⟩ => ⟨S8x64x8x128, .f32⟩
  | .hbm, ⟨59, _⟩ => ⟨S64x8, .f32⟩
  | .hbm, ⟨60, _⟩ => ⟨S1x64x8x1, .f32⟩
  | .hbm, ⟨61, _⟩ => ⟨S8x64x8x128, .f32⟩
  | .hbm, ⟨62, _⟩ => ⟨S8x64x8x128, .f32⟩
  | .hbm, ⟨63, _⟩ => ⟨S8x8x128x128, .f32⟩
  | .hbm, ⟨64, _⟩ => ⟨S8x8x128x128, .f32⟩
  | .hbm, ⟨65, _⟩ => ⟨S8x8x128x128, .f32⟩
  | .hbm, ⟨66, _⟩ => ⟨S8x8x128x128, .f32⟩
  | .hbm, ⟨67, _⟩ => ⟨S64x8, .f32⟩
  | .hbm, ⟨68, _⟩ => ⟨S1x64x8x1, .f32⟩
  | .hbm, ⟨69, _⟩ => ⟨S8x64x8x128, .f32⟩
  | .hbm, ⟨70, _⟩ => ⟨S8x64x8x128, .f32⟩
  | .hbm, ⟨71, _⟩ => ⟨S8x8x128x64, .f32⟩
  | .hbm, ⟨72, _⟩ => ⟨S8x64x8x128, .f32⟩
  | .hbm, ⟨73, _⟩ => ⟨S8x64x8x128, .f32⟩
  | .hbm, ⟨74, _⟩ => ⟨S1024, .f32⟩
  | .hbm, ⟨75, _⟩ => ⟨S1024, .f32⟩
  | .hbm, ⟨76, _⟩ => ⟨S_, .f32⟩
  | .hbm, ⟨77, _⟩ => ⟨S8x64x8, .f32⟩
  | .hbm, ⟨78, _⟩ => ⟨S8x64x8x1, .f32⟩
  | .hbm, ⟨79, _⟩ => ⟨S_, .f32⟩
  | .hbm, ⟨80, _⟩ => ⟨S8x64x8x1, .f32⟩
  | .hbm, ⟨81, _⟩ => ⟨S8x64x8x1, .f32⟩
  | .hbm, ⟨82, _⟩ => ⟨S8x64x8x128, .f32⟩
  | .hbm, ⟨83, _⟩ => ⟨S8x64x8x128, .f32⟩
  | .hbm, ⟨84, _⟩ => ⟨S8x64x8x128, .f32⟩
  | .hbm, ⟨85, _⟩ => ⟨S_, .f32⟩
  | .hbm, ⟨86, _⟩ => ⟨S8x64x8, .f32⟩
  | .hbm, ⟨87, _⟩ => ⟨S8x64x8x1, .f32⟩
  | .hbm, ⟨88, _⟩ => ⟨S_, .f32⟩
  | .hbm, ⟨89, _⟩ => ⟨S8x64x8x1, .f32⟩
  | .hbm, ⟨90, _⟩ => ⟨S8x64x8x1, .f32⟩
  | .hbm, ⟨91, _⟩ => ⟨S8x64x8x128, .f32⟩
  | .hbm, ⟨92, _⟩ => ⟨S8x64x8x128, .f32⟩
  | .hbm, ⟨93, _⟩ => ⟨S_, .f32⟩
  | .hbm, ⟨94, _⟩ => ⟨S8x64x8x1, .f32⟩
  | .hbm, ⟨95, _⟩ => ⟨S8x64x8x1, .f32⟩
  | .hbm, ⟨96, _⟩ => ⟨S8x64x8x1, .f32⟩
  | .hbm, ⟨97, _⟩ => ⟨S8x64x8x128, .f32⟩
  | .hbm, ⟨98, _⟩ => ⟨S8x64x8x128, .f32⟩
  | .hbm, ⟨99, _⟩ => ⟨S8x64x1024, .f32⟩
  | .hbm, ⟨100, _⟩ => ⟨S1x1x1024, .f32⟩
  | .hbm, ⟨101, _⟩ => ⟨S8x64x1024, .f32⟩
  | .hbm, ⟨102, _⟩ => ⟨S8x64x1024, .f32⟩
  | .hbm, ⟨103, _⟩ => ⟨S1x1x1024, .f32⟩
  | .hbm, ⟨104, _⟩ => ⟨S8x64x1024, .f32⟩
  | .hbm, ⟨105, _⟩ => ⟨S8x64x1024, .f32⟩
  | .hbm, ⟨106, _⟩ => ⟨S8x64x1024, .f32⟩
  | .hbm, ⟨107, _⟩ => ⟨S8x64x1024, .f32⟩
  | .hbm, ⟨108, _⟩ => ⟨S_, .f32⟩
  | .hbm, ⟨109, _⟩ => ⟨S8x64x1024, .f32⟩
  | .hbm, ⟨110, _⟩ => ⟨S8x64x1024, .f32⟩
  | .hbm, ⟨111, _⟩ => ⟨S_, .f32⟩
  | .hbm, ⟨112, _⟩ => ⟨S8x64x1024, .f32⟩
  | .hbm, ⟨113, _⟩ => ⟨S8x64x1024, .f32⟩
  | .hbm, ⟨114, _⟩ => ⟨S8x64x1024, .f32⟩
  | .hbm, ⟨115, _⟩ => ⟨S8x64x1024, .f32⟩
  | .hbm, ⟨116, _⟩ => ⟨S512x1024, .f32⟩
  | .hbm, ⟨117, _⟩ => ⟨S512x1024, .bf16⟩
  | _, _ => ⟨S33280x16896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_0 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_cst_1 : Ref sig .tc := ⟨.hbm, 76, rfl⟩
abbrev main_v65 : Ref sig .tc := ⟨.hbm, 77, rfl⟩
abbrev main_v66 : Ref sig .tc := ⟨.hbm, 78, rfl⟩
abbrev main_cst_2 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_3 : Ref sig .tc := ⟨.hbm, 85, rfl⟩
abbrev main_v72 : Ref sig .tc := ⟨.hbm, 86, rfl⟩
abbrev main_v73 : Ref sig .tc := ⟨.hbm, 87, rfl⟩
abbrev main_cst_4 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_5 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_call0_v0 : Ref sig .tc := ⟨.hbm, 106, rfl⟩
abbrev main_call0_v1 : Ref sig .tc := ⟨.hbm, 107, rfl⟩
abbrev main_call0_cst : Ref sig .tc := ⟨.hbm, 108, rfl⟩
abbrev main_call0_v2 : Ref sig .tc := ⟨.hbm, 109, rfl⟩
abbrev main_call0_v3 : Ref sig .tc := ⟨.hbm, 110, rfl⟩
abbrev main_call0_cst_0 : Ref sig .tc := ⟨.hbm, 111, rfl⟩
abbrev main_call0_v4 : Ref sig .tc := ⟨.hbm, 112, rfl⟩
abbrev main_call0_v5 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩

abbrev nD : Nat := 1
abbrev τ : Topo := Topo.v7x

variable {F : FTy → Type} [FloatOps F]
-- ==== Atts.lean ====
abbrev S6144x1024 : Shape := ⟨2, ![6144, 1024]⟩
abbrev S16x256x768 : Shape := ⟨3, ![16, 256, 768]⟩
abbrev S2048x1024 : Shape := ⟨2, ![2048, 1024]⟩
abbrev S256x256 : Shape := ⟨2, ![256, 256]⟩
abbrev S4x256x768 : Shape := ⟨3, ![4, 256, 768]⟩
abbrev S1x128 : Shape := ⟨2, ![1, 128]⟩
abbrev S256x128 : Shape := ⟨2, ![256, 128]⟩
abbrev S1x256x256 : Shape := ⟨3, ![1, 256, 256]⟩
abbrev S256x768 : Shape := ⟨2, ![256, 768]⟩
abbrev S256 : Shape := ⟨1, ![256]⟩
abbrev S256x1 : Shape := ⟨2, ![256, 1]⟩

abbrev nBuf : Space → Nat
  | .hbm => 5
  | .vmem => 18
  | .smem => 0
  | _ => 0

abbrev bufTy : (tb : Table) → Fin (tcTables nBuf tb) → BufTy
  | .hbm, ⟨0, _⟩ => ⟨S6144x1024, .f32⟩
  | .hbm, ⟨1, _⟩ => ⟨S6144x1024, .f32⟩
  | .hbm, ⟨2, _⟩ => ⟨S6144x1024, .f32⟩
  | .hbm, ⟨3, _⟩ => ⟨S16x256x768, .f32⟩
  | .hbm, ⟨4, _⟩ => ⟨S2048x1024, .bf16⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S4x256x768, .f32⟩
  | .local _ .vmem, ⟨15, _⟩ => ⟨S4x256x768, .f32⟩
  | .local _ .vmem, ⟨16, _⟩ => ⟨S256x256, .bf16⟩
  | .local _ .vmem, ⟨17, _⟩ => ⟨S256x256, .bf16⟩
  | _, _ => ⟨S6144x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c3_i32 : BitVec 32 := 3#32
  let v1 : BitVec 32 := Scalar.muli arg1 c3_i32
  let c0_i32 : BitVec 32 := 0#32
  let v2 : BitVec 32 := Scalar.addi c0_i32 v1
  let v3 : BitVec 32 := Scalar.addi v2 v0
  let c0_i32_0 : BitVec 32 := 0#32
  let v4 : BitVec 32 := Scalar.addi c0_i32_0 arg0
  let c0_i32_1 : BitVec 32 := 0#32
  ![v3.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c2_i32_0 : BitVec 32 := 2#32
  let v1 : BitVec 32 := Scalar.subi v0 c2_i32_0
  let c0_i32 : BitVec 32 := 0#32
  let v2 : BitVec 32 := Scalar.maxsi v1 c0_i32
  let c3_i32 : BitVec 32 := 3#32
  let v3 : BitVec 32 := Scalar.muli arg1 c3_i32
  let c0_i32_1 : BitVec 32 := 0#32
  let v4 : BitVec 32 := Scalar.addi c0_i32_1 v3
  let v5 : BitVec 32 := Scalar.addi v4 v2
  let c0_i32_2 : BitVec 32 := 0#32
  let v6 : BitVec 32 := Scalar.addi c0_i32_2 arg0
  let c0_i32_3 : BitVec 32 := 0#32
  ![v5.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg1 c3_i32
  let c0_i32_0 : BitVec 32 := 0#32
  let v4 : BitVec 32 := Scalar.addi c0_i32_0 v3
  let v5 : BitVec 32 := Scalar.addi v4 v2
  let c0_i32_1 : BitVec 32 := 0#32
  let v6 : BitVec 32 := Scalar.addi c0_i32_1 arg0
  let c0_i32_2 : BitVec 32 := 0#32
  ![v5.toNat, v6.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let v1 : BitVec 32 := Scalar.subi v0 c0_i32
  let c0_i32_0 : BitVec 32 := 0#32
  let v2 : BitVec 32 := Scalar.maxsi v1 c0_i32_0
  let c3_i32 : BitVec 32 := 3#32
  let v3 : BitVec 32 := Scalar.muli arg1 c3_i32
  let c0_i32_1 : BitVec 32 := 0#32
  let v4 : BitVec 32 := Scalar.addi c0_i32_1 v3
  let v5 : BitVec 32 := Scalar.addi v4 v2
  let c0_i32_2 : BitVec 32 := 0#32
  let v6 : BitVec 32 := Scalar.addi c0_i32_2 arg0
  let c0_i32_3 : BitVec 32 := 0#32
  ![v5.toNat, v6.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c2_i32_0 : BitVec 32 := 2#32
  let v1 : BitVec 32 := Scalar.subi v0 c2_i32_0
  let c0_i32 : BitVec 32 := 0#32
  let v2 : BitVec 32 := Scalar.maxsi v1 c0_i32
  let c3_i32 : BitVec 32 := 3#32
  let v3 : BitVec 32 := Scalar.muli arg1 c3_i32
  let c0_i32_1 : BitVec 32 := 0#32
  let v4 : BitVec 32 := Scalar.addi c0_i32_1 v3
  let v5 : BitVec 32 := Scalar.addi v4 v2
  let c0_i32_2 : BitVec 32 := 0#32
  let v6 : BitVec 32 := Scalar.addi c0_i32_2 arg0
  let c0_i32_3 : BitVec 32 := 0#32
  ![v5.toNat, v6.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let v3 : BitVec 32 := Scalar.muli arg1 c3_i32
  let c0_i32_0 : BitVec 32 := 0#32
  let v4 : BitVec 32 := Scalar.addi c0_i32_0 v3
  let v5 : BitVec 32 := Scalar.addi v4 v2
  let c0_i32_1 : BitVec 32 := 0#32
  let v6 : BitVec 32 := Scalar.addi c0_i32_1 arg0
  let c0_i32_2 : BitVec 32 := 0#32
  ![v5.toNat, v6.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let v1 : BitVec 32 := Scalar.subi v0 c0_i32
  let c0_i32_0 : BitVec 32 := 0#32
  let v2 : BitVec 32 := Scalar.maxsi v1 c0_i32_0
  let c3_i32 : BitVec 32 := 3#32
  let v3 : BitVec 32 := Scalar.muli arg1 c3_i32
  let c0_i32_1 : BitVec 32 := 0#32
  let v4 : BitVec 32 := Scalar.addi c0_i32_1 v3
  let v5 : BitVec 32 := Scalar.addi v4 v2
  let c0_i32_2 : BitVec 32 := 0#32
  let v6 : BitVec 32 := Scalar.addi c0_i32_2 arg0
  let c0_i32_3 : BitVec 32 := 0#32
  ![v5.toNat, v6.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![v1.toNat, arg0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== AttsRefIdeal.lean ====
abbrev S6144x1024 : Shape := ⟨2, ![6144, 1024]⟩
abbrev S16x256x768 : Shape := ⟨3, ![16, 256, 768]⟩
abbrev S8x768x16x64 : Shape := ⟨4, ![8, 768, 16, 64]⟩
abbrev S8x256x16x64 : Shape := ⟨4, ![8, 256, 16, 64]⟩
abbrev S8x16x256x768 : Shape := ⟨4, ![8, 16, 256, 768]⟩
abbrev S_ : Shape := ⟨0, ![]⟩
abbrev S1x16x256x768 : Shape := ⟨4, ![1, 16, 256, 768]⟩
abbrev S8x16x256 : Shape := ⟨3, ![8, 16, 256]⟩
abbrev S8x16x256x1 : Shape := ⟨4, ![8, 16, 256, 1]⟩
abbrev S8x16x64x256 : Shape := ⟨4, ![8, 16, 64, 256]⟩
abbrev S2048x1024 : Shape := ⟨2, ![2048, 1024]⟩

abbrev nBuf : Space → Nat
  | .hbm => 33
  | .vmem => 0
  | .smem => 0
  | _ => 0

abbrev bufTy : (tb : Table) → Fin (tcTables nBuf tb) → BufTy
  | .hbm, ⟨0, _⟩ => ⟨S6144x1024, .f32⟩
  | .hbm, ⟨1, _⟩ => ⟨S6144x1024, .f32⟩
  | .hbm, ⟨2, _⟩ => ⟨S6144x1024, .f32⟩
  | .hbm, ⟨3, _⟩ => ⟨S16x256x768, .f32⟩
  | .hbm, ⟨4, _⟩ => ⟨S8x768x16x64, .f32⟩
  | .hbm, ⟨5, _⟩ => ⟨S8x256x16x64, .f32⟩
  | .hbm, ⟨6, _⟩ => ⟨S8x768x16x64, .f32⟩
  | .hbm, ⟨7, _⟩ => ⟨S8x768x16x64, .f32⟩
  | .hbm, ⟨8, _⟩ => ⟨S8x16x256x768, .f32⟩
  | .hbm, ⟨9, _⟩ => ⟨S_, .f32⟩
  | .hbm, ⟨10, _⟩ => ⟨S8x16x256x768, .f32⟩
  | .hbm, ⟨11, _⟩ => ⟨S8x16x256x768, .f32⟩
  | .hbm, ⟨12, _⟩ => ⟨S1x16x256x768, .f32⟩
  | .hbm, ⟨13, _⟩ => ⟨S8x16x256x768, .f32⟩
  | .hbm, ⟨14, _⟩ => ⟨S8x16x256x768, .f32⟩
  | .hbm, ⟨15, _⟩ => ⟨S_, .f32⟩
  | .hbm, ⟨16, _⟩ => ⟨S8x16x256, .f32⟩
  | .hbm, ⟨17, _⟩ => ⟨S_, .f32⟩
  | .hbm, ⟨18, _⟩ => ⟨S8x16x256, .f32⟩
  | .hbm, ⟨19, _⟩ => ⟨S8x16x256, .f32⟩
  | .hbm, ⟨20, _⟩ => ⟨S8x16x256x1, .f32⟩
  | .hbm, ⟨21, _⟩ => ⟨S8x16x256x768, .f32⟩
  | .hbm, ⟨22, _⟩ => ⟨S8x16x256x768, .f32⟩
  | .hbm, ⟨23, _⟩ => ⟨S8x16x256x768, .f32⟩
  | .hbm, ⟨24, _⟩ => ⟨S_, .f32⟩
  | .hbm, ⟨25, _⟩ => ⟨S8x16x256, .f32⟩
  | .hbm, ⟨26, _⟩ => ⟨S8x16x256x1, .f32⟩
  | .hbm, ⟨27, _⟩ => ⟨S8x16x256x768, .f32⟩
  | .hbm, ⟨28, _⟩ => ⟨S8x16x256x768, .f32⟩
  | .hbm, ⟨29, _⟩ => ⟨S8x16x64x256, .f32⟩
  | .hbm, ⟨30, _⟩ => ⟨S8x256x16x64, .f32⟩
  | .hbm, ⟨31, _⟩ => ⟨S2048x1024, .f32⟩
  | .hbm, ⟨32, _⟩ => ⟨S2048x1024, .bf16⟩
  | _, _ => ⟨S6144x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Proof.RetsRef.lean ====
/- The reference's retention of the sample rows: its two results named, and read at an entry. -/
module

public import proofs.«01_k».proof.Proof.Gen.RetsRefIdeal
public import proofs.«01_k».proof.Proof.Gen.RetsRefIdeal.Run
public import Idealize.ShloMosaic.Lib.Pipeline.ValueKit

@[expose] public section

set_option maxRecDepth 16384

noncomputable section

open Idealize.ShloMosaic Idealize.ShloMosaic.TcCoe Idealize.SL.Sem

namespace Cert.RetsRefIdeal

open Cert.RetsRefIdeal.Gen

/-- The sample rows' columns of the retention, as eight sequences of 64 tokens. -/
def rows (a0 : FVec Ideal S33280x16896 .f32) : FVec Ideal S8x64x4096 .f32 :=
  shapeCast _ (extractStridedSlice S512x4096 ![32768, 3584] a0 slices_S33280x16896_S512x4096_32768_3584) shapeCasts_S512x4096_S8x64x4096

/-- The columns of the queries, keys, values and gates. -/
def Qcols (a0 : FVec Ideal S33280x16896 .f32) : FVec Ideal S8x64x1024 .f32 :=
  extractStridedSlice S8x64x1024 ![0, 0, 0] (rows a0) slices_S8x64x4096_S8x64x1024_0_0_0
@[inherit_doc Qcols] def Kcols (a0 : FVec Ideal S33280x16896 .f32) : FVec Ideal S8x64x1024 .f32 :=
  extractStridedSlice S8x64x1024 ![0, 0, 1024] (rows a0) slices_S8x64x4096_S8x64x1024_0_0_1024
@[inherit_doc Qcols] def Vcols (a0 : FVec Ideal S33280x16896 .f32) : FVec Ideal S8x64x1024 .f32 :=
  extractStridedSlice S8x64x1024 ![0, 0, 2048] (rows a0) slices_S8x64x4096_S8x64x1024_0_0_2048
@[inherit_doc Qcols] def Gcols (a0 : FVec Ideal S33280x16896 .f32) : FVec Ideal S8x64x1024 .f32 :=
  extractStridedSlice S8x64x1024 ![0, 0, 3072] (rows a0) slices_S8x64x4096_S8x64x1024_0_0_3072

/-- Queries, keys and values by heads. -/
def Qh (a0 : FVec Ideal S33280x16896 .f32) : FVec Ideal S8x64x8x128 .f32 := shapeCast _ (Qcols a0) shapeCasts_S8x64x1024_S8x64x8x128
@[inherit_doc Qh] def Kh (a0 : FVec Ideal S33280x16896 .f32) : FVec Ideal S8x64x8x128 .f32 := shapeCast _ (Kcols a0) shapeCasts_S8x64x1024_S8x64x8x128
@[inherit_doc Qh] def Vh (a0 : FVec Ideal S33280x16896 .f32) : FVec Ideal S8x64x8x128 .f32 := shapeCast _ (Vcols a0) shapeCasts_S8x64x1024_S8x64x8x128

/-- A table of 64 angles for each token, laid over the sequences and heads. -/
def over (a : FVec Ideal S64x64 .f32) : FVec Ideal S8x64x8x64 .f32 :=
  broadcastInDim S8x64x8x64 ![0, 1, 2, 3] bcast_S1x64x1x64_S8x64x8x64_0_1_2_3 (broadcastInDim S1x64x1x64 ![1, 3] bcast_S64x64_S1x64x1x64_1_3 a)

/-- The rotary embedding of heads: the two halves of a head turned by each token's angles. -/
def rot (x : FVec Ideal S8x64x8x128 .f32) (a7 a8 : FVec Ideal S64x64 .f32) : FVec Ideal S8x64x8x128 .f32 :=
  concatenate S8x64x8x128 3 [⟨S8x64x8x64, (subf (mulf (extractStridedSlice S8x64x8x64 ![0, 0, 0, 0] x slices_S8x64x8x128_S8x64x8x64_0_0_0_0)
    (over a7)) (mulf (extractStridedSlice S8x64x8x64 ![0, 0, 0, 64] x slices_S8x64x8x128_S8x64x8x64_0_0_0_64) (over a8)))⟩,
    ⟨S8x64x8x64, (addf (mulf (extractStridedSlice S8x64x8x64 ![0, 0, 0, 0] x slices_S8x64x8x128_S8x64x8x64_0_0_0_0) (over a8)) (mulf
      (extractStridedSlice S8x64x8x64 ![0, 0, 0, 64] x slices_S8x64x8x128_S8x64x8x64_0_0_0_64) (over a7)))⟩]
      concatenates_S8x64x8x64_S8x64x8x64_S8x64x8x128_d3

/-- The rotated keys, scaled by the root of the head's width. -/
def keys (a0 : FVec Ideal S33280x16896 .f32) (a7 a8 : FVec Ideal S64x64 .f32) : FVec Ideal S8x64x8x128 .f32 :=
  mulf (rot (Kh a0) a7 a8) (broadcastInDim S8x64x8x128 ![] bcast_S_S8x64x8x128 (constant S_ .f32 0x3DB504F3#32))

/-- The state after the chunk: the carried one decayed, plus the decayed keys times the values. -/
def state (a0 : FVec Ideal S33280x16896 .f32) (a1 : FVec Ideal S8x8x128x128 .f32) (a6 : FVec Ideal S8x64 .f32) (a7 a8 : FVec Ideal S64x64 .f32) :
    FVec Ideal S8x8x128x128 .f32 :=
  addf (mulf a1 (broadcastInDim S8x8x128x128 ![0, 1, 2, 3] bcast_S1x8x1x1_S8x8x128x128_0_1_2_3 (broadcastInDim S1x8x1x1 ![1]
  bcast_S8_S1x8x1x1_1 ((fun i => FloatOps.ofBits .f32 (lit0 (S8.rowMajor i))))))) (Host.dotGeneral
  dot_S8x64x8x128_S8x64x8x128_S8x8x128x128_1_1_3_3_02_02 none (mulf (keys a0 a7 a8) (broadcastInDim S8x64x8x128 ![0, 1, 2, 3]
  bcast_S1x64x8x1_S8x64x8x128_0_1_2_3 (broadcastInDim S1x64x8x1 ![1, 2] bcast_S64x8_S1x64x8x1_1_2 (transpose S64x8 [1, 0] a6
  transposes_S8x64_S64x8_1_0)))) (Vh a0))

/-- The decayed scores of the queries by the keys. -/
def scores (a0 : FVec Ideal S33280x16896 .f32) (a4 : FVec Ideal S8x64x64 .f32) (a7 a8 : FVec Ideal S64x64 .f32) : FVec Ideal S8x8x64x64 .f32 :=
  mulf (Host.dotGeneral dot_S8x64x8x128_S8x64x8x128_S8x8x64x64_3_3_1_1_02_02 none (rot (Qh a0) a7 a8) (keys a0 a7 a8)) (broadcastInDim
  S8x8x64x64 ![0, 1, 2, 3] bcast_S1x8x64x64_S8x8x64x64_0_1_2_3 (broadcastInDim S1x8x64x64 ![1, 2, 3] bcast_S8x64x64_S1x8x64x64_1_2_3 a4))

/-- What the chunk retains: the scores times the values, plus the decayed queries times the carried state. -/
def retained (a0 : FVec Ideal S33280x16896 .f32) (a1 : FVec Ideal S8x8x128x128 .f32) (a4 : FVec Ideal S8x64x64 .f32) (a5 : FVec Ideal S8x64 .f32)
    (a7 a8 : FVec Ideal S64x64 .f32) : FVec Ideal S8x64x8x128 .f32 :=
  addf (transpose S8x64x8x128 [0, 3, 1, 2] (Host.dotGeneral dot_S8x64x8x128_S8x8x64x64_S8x8x128x64_1_3_3_2_02_01 none (Vh a0) (scores a0 a4 a7
    a8)) transposes_S8x8x128x64_S8x64x8x128_0_3_1_2)
    (transpose S8x64x8x128 [0, 3, 1, 2] (Host.dotGeneral dot_S8x8x128x128_S8x64x8x128_S8x8x128x64_2_3_3_1_01_02 none a1 (mulf (rot (Qh a0) a7 a8)
      (broadcastInDim S8x64x8x128 ![0, 1, 2, 3] bcast_S1x64x8x1_S8x64x8x128_0_1_2_3 (broadcastInDim S1x64x8x1 ![1, 2] bcast_S64x8_S1x64x8x1_1_2
      (transpose S64x8 [1, 0] a5 transposes_S8x64_S64x8_1_0))))) transposes_S8x8x128x64_S8x64x8x128_0_3_1_2)

/-- Heads less their means. -/
def centred (y : FVec Ideal S8x64x8x128 .f32) : FVec Ideal S8x64x8x128 .f32 :=
  subf y (broadcastInDim S8x64x8x128 ![0, 1, 2, 3] bcast_S8x64x8x1_S8x64x8x128_0_1_2_3 (Host.divf (broadcastInDim S8x64x8x1 ![0, 1, 2]
  bcast_S8x64x8_S8x64x8x1_0_1_2 (Host.reduceAdd y (constant S_ .f32 0x00000000#32) reducesTo_S8x64x8x128_S8x64x8_d3 h_S_)) (broadcastInDim
  S8x64x8x1 ![] bcast_S_S8x64x8x1 (constant S_ .f32 0x43000000#32))))

/-- Heads normalised. -/
def headNorm (y : FVec Ideal S8x64x8x128 .f32) : FVec Ideal S8x64x8x128 .f32 :=
  mulf (centred y) (broadcastInDim S8x64x8x128 ![0, 1, 2, 3] bcast_S8x64x8x1_S8x64x8x128_0_1_2_3 (Host.rsqrt (addf (Host.divf
  (broadcastInDim S8x64x8x1 ![0, 1, 2] bcast_S8x64x8_S8x64x8x1_0_1_2 (Host.reduceAdd (mulf (centred y) (centred y)) (constant S_ .f32
  0x00000000#32) reducesTo_S8x64x8x128_S8x64x8_d3 h_S_)) (broadcastInDim S8x64x8x1 ![] bcast_S_S8x64x8x1 (constant S_ .f32 0x43000000#32)))
  (broadcastInDim S8x64x8x1 ![] bcast_S_S8x64x8x1 (constant S_ .f32 0x3727C5AC#32)))))

/-- The output rows: the normalised heads side by side, scaled and shifted, times the gates' silu. -/
def output (a0 : FVec Ideal S33280x16896 .f32) (a1 : FVec Ideal S8x8x128x128 .f32) (a2 a3 : FVec Ideal S1x1024 .f32) (a4 : FVec Ideal S8x64x64 .f32)
    (a5 : FVec Ideal S8x64 .f32) (a7 a8 : FVec Ideal S64x64 .f32) : FVec Ideal S512x1024 .bf16 :=
  truncf .bf16 (shapeCast _ (mulf (mulf (Gcols a0) (Host.divf (broadcastInDim S8x64x1024 ![] bcast_S_S8x64x1024 (constant S_ .f32
  0x3F800000#32)) (addf (broadcastInDim S8x64x1024 ![] bcast_S_S8x64x1024 (constant S_ .f32 0x3F800000#32)) (Host.exp (Host.negf (Gcols
  a0)))))) (addf (mulf (shapeCast _ (headNorm (retained a0 a1 a4 a5 a7 a8)) shapeCasts_S8x64x8x128_S8x64x1024) (broadcastInDim S8x64x1024
  ![0, 1, 2] bcast_S1x1x1024_S8x64x1024_0_1_2 (broadcastInDim S1x1x1024 ![2] bcast_S1024_S1x1x1024_2 (shapeCast _ a2
  shapeCasts_S1x1024_S1024)))) (broadcastInDim S8x64x1024 ![0, 1, 2] bcast_S1x1x1024_S8x64x1024_0_1_2 (broadcastInDim S1x1x1024 ![2]
  bcast_S1024_S1x1x1024_2 (shapeCast _ a3 shapeCasts_S1x1024_S1024))))) shapeCasts_S8x64x1024_S512x1024) bitsLt_bf16_f32

/-- The reference program's first result is those rows. -/
theorem result_eq (m : (ℓ : Loc nD τ sig) → Buf (Elt Ideal) ℓ) (c : Dev nD) : Value.res_main_v93 m c
    = output (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg7)) (m ((c.tc : Thread nD τ).loc main_arg8)) := by
  unfold Value.res_main_v93 output headNorm centred retained scores keys rot over Qh Kh Vh Qcols Kcols Vcols Gcols rows; rfl

/-- An entry of the queries is the projected array's, -/
theorem Qh_entry (a0 : FVec Ideal S33280x16896 .f32) (b : Fin 8) (t : Fin 64) (j : Fin 8) (d : Fin 128) :
    Qh a0 (ix4 b t j d) = a0 (ix2 ⟨32768 + 64 * b.val + t.val, by omega⟩ ⟨3584 + 128 * j.val + d.val, by omega⟩) := by
  pointwise [Qh, Qcols, rows]
  exact congrArg a0 (congrArg₂ ix2 (Fin.ext (by dsimp only; omega)) (Fin.ext (by dsimp only; omega)))

/-- and so are those of the keys, -/
theorem Kh_entry (a0 : FVec Ideal S33280x16896 .f32) (b : Fin 8) (t : Fin 64) (j : Fin 8) (d : Fin 128) :
    Kh a0 (ix4 b t j d) = a0 (ix2 ⟨32768 + 64 * b.val + t.val, by omega⟩ ⟨4608 + 128 * j.val + d.val, by omega⟩) := by
  pointwise [Kh, Kcols, rows]
  exact congrArg a0 (congrArg₂ ix2 (Fin.ext (by dsimp only; omega)) (Fin.ext (by dsimp only; omega)))

/-- and the values. -/
theorem Vh_entry (a0 : FVec Ideal S33280x16896 .f32) (b : Fin 8) (t : Fin 64) (j : Fin 8) (d : Fin 128) :
    Vh a0 (ix4 b t j d) = a0 (ix2 ⟨32768 + 64 * b.val + t.val, by omega⟩ ⟨5632 + 128 * j.val + d.val, by omega⟩) := by
  pointwise [Vh, Vcols, rows]
  exact congrArg a0 (congrArg₂ ix2 (Fin.ext (by dsimp only; omega)) (Fin.ext (by dsimp only; omega)))

/-- An entry of a rotated head in its first half, -/
theorem rot_lo (x : FVec Ideal S8x64x8x128 .f32) (a7 a8 : FVec Ideal S64x64 .f32) (b : Fin 8) (t : Fin 64) (j : Fin 8) (d : Fin 64) :
    rot x a7 a8 (ix4 b t j ⟨d.val, by omega⟩)
      = x (ix4 b t j ⟨d.val, by omega⟩) * a7 (ix2 t d) - x (ix4 b t j ⟨64 + d.val, by omega⟩) * a8 (ix2 t d) := by
  pointwise [rot, over]

/-- and in its second. -/
theorem rot_hi (x : FVec Ideal S8x64x8x128 .f32) (a7 a8 : FVec Ideal S64x64 .f32) (b : Fin 8) (t : Fin 64) (j : Fin 8) (d : Fin 64) :
    rot x a7 a8 (ix4 b t j ⟨64 + d.val, by omega⟩)
      = x (ix4 b t j ⟨d.val, by omega⟩) * a8 (ix2 t d) + x (ix4 b t j ⟨64 + d.val, by omega⟩) * a7 (ix2 t d) := by
  pointwise [rot, over]

/-- An entry of the keys. -/
theorem keys_entry (a0 : FVec Ideal S33280x16896 .f32) (a7 a8 : FVec Ideal S64x64 .f32) (b : Fin 8) (t : Fin 64) (j : Fin 8) (d : Fin 128) :
    keys a0 a7 a8 (ix4 b t j d) = rot (Kh a0) a7 a8 (ix4 b t j d) * Ideal.ofBits .f32 0x3DB504F3#32 := by
  pointwise [keys]

/-- The eight decays are read by position. -/
theorem word_at (j : Fin 8) : lit0 (S8.rowMajor (ix1 j)) = lit0 j := by
  fin_cases j <;> rfl

/-- An entry of the state. -/
theorem state_entry (a0 : FVec Ideal S33280x16896 .f32) (a1 : FVec Ideal S8x8x128x128 .f32) (a6 : FVec Ideal S8x64 .f32)
    (a7 a8 : FVec Ideal S64x64 .f32) (b : Fin 8) (j : Fin 8) (d e : Fin 128) :
    state a0 a1 a6 a7 a8 (ix4 b j d e) = a1 (ix4 b j d e) * Ideal.ofBits .f32 (lit0 j)
      + ∑ s : Fin 64, (keys a0 a7 a8 (ix4 b s j d) * a6 (ix2 j s)) * Vh a0 (ix4 b s j e) := by
  pointwise [state]
  rw [word_at]

/-- An entry of the decayed scores. -/
theorem scores_entry (a0 : FVec Ideal S33280x16896 .f32) (a4 : FVec Ideal S8x64x64 .f32) (a7 a8 : FVec Ideal S64x64 .f32)
    (b : Fin 8) (j : Fin 8) (t s : Fin 64) :
    scores a0 a4 a7 a8 (ix4 b j t s)
      = (∑ d : Fin 128, rot (Qh a0) a7 a8 (ix4 b t j d) * keys a0 a7 a8 (ix4 b s j d)) * a4 (ix3 j t s) := by
  pointwise [scores]

/-- An entry of what the chunk retains. -/
theorem retained_entry (a0 : FVec Ideal S33280x16896 .f32) (a1 : FVec Ideal S8x8x128x128 .f32) (a4 : FVec Ideal S8x64x64 .f32)
    (a5 : FVec Ideal S8x64 .f32) (a7 a8 : FVec Ideal S64x64 .f32) (b : Fin 8) (t : Fin 64) (j : Fin 8) (e : Fin 128) :
    retained a0 a1 a4 a5 a7 a8 (ix4 b t j e)
      = ∑ s : Fin 64, scores a0 a4 a7 a8 (ix4 b j t s) * Vh a0 (ix4 b s j e)
        + ∑ d : Fin 128, (rot (Qh a0) a7 a8 (ix4 b t j d) * a5 (ix2 j t)) * a1 (ix4 b j d e) := by
  pointwise [retained]
  exact congrArg₂ (· + ·) (Finset.sum_congr rfl fun _ _ => mul_comm _ _) (Finset.sum_congr rfl fun _ _ => mul_comm _ _)

/-- An entry of an output row. -/
theorem output_entry (a0 : FVec Ideal S33280x16896 .f32) (a1 : FVec Ideal S8x8x128x128 .f32) (a2 a3 : FVec Ideal S1x1024 .f32)
    (a4 : FVec Ideal S8x64x64 .f32) (a5 : FVec Ideal S8x64 .f32) (a7 a8 : FVec Ideal S64x64 .f32) (b : Fin 8) (t : Fin 64) (j : Fin 8) (e : Fin 128) :
    output a0 a1 a2 a3 a4 a5 a7 a8 (ix2 ⟨64 * b.val + t.val, by omega⟩ ⟨128 * j.val + e.val, by omega⟩)
      = Gcols a0 (ix3 b t ⟨128 * j.val + e.val, by omega⟩)
          * Ideal.div 1 (1 + Ideal.exp (-Gcols a0 (ix3 b t ⟨128 * j.val + e.val, by omega⟩)))
        * (headNorm (retained a0 a1 a4 a5 a7 a8) (ix4 b t j e) * a2 (ix2 0 ⟨128 * j.val + e.val, by omega⟩)
            + a3 (ix2 0 ⟨128 * j.val + e.val, by omega⟩)) := by
  pointwise [output]

end Cert.RetsRefIdeal

end
-- ==== Proof.RetsTile.lean ====
/- One head of the retention kernel's body, as functions of its tiles, read at an entry. -/
module

public import proofs.«01_k».proof.Proof.Gen.RetsIdeal.Frame
public import proofs.«01_k».proof.Proof.RetsRef
public import Idealize.ShloMosaic.Lib.Pipeline.ValueKit

@[expose] public section

set_option maxRecDepth 16384

noncomputable section

open Idealize.ShloMosaic Idealize.ShloMosaic.TcCoe Idealize.SL.Sem

namespace Cert.RetsIdeal.Ret

open Cert.RetsIdeal Cert.RetsIdeal.Gen
open Cert.RetsRefIdeal (rot keys state scores retained headNorm)

/-- A tile of a head turned by each row's angles: the body rotates the lanes by half a head and signs the sines. -/
def turned (cc ss x : FVec Ideal S64x128 .f32) : FVec Ideal S64x128 .f32 :=
  addf (mulf x (shapeCast S64x128 cc shapeCasts_S64x128_S64x128))
    (mulf (dynamicRotate 1 64#32 none x rotates_S64x128_d1) (shapeCast S64x128 ss shapeCasts_S64x128_S64x128))

/-- A tile of keys, turned and scaled. -/
def keyTile (cc ss k : FVec Ideal S64x128 .f32) : FVec Ideal S64x128 .f32 :=
  mulf (turned cc ss k) (broadcast S64x128 (Scalar.ofBits .f32 0x3DB504F3#32))

/-- A head's state after the chunk, with `w` the word of the head's chunk decay. -/
def stateTile (w : BitVec 32) (cc ss k v : FVec Ideal S64x128 .f32) (s : FVec Ideal S1x128x128 .f32) (kd : FVec Ideal S1x64x128 .f32) :
    FVec Ideal S1x128x128 .f32 :=
  shapeCast S1x128x128 (addf (mulf (shapeCast S128x128 s shapeCasts_S1x128x128_S128x128) (broadcast S128x128 (Scalar.ofBits .f32 w)))
    (matmul dot_S64x128_S64x128_S128x128_0_0_1_1_n_n none
      (truncf .bf16 (mulf (keyTile cc ss k) (shapeCast S64x128 kd shapeCasts_S1x64x128_S64x128)) bitsLt_bf16_f32)
      (truncf .bf16 v bitsLt_bf16_f32) (constant S128x128 .f32 0x00000000#32))) shapeCasts_S128x128_S1x128x128

/-- A head's decayed scores. -/
def scoreTile (cc ss q k : FVec Ideal S64x128 .f32) (dec : FVec Ideal S1x64x64 .f32) : FVec Ideal S64x64 .f32 :=
  mulf (matmul dot_S64x128_S64x128_S64x64_1_1_0_0_n_n none (truncf .bf16 (turned cc ss q) bitsLt_bf16_f32)
    (truncf .bf16 (keyTile cc ss k) bitsLt_bf16_f32) (constant S64x64 .f32 0x00000000#32)) (shapeCast S64x64 dec shapeCasts_S1x64x64_S64x64)

/-- What a head retains: within the chunk and from the carried state. -/
def mixTile (cc ss q k v : FVec Ideal S64x128 .f32) (dec : FVec Ideal S1x64x64 .f32) (s : FVec Ideal S1x128x128 .f32)
    (qd : FVec Ideal S1x64x128 .f32) : FVec Ideal S64x128 .f32 :=
  addf (matmul dot_S64x64_S64x128_S64x128_1_0_0_1_n_n none (truncf .bf16 (scoreTile cc ss q k dec) bitsLt_bf16_f32)
      (truncf .bf16 v bitsLt_bf16_f32) (constant S64x128 .f32 0x00000000#32))
    (matmul dot_S64x128_S128x128_S64x128_1_0_0_1_n_n none
      (truncf .bf16 (mulf (turned cc ss q) (shapeCast S64x128 qd shapeCasts_S1x64x128_S64x128)) bitsLt_bf16_f32)
      (truncf .bf16 (shapeCast S128x128 s shapeCasts_S1x128x128_S128x128) bitsLt_bf16_f32) (constant S64x128 .f32 0x00000000#32))

/-- The head's row means, -/
def meanTile (y : FVec Ideal S64x128 .f32) : FVec Ideal S64x1 .f32 :=
  divf (shapeCast S64x1 (multiReduction .add [1] S64 y 0x00000000#32 reduces_S64x128_S64 (.inl rfl) rfl) shapeCasts_S64_S64x1)
    (broadcast S64x1 (Scalar.ofBits .f32 0x43000000#32))

variable (a7 a8 : FVec Ideal S64x64 .f32) (cc ss : FVec Ideal S64x128 .f32)

/-- The two lane tables hold the cosines twice and the sines, the first half of them negated. -/
structure Angles : Prop where
  cos_lo : ∀ (r d : Fin 64), cc (ix2 r ⟨d.val, by omega⟩) = a7 (ix2 r d)
  cos_hi : ∀ (r d : Fin 64), cc (ix2 r ⟨64 + d.val, by omega⟩) = a7 (ix2 r d)
  sin_lo : ∀ (r d : Fin 64), ss (ix2 r ⟨d.val, by omega⟩) = -a8 (ix2 r d)
  sin_hi : ∀ (r d : Fin 64), ss (ix2 r ⟨64 + d.val, by omega⟩) = a8 (ix2 r d)

variable {a7 a8 cc ss}

/-- A turned tile in its first half is the reference's rotary embedding, -/
theorem turned_lo (ha : Angles a7 a8 cc ss) {x : FVec Ideal S64x128 .f32} {X : FVec Ideal Cert.RetsRefIdeal.S8x64x8x128 .f32} {b j : Fin 8}
    (hx : ∀ r d, x (ix2 r d) = X (ix4 b r j d)) (r e : Fin 64) :
    turned cc ss x (ix2 r ⟨e.val, by omega⟩) = rot X a7 a8 (ix4 b r j ⟨e.val, by omega⟩) := by
  rw [Cert.RetsRefIdeal.rot_lo]
  pointwise [turned]
  rw [ha.cos_lo, ha.sin_lo, show (⟨(e.val + 128 - 64) % 128, by omega⟩ : Fin 128) = ⟨64 + e.val, by omega⟩ from Fin.ext (by dsimp only; omega),
    hx, hx, mul_neg, sub_eq_add_neg]

/-- and in its second. -/
theorem turned_hi (ha : Angles a7 a8 cc ss) {x : FVec Ideal S64x128 .f32} {X : FVec Ideal Cert.RetsRefIdeal.S8x64x8x128 .f32} {b j : Fin 8}
    (hx : ∀ r d, x (ix2 r d) = X (ix4 b r j d)) (r e : Fin 64) :
    turned cc ss x (ix2 r ⟨64 + e.val, by omega⟩) = rot X a7 a8 (ix4 b r j ⟨64 + e.val, by omega⟩) := by
  rw [Cert.RetsRefIdeal.rot_hi]
  pointwise [turned]
  rw [ha.cos_hi, ha.sin_hi, show (⟨(64 + e.val + 128 - 64) % 128, by omega⟩ : Fin 128) = ⟨e.val, by omega⟩ from Fin.ext (by dsimp only; omega),
    hx, hx, add_comm]

/-- A turned tile holds the reference's rotary embedding. -/
theorem turned_entry (ha : Angles a7 a8 cc ss) {x : FVec Ideal S64x128 .f32} {X : FVec Ideal Cert.RetsRefIdeal.S8x64x8x128 .f32} {b j : Fin 8}
    (hx : ∀ r d, x (ix2 r d) = X (ix4 b r j d)) (r : Fin 64) (d : Fin 128) :
    turned cc ss x (ix2 r d) = rot X a7 a8 (ix4 b r j d) := by
  rcases Nat.lt_or_ge d.val 64 with h | h
  · exact turned_lo ha hx r ⟨d.val, h⟩
  · have e : d = ⟨64 + (⟨d.val - 64, by omega⟩ : Fin 64).val, by omega⟩ := Fin.ext (by dsimp only; omega)
    exact (congrArg (fun d => turned cc ss x (ix2 r d) = rot X a7 a8 (ix4 b r j d)) e).mpr (turned_hi ha hx r ⟨d.val - 64, by omega⟩)

variable {a0 : FVec Ideal Cert.RetsRefIdeal.S33280x16896 .f32} {a1 : FVec Ideal Cert.RetsRefIdeal.S8x8x128x128 .f32}
  {a4 : FVec Ideal Cert.RetsRefIdeal.S8x64x64 .f32} {a5 a6 : FVec Ideal Cert.RetsRefIdeal.S8x64 .f32}
  {b j : Fin 8} {q k v : FVec Ideal S64x128 .f32} {s : FVec Ideal S1x128x128 .f32} {dec : FVec Ideal S1x64x64 .f32} {qd kd : FVec Ideal S1x64x128 .f32}

/-- A tile of keys holds the reference's keys. -/
theorem keyTile_entry (ha : Angles a7 a8 cc ss) (hk : ∀ r d, k (ix2 r d) = Cert.RetsRefIdeal.Kh a0 (ix4 b r j d)) (r : Fin 64) (d : Fin 128) :
    keyTile cc ss k (ix2 r d) = keys a0 a7 a8 (ix4 b r j d) := by
  rw [Cert.RetsRefIdeal.keys_entry, ← turned_entry ha hk]
  pointwise [keyTile]

/-- A head's state tile holds the reference's state. -/
theorem stateTile_entry (ha : Angles a7 a8 cc ss) (hk : ∀ r d, k (ix2 r d) = Cert.RetsRefIdeal.Kh a0 (ix4 b r j d))
    (hv : ∀ r d, v (ix2 r d) = Cert.RetsRefIdeal.Vh a0 (ix4 b r j d)) (hs : ∀ d e, s (ix3 0 d e) = a1 (ix4 b j d e))
    (hd : ∀ r d, kd (ix3 0 r d) = a6 (ix2 j r)) (d e : Fin 128) :
    stateTile (Cert.RetsRefIdeal.lit0 j) cc ss k v s kd (ix3 0 d e) = state a0 a1 a6 a7 a8 (ix4 b j d e) := by
  rw [Cert.RetsRefIdeal.state_entry, ← hs]
  simp only [← keyTile_entry ha hk, ← hv]
  pointwise [stateTile]
  simp only [hd]

/-- A head's scores are the reference's. -/
theorem scoreTile_entry (ha : Angles a7 a8 cc ss) (hq : ∀ r d, q (ix2 r d) = Cert.RetsRefIdeal.Qh a0 (ix4 b r j d))
    (hk : ∀ r d, k (ix2 r d) = Cert.RetsRefIdeal.Kh a0 (ix4 b r j d)) (hd : ∀ t s, dec (ix3 0 t s) = a4 (ix3 j t s)) (t s : Fin 64) :
    scoreTile cc ss q k dec (ix2 t s) = scores a0 a4 a7 a8 (ix4 b j t s) := by
  rw [Cert.RetsRefIdeal.scores_entry, ← hd]
  simp only [← keyTile_entry ha hk, ← turned_entry ha hq]
  pointwise [scoreTile]

/-- What a head's tile retains is what the reference's head does. -/
theorem mixTile_entry (ha : Angles a7 a8 cc ss) (hq : ∀ r d, q (ix2 r d) = Cert.RetsRefIdeal.Qh a0 (ix4 b r j d))
    (hk : ∀ r d, k (ix2 r d) = Cert.RetsRefIdeal.Kh a0 (ix4 b r j d)) (hv : ∀ r d, v (ix2 r d) = Cert.RetsRefIdeal.Vh a0 (ix4 b r j d))
    (hd : ∀ t s, dec (ix3 0 t s) = a4 (ix3 j t s)) (hs : ∀ d e, s (ix3 0 d e) = a1 (ix4 b j d e))
    (hqd : ∀ r d, qd (ix3 0 r d) = a5 (ix2 j r)) (t : Fin 64) (e : Fin 128) :
    mixTile cc ss q k v dec s qd (ix2 t e) = retained a0 a1 a4 a5 a7 a8 (ix4 b t j e) := by
  rw [Cert.RetsRefIdeal.retained_entry]
  simp only [← scoreTile_entry ha hq hk hd, ← turned_entry ha hq, ← hv, ← hs]
  pointwise [mixTile]
  simp only [hqd]

/-- A normalised tile. -/
def normTile (y : FVec Ideal S64x128 .f32) : FVec Ideal S64x128 .f32 :=
  mulf (subf y (broadcastTo S64x128 (meanTile y) broadcasts_S64x1_S64x128))
    (broadcastTo S64x128 (rsqrt (addf (meanTile (mulf (subf y (broadcastTo S64x128 (meanTile y) broadcasts_S64x1_S64x128))
      (subf y (broadcastTo S64x128 (meanTile y) broadcasts_S64x1_S64x128)))) (broadcast S64x1 (Scalar.ofBits .f32 0x3727C5AC#32)))) broadcasts_S64x1_S64x128)

/-- A normalised tile holds the reference's normalised head. -/
theorem normTile_entry {y : FVec Ideal S64x128 .f32} {Y : FVec Ideal Cert.RetsRefIdeal.S8x64x8x128 .f32} {b j : Fin 8}
    (hy : ∀ r d, y (ix2 r d) = Y (ix4 b r j d)) (r : Fin 64) (d : Fin 128) :
    normTile y (ix2 r d) = headNorm Y (ix4 b r j d) := by
  pointwise [normTile, meanTile, headNorm, Cert.RetsRefIdeal.centred]
  simp only [hy]

end Cert.RetsIdeal.Ret

end
-- ==== Proof.RetsValue.lean ====
/- What the retention kernel leaves in its two results is what the reference computes. -/
module

public import proofs.«01_k».proof.Proof.RetsTile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.RetsIdeal.Ret

open Cert.RetsIdeal Cert.RetsIdeal.Gen
open Cert.RetsRefIdeal (rot keys state scores retained headNorm)

variable (m : (ℓ : Loc nD τ sig) → Buf (Elt Ideal) ℓ)

/-- Where step `t` places each window's block. -/
theorem place : ∀ t : Fin cfg0.N, win0_0.index t = ![512 + t.val, 7] ∧ win0_1.index t = ![512 + t.val, 8]
    ∧ win0_2.index t = ![512 + t.val, 9] ∧ win0_3.index t = ![512 + t.val, 10] ∧ win0_4.index t = ![512 + t.val, 11]
    ∧ win0_5.index t = ![512 + t.val, 12] ∧ win0_6.index t = ![512 + t.val, 13] ∧ win0_7.index t = ![512 + t.val, 14]
    ∧ win0_8.index t = ![0, 0] ∧ win0_9.index t = ![0, 0] ∧ win0_10.index t = ![0, 0, 0] ∧ win0_11.index t = ![0, 0, 0]
    ∧ win0_12.index t = ![0, 0, 0] ∧ win0_13.index t = ![t.val, 0, 0, 0] ∧ win0_14.index t = ![0, 0] ∧ win0_15.index t = ![0, 0]
    ∧ win0_16.index t = ![t.val, 0] ∧ win0_17.index t = ![t.val, 0, 0, 0] :=
  (by decide +kernel : ∀ t : Fin grid0.N, _)

/-- The sequence of step `t`. -/
def seq (t : Fin cfg0.N) : Fin 8 := ⟨t.val, t.isLt⟩

variable {m} {c : Dev nD} {t : Fin cfg0.N}

/-- A column block of the projections, read at an entry. -/
theorem q0 (r : Fin 64) (d : Fin 512) : (iblk m c 0 t : Vec Ideal S64x512 .f32) (ix2 r d)
    = m ((c : Thread nD τ).loc main_arg0) (ix2 ⟨32768 + 64 * (seq t).val + r.val, by omega⟩ ⟨3584 + d.val, by omega⟩) := by
  blk_point [iblk, V, place t, seq]

theorem q1 (r : Fin 64) (d : Fin 512) : (iblk m c 1 t : Vec Ideal S64x512 .f32) (ix2 r d)
    = m ((c : Thread nD τ).loc main_arg0) (ix2 ⟨32768 + 64 * (seq t).val + r.val, by omega⟩ ⟨4096 + d.val, by omega⟩) := by
  blk_point [iblk, V, place t, seq]

theorem k0 (r : Fin 64) (d : Fin 512) : (iblk m c 2 t : Vec Ideal S64x512 .f32) (ix2 r d)
    = m ((c : Thread nD τ).loc main_arg0) (ix2 ⟨32768 + 64 * (seq t).val + r.val, by omega⟩ ⟨4608 + d.val, by omega⟩) := by
  blk_point [iblk, V, place t, seq]

theorem k1 (r : Fin 64) (d : Fin 512) : (iblk m c 3 t : Vec Ideal S64x512 .f32) (ix2 r d)
    = m ((c : Thread nD τ).loc main_arg0) (ix2 ⟨32768 + 64 * (seq t).val + r.val, by omega⟩ ⟨5120 + d.val, by omega⟩) := by
  blk_point [iblk, V, place t, seq]

theorem v0 (r : Fin 64) (d : Fin 512) : (iblk m c 4 t : Vec Ideal S64x512 .f32) (ix2 r d)
    = m ((c : Thread nD τ).loc main_arg0) (ix2 ⟨32768 + 64 * (seq t).val + r.val, by omega⟩ ⟨5632 + d.val, by omega⟩) := by
  blk_point [iblk, V, place t, seq]

theorem v1 (r : Fin 64) (d : Fin 512) : (iblk m c 5 t : Vec Ideal S64x512 .f32) (ix2 r d)
    = m ((c : Thread nD τ).loc main_arg0) (ix2 ⟨32768 + 64 * (seq t).val + r.val, by omega⟩ ⟨6144 + d.val, by omega⟩) := by
  blk_point [iblk, V, place t, seq]

theorem g0 (r : Fin 64) (d : Fin 512) : (iblk m c 6 t : Vec Ideal S64x512 .f32) (ix2 r d)
    = m ((c : Thread nD τ).loc main_arg0) (ix2 ⟨32768 + 64 * (seq t).val + r.val, by omega⟩ ⟨6656 + d.val, by omega⟩) := by
  blk_point [iblk, V, place t, seq]

theorem g1 (r : Fin 64) (d : Fin 512) : (iblk m c 7 t : Vec Ideal S64x512 .f32) (ix2 r d)
    = m ((c : Thread nD τ).loc main_arg0) (ix2 ⟨32768 + 64 * (seq t).val + r.val, by omega⟩ ⟨7168 + d.val, by omega⟩) := by
  blk_point [iblk, V, place t, seq]

/-- The tables the steps share. -/
theorem dec_entry (j : Fin 8) (r s : Fin 64) : (iblk m c 10 t : Vec Ideal S8x64x64 .f32) (ix3 j r s)
    = m ((c : Thread nD τ).loc main_arg4) (ix3 j r s) := by
  blk_point [iblk, V, place t]

theorem qd_entry (j : Fin 8) (r : Fin 64) (d : Fin 128) : (iblk m c 11 t : Vec Ideal S8x64x128 .f32) (ix3 j r d)
    = m ((c : Thread nD τ).loc main_arg5) (ix2 j r) := by
  blk_point [iblk, V, place t]

theorem kd_entry (j : Fin 8) (r : Fin 64) (d : Fin 128) : (iblk m c 12 t : Vec Ideal S8x64x128 .f32) (ix3 j r d)
    = m ((c : Thread nD τ).loc main_arg6) (ix2 j r) := by
  blk_point [iblk, V, place t]

theorem s0_entry (j : Fin 8) (d e : Fin 128) : (iblk m c 13 t : Vec Ideal S1x8x128x128 .f32) (ix4 0 j d e)
    = m ((c : Thread nD τ).loc main_arg1) (ix4 (seq t) j d e) := by
  blk_point [iblk, V, place t, seq]

theorem lng_entry (d : Fin 1024) : (iblk m c 14 t : Vec Ideal S1x1024 .f32) (ix2 0 d)
    = m ((c : Thread nD τ).loc main_arg2) (ix2 0 d) := by
  blk_point [iblk, V, place t]

theorem lnb_entry (d : Fin 1024) : (iblk m c 15 t : Vec Ideal S1x1024 .f32) (ix2 0 d)
    = m ((c : Thread nD τ).loc main_arg3) (ix2 0 d) := by
  blk_point [iblk, V, place t]

/-- The lane tables' blocks are the whole tables, -/
theorem cc_whole (r : Fin 64) (d : Fin 128) :
    (iblk m c 8 t : Vec Ideal S64x128 .f32) (ix2 r d) = (V m c main_v4 : Vec Ideal S64x128 .f32) (ix2 r d) := by
  blk_point [iblk, place t]

theorem ss_whole (r : Fin 64) (d : Fin 128) :
    (iblk m c 9 t : Vec Ideal S64x128 .f32) (ix2 r d) = (V m c main_v6 : Vec Ideal S64x128 .f32) (ix2 r d) := by
  blk_point [iblk, place t]

/-- the cosines twice, and the sines, the first half of them negated. -/
theorem angles : Angles (m ((c : Thread nD τ).loc main_arg7)) (m ((c : Thread nD τ).loc main_arg8))
    (iblk m c 8 t : Vec Ideal S64x128 .f32) (iblk m c 9 t : Vec Ideal S64x128 .f32) where
  cos_lo r d := by
    rw [cc_whole]
    entry_read
    pointwise []
  cos_hi r d := by
    rw [cc_whole]
    entry_read
    pointwise []
  sin_lo r d := by
    rw [ss_whole]
    entry_read
    pointwise []
  sin_hi r d := by
    rw [ss_whole]
    entry_read
    pointwise []

/-- A head's columns of a block, read as the reference's heads. -/
theorem q_head {W : FVec Ideal S64x512 .f32} {C o : ℕ} {j : Fin 8} {a0 : FVec Ideal Cert.RetsRefIdeal.S33280x16896 .f32} {hC : ∀ d : Fin 512, C + d.val < 16896}
    (hW : ∀ (r : Fin 64) (d : Fin 512), W (ix2 r d) = a0 (ix2 ⟨32768 + 64 * (seq t).val + r.val, by omega⟩ ⟨C + d.val, hC d⟩))
    (inb) (ho : C + o = 3584 + 128 * j.val) (r : Fin 64) (d : Fin 128) :
    (View.ld (Val := Elt Ideal) (e' := .f32) W (Rect.unit (s := S64x512) ![0, o] ![64, 128] inb) : FVec Ideal S64x128 .f32) (ix2 r d)
      = Cert.RetsRefIdeal.Qh a0 (ix4 (seq t) r j d) := by
  have h1 : o + 128 ≤ 512 := inb 1
  rw [Cert.RetsRefIdeal.Qh_entry]
  refine (View.ld_unit_apply_of (Val := Elt Ideal) (e := .f32) (S := S64x512) W ![0, o] ![64, 128] inb _ (ix2 r ⟨o + d.val, by omega⟩) fun a => ?_).trans ?_
  · fin_cases a
    · exact (Nat.zero_add _).symm
    · rfl
  · rw [hW]; exact congrArg a0 (congrArg (ix2 _) (Fin.ext (by dsimp only; omega)))

theorem k_head {W : FVec Ideal S64x512 .f32} {C o : ℕ} {j : Fin 8} {a0 : FVec Ideal Cert.RetsRefIdeal.S33280x16896 .f32} {hC : ∀ d : Fin 512, C + d.val < 16896}
    (hW : ∀ (r : Fin 64) (d : Fin 512), W (ix2 r d) = a0 (ix2 ⟨32768 + 64 * (seq t).val + r.val, by omega⟩ ⟨C + d.val, hC d⟩))
    (inb) (ho : C + o = 4608 + 128 * j.val) (r : Fin 64) (d : Fin 128) :
    (View.ld (Val := Elt Ideal) (e' := .f32) W (Rect.unit (s := S64x512) ![0, o] ![64, 128] inb) : FVec Ideal S64x128 .f32) (ix2 r d)
      = Cert.RetsRefIdeal.Kh a0 (ix4 (seq t) r j d) := by
  have h1 : o + 128 ≤ 512 := inb 1
  rw [Cert.RetsRefIdeal.Kh_entry]
  refine (View.ld_unit_apply_of (Val := Elt Ideal) (e := .f32) (S := S64x512) W ![0, o] ![64, 128] inb _ (ix2 r ⟨o + d.val, by omega⟩) fun a => ?_).trans ?_
  · fin_cases a
    · exact (Nat.zero_add _).symm
    · rfl
  · rw [hW]; exact congrArg a0 (congrArg (ix2 _) (Fin.ext (by dsimp only; omega)))

theorem v_head {W : FVec Ideal S64x512 .f32} {C o : ℕ} {j : Fin 8} {a0 : FVec Ideal Cert.RetsRefIdeal.S33280x16896 .f32} {hC : ∀ d : Fin 512, C + d.val < 16896}
    (hW : ∀ (r : Fin 64) (d : Fin 512), W (ix2 r d) = a0 (ix2 ⟨32768 + 64 * (seq t).val + r.val, by omega⟩ ⟨C + d.val, hC d⟩))
    (inb) (ho : C + o = 5632 + 128 * j.val) (r : Fin 64) (d : Fin 128) :
    (View.ld (Val := Elt Ideal) (e' := .f32) W (Rect.unit (s := S64x512) ![0, o] ![64, 128] inb) : FVec Ideal S64x128 .f32) (ix2 r d)
      = Cert.RetsRefIdeal.Vh a0 (ix4 (seq t) r j d) := by
  have h1 : o + 128 ≤ 512 := inb 1
  rw [Cert.RetsRefIdeal.Vh_entry]
  refine (View.ld_unit_apply_of (Val := Elt Ideal) (e := .f32) (S := S64x512) W ![0, o] ![64, 128] inb _ (ix2 r ⟨o + d.val, by omega⟩) fun a => ?_).trans ?_
  · fin_cases a
    · exact (Nat.zero_add _).symm
    · rfl
  · rw [hW]; exact congrArg a0 (congrArg (ix2 _) (Fin.ext (by dsimp only; omega)))

/-- A head's slice of a stack of tables. -/
theorem stack_head {n1 n2 : ℕ} {W : FVec Ideal ⟨3, ![8, n1, n2]⟩ .f32} {o : ℕ} (j : Fin 8) (ho : o = j.val) (inb) (r : Fin n1) (d : Fin n2) :
    (View.ld (Val := Elt Ideal) (e' := .f32) W (Rect.unit (s := ⟨3, ![8, n1, n2]⟩) ![o, 0, 0] ![1, n1, n2] inb) : FVec Ideal ⟨3, ![1, n1, n2]⟩ .f32) (ix3 0 r d)
      = W (ix3 j r d) := by
  refine (View.ld_unit_apply_of (Val := Elt Ideal) (e := .f32) (S := ⟨3, ![8, n1, n2]⟩) W ![o, 0, 0] ![1, n1, n2] inb _ (ix3 j r d) fun a => ?_)
  fin_cases a
  · exact ho.symm
  · exact (Nat.zero_add _).symm
  · exact (Nat.zero_add _).symm

/-- The carried state of a head. -/
theorem carried_entry (j : Fin 8) (d e : Fin 128) : k0_pay3 (iblk m c 13 t : Vec Ideal S1x8x128x128 .f32) (ix3 j d e)
    = m ((c : Thread nD τ).loc main_arg1) (ix4 (seq t) j d e) := by
  refine Eq.trans ?_ (s0_entry j d e)
  pointwise [k0_pay3]

theorem dec_head {o : ℕ} (j : Fin 8) (ho : o = j.val) (inb) (r s : Fin 64) :
    (View.ld (Val := Elt Ideal) (e' := .f32) (iblk m c 10 t : Vec Ideal S8x64x64 .f32) (Rect.unit (s := S8x64x64) ![o, 0, 0] ![1, 64, 64] inb) : FVec Ideal S1x64x64 .f32)
      (ix3 0 r s) = m ((c : Thread nD τ).loc main_arg4) (ix3 j r s) :=
  (stack_head j ho inb r s).trans (dec_entry j r s)

theorem qd_head {o : ℕ} (j : Fin 8) (ho : o = j.val) (inb) (r : Fin 64) (d : Fin 128) :
    (View.ld (Val := Elt Ideal) (e' := .f32) (iblk m c 11 t : Vec Ideal S8x64x128 .f32) (Rect.unit (s := S8x64x128) ![o, 0, 0] ![1, 64, 128] inb) : FVec Ideal S1x64x128 .f32)
      (ix3 0 r d) = m ((c : Thread nD τ).loc main_arg5) (ix2 j r) :=
  (stack_head j ho inb r d).trans (qd_entry j r d)

theorem kd_head {o : ℕ} (j : Fin 8) (ho : o = j.val) (inb) (r : Fin 64) (d : Fin 128) :
    (View.ld (Val := Elt Ideal) (e' := .f32) (iblk m c 12 t : Vec Ideal S8x64x128 .f32) (Rect.unit (s := S8x64x128) ![o, 0, 0] ![1, 64, 128] inb) : FVec Ideal S1x64x128 .f32)
      (ix3 0 r d) = m ((c : Thread nD τ).loc main_arg6) (ix2 j r) :=
  (stack_head j ho inb r d).trans (kd_entry j r d)

theorem s_head {o : ℕ} (j : Fin 8) (ho : o = j.val) (inb) (d e : Fin 128) :
    (View.ld (Val := Elt Ideal) (e' := .f32) (k0_pay3 (iblk m c 13 t : Vec Ideal S1x8x128x128 .f32)) (Rect.unit (s := S8x128x128) ![o, 0, 0] ![1, 128, 128] inb) : FVec Ideal S1x128x128 .f32)
      (ix3 0 d e) = m ((c : Thread nD τ).loc main_arg1) (ix4 (seq t) j d e) :=
  (stack_head j ho inb d e).trans (carried_entry j d e)

/-- Eight stores, one a head, over whatever was there before, leave the function their payloads are heads of. -/
theorem heads (G : FVec Ideal S8x128x128 .f32) {i0 i1 i2 i3 i4 i5 i6 i7} {P0 P1 P2 P3 P4 P5 P6 P7 : FVec Ideal S1x128x128 .f32} {L'}
    (h0 : ∀ d e, P0 (ix3 0 d e) = G (ix3 0 d e)) (h1 : ∀ d e, P1 (ix3 0 d e) = G (ix3 1 d e))
    (h2 : ∀ d e, P2 (ix3 0 d e) = G (ix3 2 d e)) (h3 : ∀ d e, P3 (ix3 0 d e) = G (ix3 3 d e))
    (h4 : ∀ d e, P4 (ix3 0 d e) = G (ix3 4 d e)) (h5 : ∀ d e, P5 (ix3 0 d e) = G (ix3 5 d e))
    (h6 : ∀ d e, P6 (ix3 0 d e) = G (ix3 6 d e)) (h7 : ∀ d e, P7 (ix3 0 d e) = G (ix3 7 d e)) (j : Fin 8) (d e : Fin 128) :
    View.canon (Val := Elt Ideal) (s := S8x128x128) (e := .f32)
      (⟨Rect.unit ![7, 0, 0] ![1, 128, 128] i7, P7⟩ :: ⟨Rect.unit ![6, 0, 0] ![1, 128, 128] i6, P6⟩ :: ⟨Rect.unit ![5, 0, 0] ![1, 128, 128] i5, P5⟩
        :: ⟨Rect.unit ![4, 0, 0] ![1, 128, 128] i4, P4⟩ :: ⟨Rect.unit ![3, 0, 0] ![1, 128, 128] i3, P3⟩ :: ⟨Rect.unit ![2, 0, 0] ![1, 128, 128] i2, P2⟩
        :: ⟨Rect.unit ![1, 0, 0] ![1, 128, 128] i1, P1⟩ :: ⟨Rect.unit ![0, 0, 0] ![1, 128, 128] i0, P0⟩ :: L') (ix3 j d e) = G (ix3 j d e) := by
  have key : ∀ (o : Fin 8) (off : Fin 3 → ℕ) (hoff : off = ![o.val, 0, 0]) (inb) (d e : Fin 128),
      (Rect.unit (s := S8x128x128) off ![1, 128, 128] inb).emb (ix3 0 d e) = ix3 o d e := by
    intro o off hoff inb d e
    subst hoff
    refine funext fun a => Fin.ext ((Rect.idx_unit_val (s := S8x128x128) _ ![1, 128, 128] inb _ a).trans ?_)
    fin_cases a
    · rfl
    · exact Nat.zero_add _
    · exact Nat.zero_add _
  have piece : ∀ (o : Fin 8) (off : Fin 3 → ℕ) (hoff : off = ![o.val, 0, 0]) (inb) (P : FVec Ideal S1x128x128 .f32)
      (hP : ∀ d e, P (ix3 0 d e) = G (ix3 o d e)) (x : S1x128x128.Idx), P x = G ((Rect.unit (s := S8x128x128) off ![1, 128, 128] inb).emb x) := by
    intro o off hoff inb P hP x
    obtain ⟨d, e, rfl⟩ : ∃ d e : Fin 128, x = ix3 0 d e := ⟨x 1, x 2, by
      funext a; fin_cases a
      · exact Fin.ext (by have : (x 0).val < 1 := (x 0).isLt; show (x 0).val = 0; omega)
      · rfl
      · rfl⟩
    exact (hP d e).trans (congrArg G (key o off hoff inb d e).symm)
  refine View.canon_append_of_piecesOf (Val := Elt Ideal) (s := S8x128x128) (e := .f32) G L'
    [⟨Rect.unit ![7, 0, 0] ![1, 128, 128] i7, P7⟩, ⟨Rect.unit ![6, 0, 0] ![1, 128, 128] i6, P6⟩, ⟨Rect.unit ![5, 0, 0] ![1, 128, 128] i5, P5⟩,
      ⟨Rect.unit ![4, 0, 0] ![1, 128, 128] i4, P4⟩, ⟨Rect.unit ![3, 0, 0] ![1, 128, 128] i3, P3⟩, ⟨Rect.unit ![2, 0, 0] ![1, 128, 128] i2, P2⟩,
      ⟨Rect.unit ![1, 0, 0] ![1, 128, 128] i1, P1⟩, ⟨Rect.unit ![0, 0, 0] ![1, 128, 128] i0, P0⟩]
    ⟨piece 7 _ rfl i7 P7 h7, piece 6 _ rfl i6 P6 h6, piece 5 _ rfl i5 P5 h5, piece 4 _ rfl i4 P4 h4, piece 3 _ rfl i3 P3 h3, piece 2 _ rfl i2 P2 h2,
      piece 1 _ rfl i1 P1 h1, piece 0 _ rfl i0 P0 h0, trivial⟩ (ix3 j d e) ?_
  have mem : ∀ (o : Fin 8) (off : Fin 3 → ℕ) (hoff : off = ![o.val, 0, 0]) (inb),
      ix3 o d e ∈ (Rect.unit (s := S8x128x128) off ![1, 128, 128] inb).set := by
    intro o off hoff inb
    rw [← key o off hoff inb d e]
    rw [← Rect.map_emb_univ]; exact Finset.mem_map_of_mem _ (Finset.mem_univ _)
  match j with
  | 0 => exact ⟨⟨Rect.unit ![0, 0, 0] ![1, 128, 128] i0, P0⟩, by simp only [List.mem_cons]; tauto, mem 0 _ rfl i0⟩
  | 1 => exact ⟨⟨Rect.unit ![1, 0, 0] ![1, 128, 128] i1, P1⟩, by simp only [List.mem_cons]; tauto, mem 1 _ rfl i1⟩
  | 2 => exact ⟨⟨Rect.unit ![2, 0, 0] ![1, 128, 128] i2, P2⟩, by simp only [List.mem_cons]; tauto, mem 2 _ rfl i2⟩
  | 3 => exact ⟨⟨Rect.unit ![3, 0, 0] ![1, 128, 128] i3, P3⟩, by simp only [List.mem_cons]; tauto, mem 3 _ rfl i3⟩
  | 4 => exact ⟨⟨Rect.unit ![4, 0, 0] ![1, 128, 128] i4, P4⟩, by simp only [List.mem_cons]; tauto, mem 4 _ rfl i4⟩
  | 5 => exact ⟨⟨Rect.unit ![5, 0, 0] ![1, 128, 128] i5, P5⟩, by simp only [List.mem_cons]; tauto, mem 5 _ rfl i5⟩
  | 6 => exact ⟨⟨Rect.unit ![6, 0, 0] ![1, 128, 128] i6, P6⟩, by simp only [List.mem_cons]; tauto, mem 6 _ rfl i6⟩
  | 7 => exact ⟨⟨Rect.unit ![7, 0, 0] ![1, 128, 128] i7, P7⟩, by simp only [List.mem_cons]; tauto, mem 7 _ rfl i7⟩

set_option maxHeartbeats 2000000 in
/-- The states after the chunk. -/
theorem whole17 (m : (ℓ : Loc nD τ sig) → Buf (Elt Ideal) ℓ) (c : Dev nD) : (dats m 0 c).arrAt 17 (cfgs 0).N
    = state (m ((c : Thread nD τ).loc main_arg0)) (m ((c : Thread nD τ).loc main_arg1)) (m ((c : Thread nD τ).loc main_arg6))
        (m ((c : Thread nD τ).loc main_arg7)) (m ((c : Thread nD τ).loc main_arg8)) := by
  refine (dats m 0 c).arrAt_eq_of_covers 17 _ (by decide +kernel) fun t _ y => ?_
  blk_simp
  rw [after0_17]; dsimp only [outsAt0]; frame_open; simp (disch := decide) only [↓View.readCov_skip, ↓View.readCov_fill]; frame_out
  obtain ⟨j, d, e, rfl⟩ : ∃ (j : Fin 8) (d e : Fin 128), y = ix4 0 j d e := ⟨y 1, y 2, y 3, by
    funext a; fin_cases a
    · exact Fin.ext (by have : (y 0).val < 1 := (y 0).isLt; show (y 0).val = 0; omega)
    · rfl
    · rfl
    · rfl⟩
  have hemb : ((View.whole main_v7_1).slice (win0_17.rect t)).emb (ix4 0 j d e) = ix4 (seq t) j d e := by
    refine funext fun a => Fin.ext ((win0_17.rect_emb_val t (ix4 0 j d e) a).trans ?_)
    rw [(place t).2.2.2.2.2.2.2.2.2.2.2.2.2.2.2.2.2]
    fin_cases a
    · show t.val * 1 + 0 = t.val
      omega
    · exact Nat.zero_add _
    · exact Nat.zero_add _
    · exact Nat.zero_add _
  rw [hemb]
  pointwise [k0_pay2]
  rw [View.readCov_eq_canon']
  have full : ∀ inb, (Rect.unit (s := S8x128x128) ![0, 0, 0] ![8, 128, 128] inb).toLoadRect.idx (ix3 j d e) = ix3 j d e := by
    intro inb
    refine funext fun a => Fin.ext ((Rect.idx_unit_val (s := S8x128x128) _ ![8, 128, 128] inb _ a).trans ?_)
    fin_cases a <;> exact Nat.zero_add _
  refine (congrArg _ (full _)).trans ?_
  refine heads (fun i => state (m ((c : Thread nD τ).loc main_arg0)) (m ((c : Thread nD τ).loc main_arg1)) (m ((c : Thread nD τ).loc main_arg6))
        (m ((c : Thread nD τ).loc main_arg7)) (m ((c : Thread nD τ).loc main_arg8)) (ix4 (seq t) (i 0) (i 1) (i 2)))
    (fun d e => ?_) (fun d e => ?_) (fun d e => ?_) (fun d e => ?_) (fun d e => ?_) (fun d e => ?_) (fun d e => ?_) (fun d e => ?_) j d e
  · exact stateTile_entry (j := 0) angles (k_head k0 _ rfl) (v_head v0 _ rfl) (s_head 0 rfl _) (kd_head 0 rfl _) d e
  · exact stateTile_entry (j := 1) angles (k_head k0 _ rfl) (v_head v0 _ rfl) (s_head 1 rfl _) (kd_head 1 rfl _) d e
  · exact stateTile_entry (j := 2) angles (k_head k0 _ rfl) (v_head v0 _ rfl) (s_head 2 rfl _) (kd_head 2 rfl _) d e
  · exact stateTile_entry (j := 3) angles (k_head k0 _ rfl) (v_head v0 _ rfl) (s_head 3 rfl _) (kd_head 3 rfl _) d e
  · exact stateTile_entry (j := 4) angles (k_head k1 _ rfl) (v_head v1 _ rfl) (s_head 4 rfl _) (kd_head 4 rfl _) d e
  · exact stateTile_entry (j := 5) angles (k_head k1 _ rfl) (v_head v1 _ rfl) (s_head 5 rfl _) (kd_head 5 rfl _) d e
  · exact stateTile_entry (j := 6) angles (k_head k1 _ rfl) (v_head v1 _ rfl) (s_head 6 rfl _) (kd_head 6 rfl _) d e
  · exact stateTile_entry (j := 7) angles (k_head k1 _ rfl) (v_head v1 _ rfl) (s_head 7 rfl _) (kd_head 7 rfl _) d e

/-- Eight heads side by side. -/
def sides (p0 p1 p2 p3 p4 p5 p6 p7 : FVec Ideal S64x128 .f32) : FVec Ideal S64x1024 .f32 :=
  concatenate S64x1024 1 [⟨S64x128, p0⟩, ⟨S64x128, p1⟩, ⟨S64x128, p2⟩, ⟨S64x128, p3⟩, ⟨S64x128, p4⟩, ⟨S64x128, p5⟩, ⟨S64x128, p6⟩, ⟨S64x128, p7⟩]
    concatenates_S64x128_S64x128_S64x128_S64x128_S64x128_S64x128_S64x128_S64x128_S64x1024_d1

set_option maxHeartbeats 2000000 in
/-- A head's columns of them. -/
theorem sides_entry {p0 p1 p2 p3 p4 p5 p6 p7 : FVec Ideal S64x128 .f32} {Y : FVec Ideal Cert.RetsRefIdeal.S8x64x8x128 .f32} {b : Fin 8}
    (h0 : ∀ r e, p0 (ix2 r e) = Y (ix4 b r 0 e)) (h1 : ∀ r e, p1 (ix2 r e) = Y (ix4 b r 1 e)) (h2 : ∀ r e, p2 (ix2 r e) = Y (ix4 b r 2 e))
    (h3 : ∀ r e, p3 (ix2 r e) = Y (ix4 b r 3 e)) (h4 : ∀ r e, p4 (ix2 r e) = Y (ix4 b r 4 e)) (h5 : ∀ r e, p5 (ix2 r e) = Y (ix4 b r 5 e))
    (h6 : ∀ r e, p6 (ix2 r e) = Y (ix4 b r 6 e)) (h7 : ∀ r e, p7 (ix2 r e) = Y (ix4 b r 7 e)) (r : Fin 64) (j : Fin 8) (e : Fin 128) :
    sides p0 p1 p2 p3 p4 p5 p6 p7 (ix2 r ⟨128 * j.val + e.val, by omega⟩) = Y (ix4 b r j e) := by
  match j with
  | 0 =>
    rw [← h0]
    pointwise [sides]
    all_goals (repeat' split) <;> first | (exfalso; omega) | exact congrArg p0 (congrArg (ix2 r) (Fin.ext (by dsimp only; omega)))
  | 1 =>
    rw [← h1]
    pointwise [sides]
    all_goals (repeat' split) <;> first | (exfalso; omega) | exact congrArg p1 (congrArg (ix2 r) (Fin.ext (by dsimp only; omega)))
  | 2 =>
    rw [← h2]
    pointwise [sides]
    all_goals (repeat' split) <;> first | (exfalso; omega) | exact congrArg p2 (congrArg (ix2 r) (Fin.ext (by dsimp only; omega)))
  | 3 =>
    rw [← h3]
    pointwise [sides]
    all_goals (repeat' split) <;> first | (exfalso; omega) | exact congrArg p3 (congrArg (ix2 r) (Fin.ext (by dsimp only; omega)))
  | 4 =>
    rw [← h4]
    pointwise [sides]
    all_goals (repeat' split) <;> first | (exfalso; omega) | exact congrArg p4 (congrArg (ix2 r) (Fin.ext (by dsimp only; omega)))
  | 5 =>
    rw [← h5]
    pointwise [sides]
    all_goals (repeat' split) <;> first | (exfalso; omega) | exact congrArg p5 (congrArg (ix2 r) (Fin.ext (by dsimp only; omega)))
  | 6 =>
    rw [← h6]
    pointwise [sides]
    all_goals (repeat' split) <;> first | (exfalso; omega) | exact congrArg p6 (congrArg (ix2 r) (Fin.ext (by dsimp only; omega)))
  | 7 =>
    rw [← h7]
    pointwise [sides]
    all_goals (repeat' split) <;> first | (exfalso; omega) | exact congrArg p7 (congrArg (ix2 r) (Fin.ext (by dsimp only; omega)))

/-- The gated, scaled and shifted rows of a tile. -/
def outTile (n : FVec Ideal S64x1024 .f32) (g b : FVec Ideal S1x1024 .f32) (x y : FVec Ideal S64x512 .f32) : FVec Ideal S64x1024 .bf16 :=
  k0_pay1 (addf (mulf n (broadcastTo S64x1024 g broadcasts_S1x1024_S64x1024)) (broadcastTo S64x1024 b broadcasts_S1x1024_S64x1024)) (k0_pay76 x y) k0_pay77

/-- An entry of them. -/
theorem outTile_entry {n : FVec Ideal S64x1024 .f32} {g b : FVec Ideal S1x1024 .f32} {x y : FVec Ideal S64x512 .f32} (r : Fin 64) (l : Fin 1024) :
    outTile n g b x y (ix2 r l) = k0_pay76 (F := Ideal) x y (ix2 r l) * Ideal.div 1 (1 + Ideal.exp (-k0_pay76 (F := Ideal) x y (ix2 r l)))
      * (n (ix2 r l) * g (ix2 0 l) + b (ix2 0 l)) := by
  generalize hG : k0_pay76 (F := Ideal) x y = G
  rw [outTile, hG]
  pointwise [k0_pay1, k0_pay77]
  simp only [zero_sub]

/-- The gates' columns of the projections. -/
theorem gate_entry {x y : FVec Ideal S64x512 .f32} {a0 : FVec Ideal Cert.RetsRefIdeal.S33280x16896 .f32}
    (hx : ∀ (r : Fin 64) (d : Fin 512), x (ix2 r d) = a0 (ix2 ⟨32768 + 64 * (seq t).val + r.val, by omega⟩ ⟨6656 + d.val, by omega⟩))
    (hy : ∀ (r : Fin 64) (d : Fin 512), y (ix2 r d) = a0 (ix2 ⟨32768 + 64 * (seq t).val + r.val, by omega⟩ ⟨7168 + d.val, by omega⟩))
    (r : Fin 64) (l : Fin 1024) : k0_pay76 (F := Ideal) x y (ix2 r l) = Cert.RetsRefIdeal.Gcols a0 (ix3 (seq t) r l) := by
  have e : Cert.RetsRefIdeal.Gcols a0 (ix3 (seq t) r l) = a0 (ix2 ⟨32768 + 64 * (seq t).val + r.val, by omega⟩ ⟨6656 + l.val, by omega⟩) := by
    pointwise [Cert.RetsRefIdeal.Gcols, Cert.RetsRefIdeal.rows]
    exact congrArg a0 (congrArg₂ ix2 (Fin.ext (by dsimp only; omega)) (Fin.ext (by dsimp only; omega)))
  rw [e]
  rcases Nat.lt_or_ge l.val 512 with h | h
  · refine Eq.trans ?_ (hx r ⟨l.val, h⟩)
    pointwise [k0_pay76]
    exact dif_pos h
  · refine Eq.trans ?_ ((hy r ⟨l.val - 512, by omega⟩).trans (congrArg a0 (congrArg (ix2 _) (Fin.ext (by dsimp only; omega)))))
    pointwise [k0_pay76]
    exact dif_neg (by omega)

/-- The end of the kernel's body, as the tile of gated rows: the last head is normalised there. -/
theorem end_eq (p0 p1 p2 p3 p4 p5 p6 a b : FVec Ideal S64x128 .f32) (g d : FVec Ideal S1x1024 .f32) (x y : FVec Ideal S64x512 .f32) :
    k0_pay1 (k0_pay75 p0 p1 p2 p3 p4 p5 p6 a b g d) (k0_pay76 x y) k0_pay77 = outTile (sides p0 p1 p2 p3 p4 p5 p6 (normTile (addf a b))) g d x y := rfl

set_option maxHeartbeats 4000000 in
/-- The gated, normalised retentions. -/
theorem whole16 (m : (ℓ : Loc nD τ sig) → Buf (Elt Ideal) ℓ) (c : Dev nD) : (dats m 0 c).arrAt 16 (cfgs 0).N
    = Cert.RetsRefIdeal.output (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg7)) (m ((c : Thread nD τ).loc main_arg8)) := by
  refine (dats m 0 c).arrAt_eq_of_covers 16 _ (by decide +kernel) fun t _ y => ?_
  blk_simp
  rw [after0_16]; dsimp only [outsAt0]; frame_open; simp (disch := decide) only [↓View.readCov_skip, ↓View.readCov_fill]; frame_out
  obtain ⟨r, l, rfl⟩ : ∃ (r : Fin 64) (l : Fin 1024), y = ix2 r l := ⟨y 0, y 1, by funext a; fin_cases a <;> rfl⟩
  have hemb : ((View.whole main_v7_0).slice (win0_16.rect t)).emb (ix2 r l) = ix2 ⟨64 * (seq t).val + r.val, by omega⟩ l := by
    refine funext fun a => Fin.ext ((win0_16.rect_emb_val t (ix2 r l) a).trans ?_)
    rw [(place t).2.2.2.2.2.2.2.2.2.2.2.2.2.2.2.2.1]
    fin_cases a
    · show t.val * 64 + r.val = 64 * t.val + r.val
      omega
    · exact Nat.zero_add _
  rw [hemb]
  obtain ⟨j, e, rfl⟩ : ∃ (j : Fin 8) (e : Fin 128), l = ⟨128 * j.val + e.val, by omega⟩ :=
    ⟨⟨l.val / 128, by omega⟩, ⟨l.val % 128, by omega⟩, Fin.ext (by dsimp only; omega)⟩
  rw [Cert.RetsRefIdeal.output_entry, end_eq, outTile_entry, gate_entry g0 g1, lng_entry, lnb_entry]
  refine congrArg₂ HMul.hMul rfl (congrArg₂ HAdd.hAdd (congrArg₂ HMul.hMul ?_ rfl) rfl)
  refine sides_entry (fun r e => ?_) (fun r e => ?_) (fun r e => ?_) (fun r e => ?_) (fun r e => ?_) (fun r e => ?_) (fun r e => ?_) (fun r e => ?_) r j e
  · exact normTile_entry (fun r d => mixTile_entry (j := 0) angles (q_head q0 _ rfl) (k_head k0 _ rfl) (v_head v0 _ rfl) (dec_head 0 rfl _) (s_head 0 rfl _) (qd_head 0 rfl _) r d) r e
  · exact normTile_entry (fun r d => mixTile_entry (j := 1) angles (q_head q0 _ rfl) (k_head k0 _ rfl) (v_head v0 _ rfl) (dec_head 1 rfl _) (s_head 1 rfl _) (qd_head 1 rfl _) r d) r e
  · exact normTile_entry (fun r d => mixTile_entry (j := 2) angles (q_head q0 _ rfl) (k_head k0 _ rfl) (v_head v0 _ rfl) (dec_head 2 rfl _) (s_head 2 rfl _) (qd_head 2 rfl _) r d) r e
  · exact normTile_entry (fun r d => mixTile_entry (j := 3) angles (q_head q0 _ rfl) (k_head k0 _ rfl) (v_head v0 _ rfl) (dec_head 3 rfl _) (s_head 3 rfl _) (qd_head 3 rfl _) r d) r e
  · exact normTile_entry (fun r d => mixTile_entry (j := 4) angles (q_head q1 _ rfl) (k_head k1 _ rfl) (v_head v1 _ rfl) (dec_head 4 rfl _) (s_head 4 rfl _) (qd_head 4 rfl _) r d) r e
  · exact normTile_entry (fun r d => mixTile_entry (j := 5) angles (q_head q1 _ rfl) (k_head k1 _ rfl) (v_head v1 _ rfl) (dec_head 5 rfl _) (s_head 5 rfl _) (qd_head 5 rfl _) r d) r e
  · exact normTile_entry (fun r d => mixTile_entry (j := 6) angles (q_head q1 _ rfl) (k_head k1 _ rfl) (v_head v1 _ rfl) (dec_head 6 rfl _) (s_head 6 rfl _) (qd_head 6 rfl _) r d) r e
  · exact normTile_entry (fun r d => mixTile_entry (j := 7) angles (q_head q1 _ rfl) (k_head k1 _ rfl) (v_head v1 _ rfl) (dec_head 7 rfl _) (s_head 7 rfl _) (qd_head 7 rfl _) r d) r e

end Cert.RetsIdeal.Ret

end
-- ==== Proof.AttsRef.lean ====
/- The reference's attention of the sample windows: its result named, and read at an entry. -/
module

public import proofs.«01_k».proof.Proof.Gen.AttsRefIdeal
public import proofs.«01_k».proof.Proof.Gen.AttsRefIdeal.Run
public import Idealize.ShloMosaic.Lib.Pipeline.ValueKit

@[expose] public section

set_option maxRecDepth 16384

noncomputable section

open Idealize.ShloMosaic Idealize.ShloMosaic.TcCoe Idealize.SL.Sem

namespace Cert.AttsRefIdeal

open Cert.AttsRefIdeal.Gen

/-- A window's rows by heads, -/
def heads (a : FVec Ideal S6144x1024 .f32) : FVec Ideal S8x768x16x64 .f32 := shapeCast _ a shapeCasts_S6144x1024_S8x768x16x64

/-- and the queries, the last 256 rows of a window. -/
def queries (a : FVec Ideal S6144x1024 .f32) : FVec Ideal S8x256x16x64 .f32 :=
  extractStridedSlice S8x256x16x64 ![0, 512, 0, 0] (heads a) slices_S8x768x16x64_S8x256x16x64_0_512_0_0

/-- The scaled scores with the bias. -/
def scores (a0 a1 : FVec Ideal S6144x1024 .f32) (a3 : FVec Ideal S16x256x768 .f32) : FVec Ideal S8x16x256x768 .f32 :=
  addf (mulf (Host.dotGeneral dot_S8x256x16x64_S8x768x16x64_S8x16x256x768_3_3_1_1_02_02 none (queries a0) (heads a1))
    (broadcastInDim S8x16x256x768 ![] bcast_S_S8x16x256x768 (constant S_ .f32 0x3E000000#32)))
    (broadcastInDim S8x16x256x768 ![0, 1, 2, 3] bcast_S1x16x256x768_S8x16x256x768_0_1_2_3
      (broadcastInDim S1x16x256x768 ![1, 2, 3] bcast_S16x256x768_S1x16x256x768_1_2_3 a3))

/-- The largest of each row of scores. -/
def top (s : FVec Ideal S8x16x256x768 .f32) : FVec Ideal S8x16x256 .f32 :=
  Host.reduce FloatOps.maximumf s (constant S_ .f32 0xFF800000#32) reducesTo_S8x16x256x768_S8x16x256_d3 h_S_

/-- The exponentials of scores less their row's largest. -/
def raised (s : FVec Ideal S8x16x256x768 .f32) : FVec Ideal S8x16x256x768 .f32 :=
  Host.exp (subf s (broadcastInDim S8x16x256x768 ![0, 1, 2, 3] bcast_S8x16x256x1_S8x16x256x768_0_1_2_3
    (broadcastInDim S8x16x256x1 ![0, 1, 2] bcast_S8x16x256_S8x16x256x1_0_1_2
      (maximumf (broadcastInDim S8x16x256 ![] bcast_S_S8x16x256 (constant S_ .f32 0xFF800000#32))
        (top s)))))

/-- The largest of a row, no less than where it starts. -/
theorem max_top (c : EReal) (f : Fin 768 → EReal) : max c (Finset.univ.fold max c f) = Finset.univ.fold max c f :=
  max_eq_right ((Finset.le_fold_max _).2 (.inl le_rfl))

/-- A constant, read at an entry. -/
theorem constant_at {s : Shape} (w : BitVec 32) (i : s.Idx) : constant (F := Ideal) s .f32 w i = FloatOps.ofBits .f32 w := rfl

/-- The largest of each row from any start. -/
theorem reduce_at (S : FVec Ideal S8x16x256x768 .f32) (k : FVec Ideal S_ .f32) (j : S8x16x256.Idx) :
    Host.reduce FloatOps.maximumf S k reducesTo_S8x16x256x768_S8x16x256_d3 h_S_ j
      = Finset.univ.fold max (k (Shape.Idx.first h_S_)) fun w : Fin 768 => S (ix4 (j 0) (j 1) (j 2) w) := by
  simp only [pointwise]

theorem top_at (S : FVec Ideal S8x16x256x768 .f32) (b : Fin 8) (h : Fin 16) (r : Fin 256) : top S (ix3 b h r)
    = Finset.univ.fold max (FloatOps.ofBits (F := Ideal) .f32 0xFF800000#32) fun k : Fin 768 => S (ix4 b h r k) := by
  rw [top, reduce_at, constant_at]
  rfl

/-- Exponentials of entries less the larger of two parts. -/
theorem exp_at (S : FVec Ideal S8x16x256x768 .f32) (k : FVec Ideal S_ .f32) (z : FVec Ideal S8x16x256 .f32) (b : Fin 8) (h : Fin 16) (r : Fin 256) (w : Fin 768) :
    Host.exp (subf S (broadcastInDim S8x16x256x768 ![0, 1, 2, 3] bcast_S8x16x256x1_S8x16x256x768_0_1_2_3
      (broadcastInDim S8x16x256x1 ![0, 1, 2] bcast_S8x16x256_S8x16x256x1_0_1_2
        (maximumf (broadcastInDim S8x16x256 ![] bcast_S_S8x16x256 k) z)))) (ix4 b h r w)
      = Ideal.exp (S (ix4 b h r w) - max (k (fun a => a.elim0)) (z (ix3 b h r))) := by
  pointwise []
  try exact congrArg (fun i => Ideal.exp (S (ix4 b h r w) - max (k i) (z (ix3 b h r)))) (funext fun a => a.elim0)

theorem raised_top (S : FVec Ideal S8x16x256x768 .f32) (b : Fin 8) (h : Fin 16) (r : Fin 256) (w : Fin 768) :
    raised S (ix4 b h r w)
      = Ideal.exp (S (ix4 b h r w) - max (FloatOps.ofBits (F := Ideal) .f32 0xFF800000#32) (top S (ix3 b h r))) := by
  rw [raised, exp_at, constant_at]

/-- The softmax of scores. -/
def weights (s : FVec Ideal S8x16x256x768 .f32) : FVec Ideal S8x16x256x768 .f32 :=
  Host.divf (raised s) (broadcastInDim S8x16x256x768 ![0, 1, 2, 3] bcast_S8x16x256x1_S8x16x256x768_0_1_2_3
    (broadcastInDim S8x16x256x1 ![0, 1, 2] bcast_S8x16x256_S8x16x256x1_0_1_2
      (Host.reduceAdd (raised s) (constant S_ .f32 0x00000000#32) reducesTo_S8x16x256x768_S8x16x256_d3 h_S_)))

/-- The output rows: the weighted sums of the values, the heads side by side. -/
def output (a0 a1 a2 : FVec Ideal S6144x1024 .f32) (a3 : FVec Ideal S16x256x768 .f32) : FVec Ideal S2048x1024 .bf16 :=
  truncf .bf16 (shapeCast _ (transpose S8x256x16x64 [0, 3, 1, 2]
    (Host.dotGeneral dot_S8x768x16x64_S8x16x256x768_S8x16x64x256_1_3_3_2_02_01 none (heads a2) (weights (scores a0 a1 a3)))
    transposes_S8x16x64x256_S8x256x16x64_0_3_1_2) shapeCasts_S8x256x16x64_S2048x1024) bitsLt_bf16_f32

/-- The reference program's result is those rows. -/
theorem result_eq (m : (ℓ : Loc nD τ sig) → Buf (Elt Ideal) ℓ) (c : Dev nD) : Value.res_main_v24 m c
    = output (m ((c.tc : Thread nD τ).loc main_arg0)) (m ((c.tc : Thread nD τ).loc main_arg1)) (m ((c.tc : Thread nD τ).loc main_arg2))
        (m ((c.tc : Thread nD τ).loc main_arg3)) := by
  unfold Value.res_main_v24 output weights raised scores queries heads; rfl

/-- An entry of the heads is the window's, -/
theorem heads_entry (a : FVec Ideal S6144x1024 .f32) (b : Fin 8) (w : Fin 768) (h : Fin 16) (d : Fin 64) :
    heads a (ix4 b w h d) = a (ix2 ⟨768 * b.val + w.val, by omega⟩ ⟨64 * h.val + d.val, by omega⟩) := by
  pointwise [heads]
  exact congrArg a (congrArg₂ ix2 (Fin.ext (by dsimp only; omega)) (Fin.ext (by dsimp only; omega)))

/-- and so is one of the queries. -/
theorem queries_entry (a : FVec Ideal S6144x1024 .f32) (b : Fin 8) (r : Fin 256) (h : Fin 16) (d : Fin 64) :
    queries a (ix4 b r h d) = a (ix2 ⟨768 * b.val + 512 + r.val, by omega⟩ ⟨64 * h.val + d.val, by omega⟩) := by
  pointwise [queries, heads]
  exact congrArg a (congrArg₂ ix2 (Fin.ext (by dsimp only; omega)) (Fin.ext (by dsimp only; omega)))

/-- An entry of the scores. -/
theorem scores_entry (a0 a1 : FVec Ideal S6144x1024 .f32) (a3 : FVec Ideal S16x256x768 .f32) (b : Fin 8) (h : Fin 16) (r : Fin 256) (w : Fin 768) :
    scores a0 a1 a3 (ix4 b h r w)
      = (∑ d : Fin 64, queries a0 (ix4 b r h d) * heads a1 (ix4 b w h d)) * Ideal.ofBits .f32 0x3E000000#32 + a3 (ix3 h r w) := by
  pointwise [scores]

/-- An entry of the output. -/
theorem output_entry (a0 a1 a2 : FVec Ideal S6144x1024 .f32) (a3 : FVec Ideal S16x256x768 .f32) (b : Fin 8) (h : Fin 16) (r : Fin 256) (d : Fin 64) :
    output a0 a1 a2 a3 (ix2 ⟨256 * b.val + r.val, by omega⟩ ⟨64 * h.val + d.val, by omega⟩)
      = ∑ w : Fin 768, weights (scores a0 a1 a3) (ix4 b h r w) * heads a2 (ix4 b w h d) := by
  pointwise [output]
  exact Finset.sum_congr rfl fun _ _ => mul_comm _ _

end Cert.AttsRefIdeal

end
-- ==== Proof.AttsSoft.lean ====
/- The softmax of a head's tile of scores is the reference's. -/
module

public import proofs.«01_k».proof.Proof.Gen.AttsIdeal.Frame
public import proofs.«01_k».proof.Proof.AttsRef
public import Idealize.ShloMosaic.Lib.Pipeline.ValueKit

@[expose] public section

set_option maxRecDepth 16384

noncomputable section

open Idealize.ShloMosaic Idealize.ShloMosaic.TcCoe Idealize.SL.Sem

namespace Cert.AttsIdeal.Att

open Cert.AttsIdeal Cert.AttsIdeal.Gen
open Cert.AttsRefIdeal (weights)

/-- The largest of each row. -/
def topTile (s : FVec Ideal S256x768 .f32) : FVec Ideal S256 .f32 :=
  multiReduction .maximumf [1] S256 s 0xFF800000#32 reduces_S256x768_S256 (.inl rfl) rfl

/-- The exponentials of scores less their row's largest, -/
def raisedTile (s : FVec Ideal S256x768 .f32) : FVec Ideal S256x768 .f32 :=
  exp (subf s (broadcastTo S256x768 (shapeCast S256x1 (topTile s) shapeCasts_S256_S256x1) broadcasts_S256x1_S256x768))

/-- and their softmax. -/
def weightTile (s : FVec Ideal S256x768 .f32) : FVec Ideal S256x768 .bf16 :=
  truncf .bf16 (divf (raisedTile s) (broadcastTo S256x768 (shapeCast S256x1
    (multiReduction .add [1] S256 (raisedTile s) 0x00000000#32 reduces_S256x768_S256 (.inl rfl) rfl) shapeCasts_S256_S256x1) broadcasts_S256x1_S256x768)) bitsLt_bf16_f32

/-- The exponential of a row's entries less the row's largest. -/
def lifted (f : Fin 768 → EReal) (w : Fin 768) : EReal :=
  Ideal.exp (f w - Finset.univ.fold max (FloatOps.ofBits (F := Ideal) .f32 0xFF800000#32) f)

theorem topTile_idx (s : FVec Ideal S256x768 .f32) (j : S256.Idx) : topTile s j
    = Finset.univ.fold max (FloatOps.ofBits (F := Ideal) .f32 0xFF800000#32) fun k : Fin 768 => s (ix2 (j 0) k) := by
  unfold topTile
  simp only [pointwise]

theorem topTile_at (s : FVec Ideal S256x768 .f32) (r : Fin 256) : topTile s (ix1 r)
    = Finset.univ.fold max (FloatOps.ofBits (F := Ideal) .f32 0xFF800000#32) fun k : Fin 768 => s (ix2 r k) :=
  topTile_idx s (ix1 r)

theorem raisedTile_top (s : FVec Ideal S256x768 .f32) (r : Fin 256) (w : Fin 768) :
    raisedTile s (ix2 r w) = Ideal.exp (s (ix2 r w) - topTile s (ix1 r)) := by
  pointwise [raisedTile]

theorem raisedTile_at (s : FVec Ideal S256x768 .f32) (r : Fin 256) (w : Fin 768) : raisedTile s (ix2 r w) = lifted (fun x => s (ix2 r x)) w := by
  rw [raisedTile_top, topTile_at, lifted]

theorem raised_at (S : FVec Ideal Cert.AttsRefIdeal.S8x16x256x768 .f32) (b : Fin 8) (h : Fin 16) (r : Fin 256) (w : Fin 768) :
    Cert.AttsRefIdeal.raised S (ix4 b h r w) = lifted (fun x => S (ix4 b h r x)) w := by
  rw [Cert.AttsRefIdeal.raised_top, Cert.AttsRefIdeal.top_at, Cert.AttsRefIdeal.max_top, lifted]

theorem weightTile_at (s : FVec Ideal S256x768 .f32) (r : Fin 256) (w : Fin 768) :
    weightTile s (ix2 r w) = Ideal.div (raisedTile s (ix2 r w)) (∑ x : Fin 768, raisedTile s (ix2 r x)) := by
  pointwise [weightTile]

theorem weights_at (S : FVec Ideal Cert.AttsRefIdeal.S8x16x256x768 .f32) (b : Fin 8) (h : Fin 16) (r : Fin 256) (w : Fin 768) :
    weights S (ix4 b h r w) = Ideal.div (Cert.AttsRefIdeal.raised S (ix4 b h r w)) (∑ x : Fin 768, Cert.AttsRefIdeal.raised S (ix4 b h r x)) := by
  pointwise [weights]

/-- The tile's softmax is the reference's. -/
theorem weightTile_entry {s : FVec Ideal S256x768 .f32} {S : FVec Ideal Cert.AttsRefIdeal.S8x16x256x768 .f32} {b : Fin 8} {h : Fin 16} {r : Fin 256}
    (hs : ∀ w, s (ix2 r w) = S (ix4 b h r w)) (w : Fin 768) : weightTile s (ix2 r w) = weights S (ix4 b h r w) := by
  rw [weightTile_at, weights_at]
  simp only [raisedTile_at, raised_at, hs]

end Cert.AttsIdeal.Att

end
-- ==== Proof.AttsTile.lean ====
/- One head of the attention kernel's body, as functions of its tiles, read at an entry. -/
module

public import proofs.«01_k».proof.Proof.Gen.AttsIdeal.Frame
public import proofs.«01_k».proof.Proof.AttsSoft
public import Idealize.ShloMosaic.Lib.Pipeline.ValueKit

@[expose] public section

set_option maxRecDepth 16384

noncomputable section

open Idealize.ShloMosaic Idealize.ShloMosaic.TcCoe Idealize.SL.Sem

namespace Cert.AttsIdeal.Att

open Cert.AttsIdeal Cert.AttsIdeal.Gen
open Cert.AttsRefIdeal (weights heads queries scores output output_entry scores_entry)

/-- The lanes' numbers. -/
def number : IVec S1x128 32 := iota .tc S1x128 32 [1] iota_S1x128_d1_w32

/-- The head of each lane, its number over 64, as the body takes it: a division of integers, rounded down. -/
def laneHead : IVec S1x128 32 :=
  select (andi (cmpi .ne (subi (extui 32 (cmpi .sgt number (broadcast S1x128 0#32)) natLt_1_32) (extui 32 (cmpi .slt number (broadcast S1x128 0#32)) natLt_1_32))
      (broadcast S1x128 (Scalar.subi (Scalar.extui (Scalar.cmpi .sgt 64#32 0#32)) (Scalar.extui (Scalar.cmpi .slt 64#32 0#32)))))
    (cmpi .ne (remsi number (broadcast S1x128 64#32)) (broadcast S1x128 0#32)))
    (subi (divsi number (broadcast S1x128 64#32)) (broadcast S1x128 1#32)) (divsi number (broadcast S1x128 64#32))

/-- The lanes of the head `w` of a pair, over the rows of a tile. -/
def half (w : BitVec 32) : IVec S256x128 1 :=
  broadcastTo S256x128 (shapeCast S1x128 (cmpi .eq laneHead (broadcast S1x128 w)) shapeCasts_S1x128_S1x128) broadcasts_S1x128_S256x128

theorem eq_00 : Scalar.cmpi .eq 0#32 0#32 = 1#1 := by decide
theorem eq_01 : Scalar.cmpi .eq 0#32 1#32 = 0#1 := by decide
theorem eq_10 : Scalar.cmpi .eq 1#32 0#32 = 0#1 := by decide
theorem eq_11 : Scalar.cmpi .eq 1#32 1#32 = 1#1 := by decide

/-- The lanes below 64 are of head 0 of their pair, the others of head 1. -/
theorem laneHead_at : ∀ l : Fin 128, laneHead (ix2 0 l) = BitVec.ofNat 32 (l.val / 64) := by
  decide +kernel

theorem half_at (w : BitVec 32) (r : Fin 256) (l : Fin 128) : half w (ix2 r l) = Scalar.cmpi .eq (BitVec.ofNat 32 (l.val / 64)) w := by
  rw [← laneHead_at]
  pointwise [half]
  rfl

/-- A pair's queries, those of the other head zero. -/
def own (w : BitVec 32) (q : FVec Ideal S256x128 .f32) : FVec Ideal S256x128 .bf16 :=
  truncf .bf16 (select (half w) q (broadcast S256x128 (Scalar.ofBits .f32 0x00000000#32))) bitsLt_bf16_f32

/-- The scaled scores over a block of keys with the bias. -/
def scoreTile (w : BitVec 32) (q k : FVec Ideal S256x128 .f32) (b : FVec Ideal S1x256x256 .f32) : FVec Ideal S256x256 .f32 :=
  addf (mulf (matmul dot_S256x128_S256x128_S256x256_1_1_0_0_n_n none (own w q) (truncf .bf16 k bitsLt_bf16_f32) (constant S256x256 .f32 0x00000000#32))
    (broadcast S256x256 (Scalar.ofBits .f32 0x3E000000#32))) (shapeCast S256x256 b shapeCasts_S1x256x256_S256x256)

/-- Three blocks of scores side by side. -/
def row3 (s0 s1 s2 : FVec Ideal S256x256 .f32) : FVec Ideal S256x768 .f32 :=
  concatenate S256x768 1 [⟨S256x256, s0⟩, ⟨S256x256, s1⟩, ⟨S256x256, s2⟩] concatenates_S256x256_S256x256_S256x256_S256x768_d1

/-- The weighted sum of three blocks of values. -/
def mixTile (p : FVec Ideal S256x768 .bf16) (v0 v1 v2 : FVec Ideal S256x128 .f32) : FVec Ideal S256x128 .f32 :=
  addf (addf
    (matmul dot_S256x256_S256x128_S256x128_1_0_0_1_n_n none (extractStridedSlice S256x256 ![0, 0] p slices_S256x768_o0_0_S256x256)
      (truncf .bf16 v0 bitsLt_bf16_f32) (constant S256x128 .f32 0x00000000#32))
    (matmul dot_S256x256_S256x128_S256x128_1_0_0_1_n_n none (extractStridedSlice S256x256 ![0, 256] p slices_S256x768_o0_256_S256x256)
      (truncf .bf16 v1 bitsLt_bf16_f32) (constant S256x128 .f32 0x00000000#32)))
    (matmul dot_S256x256_S256x128_S256x128_1_0_0_1_n_n none (extractStridedSlice S256x256 ![0, 512] p slices_S256x768_o0_512_S256x256)
      (truncf .bf16 v2 bitsLt_bf16_f32) (constant S256x128 .f32 0x00000000#32))

/-- A block of scores where there is a block, the mask's value where there is none. -/
def gate (f : BitVec 1) (s : FVec Ideal S256x256 .f32) : FVec Ideal S256x256 .f32 :=
  Scalar.select f s (broadcast S256x256 (Scalar.ofBits .f32 0xF149F2CA#32))

/-- Where there is one, its scores. -/
theorem gate_one (s : FVec Ideal S256x256 .f32) : gate 1#1 s = s := by
  simp [gate, Scalar.select]

/-- A head's tile of the output. -/
def headTile (f g : BitVec 1) (w : BitVec 32) (q k0 k1 k2 v0 v1 v2 : FVec Ideal S256x128 .f32) (b0 b1 b2 : FVec Ideal S1x256x256 .f32) : FVec Ideal S256x128 .f32 :=
  mixTile (weightTile (row3 (gate f (scoreTile w q k0 b0)) (gate g (scoreTile w q k1 b1)) (scoreTile w q k2 b2))) v0 v1 v2

/-- Two heads of a pair, each in its lanes. -/
def pairTile (x y : FVec Ideal S256x128 .f32) : FVec Ideal S256x128 .f32 := select (half 0#32) x y

/-- Two pairs side by side. -/
def outTile (x y : FVec Ideal S256x128 .f32) : FVec Ideal S256x256 .bf16 :=
  truncf .bf16 (concatenate S256x256 1 [⟨S256x128, x⟩, ⟨S256x128, y⟩] concatenates_S256x128_S256x128_S256x256_d1) bitsLt_bf16_f32

/-- A sum over the lanes of a pair in which those of the other head are zero is the sum over the head's. -/
theorem sum_lo (f g : Fin 128 → EReal) : ∑ l : Fin 128, (if l.val / 64 = 0 then f l else 0) * g l = ∑ d : Fin 64, f ⟨d.val, by omega⟩ * g ⟨d.val, by omega⟩ := by
  have e : ∑ l : Fin 128, (if l.val / 64 = 0 then f l else 0) * g l = ∑ l : Fin (64 + 64), (if l.val / 64 = 0 then f l else 0) * g l := rfl
  rw [e, Fin.sum_univ_add]
  have h2 : ∑ d : Fin 64, (if (Fin.natAdd 64 d).val / 64 = 0 then f (Fin.natAdd 64 d) else 0) * g (Fin.natAdd 64 d) = 0 :=
    Finset.sum_eq_zero fun d _ => by
      rw [if_neg (by simp only [Fin.val_natAdd]; omega), zero_mul]
  refine (congrArg₂ (· + ·) (Finset.sum_congr rfl fun d _ => ?_) h2).trans (add_zero _)
  rw [if_pos (by simp only [Fin.val_castAdd]; omega)]
  rfl

theorem sum_hi (f g : Fin 128 → EReal) : ∑ l : Fin 128, (if l.val / 64 = 1 then f l else 0) * g l = ∑ d : Fin 64, f ⟨64 + d.val, by omega⟩ * g ⟨64 + d.val, by omega⟩ := by
  have e : ∑ l : Fin 128, (if l.val / 64 = 1 then f l else 0) * g l = ∑ l : Fin (64 + 64), (if l.val / 64 = 1 then f l else 0) * g l := rfl
  rw [e, Fin.sum_univ_add]
  have h2 : ∑ d : Fin 64, (if (Fin.castAdd 64 d).val / 64 = 1 then f (Fin.castAdd 64 d) else 0) * g (Fin.castAdd 64 d) = 0 :=
    Finset.sum_eq_zero fun d _ => by
      rw [if_neg (by simp only [Fin.val_castAdd]; omega), zero_mul]
  refine (congrArg₂ (· + ·) h2 (Finset.sum_congr rfl fun d _ => ?_)).trans (zero_add _)
  rw [if_pos (by simp only [Fin.val_natAdd]; omega)]
  rfl

/-- An entry of the kept queries. -/
theorem own_lo (q : FVec Ideal S256x128 .f32) (r : Fin 256) (l : Fin 128) : own 0#32 q (ix2 r l) = if l.val / 64 = 0 then q (ix2 r l) else 0 := by
  pointwise [own]
  rw [half_at]
  have h : l.val / 64 = 0 ∨ l.val / 64 = 1 := by omega
  rcases h with h | h <;> rw [h] <;> simp [Scalar.select, eq_00, eq_01, eq_10, eq_11]

theorem own_hi (q : FVec Ideal S256x128 .f32) (r : Fin 256) (l : Fin 128) : own 1#32 q (ix2 r l) = if l.val / 64 = 1 then q (ix2 r l) else 0 := by
  pointwise [own]
  rw [half_at]
  have h : l.val / 64 = 0 ∨ l.val / 64 = 1 := by omega
  rcases h with h | h <;> rw [h] <;> simp [Scalar.select, eq_00, eq_01, eq_10, eq_11]

/-- A block of scores. -/
theorem scoreTile_lo (q k : FVec Ideal S256x128 .f32) (b : FVec Ideal S1x256x256 .f32) (r s : Fin 256) : scoreTile 0#32 q k b (ix2 r s)
    = (∑ d : Fin 64, q (ix2 r ⟨d.val, by omega⟩) * k (ix2 s ⟨d.val, by omega⟩)) * Ideal.ofBits .f32 0x3E000000#32 + b (ix3 0 r s) := by
  pointwise [scoreTile]
  simp only [own_lo]
  rw [sum_lo (fun l => q (ix2 r l)) (fun l => k (ix2 s l))]

theorem scoreTile_hi (q k : FVec Ideal S256x128 .f32) (b : FVec Ideal S1x256x256 .f32) (r s : Fin 256) : scoreTile 1#32 q k b (ix2 r s)
    = (∑ d : Fin 64, q (ix2 r ⟨64 + d.val, by omega⟩) * k (ix2 s ⟨64 + d.val, by omega⟩)) * Ideal.ofBits .f32 0x3E000000#32 + b (ix3 0 r s) := by
  pointwise [scoreTile]
  simp only [own_hi]
  rw [sum_hi (fun l => q (ix2 r l)) (fun l => k (ix2 s l))]

/-- A row of three blocks of scores is a row over the window. -/
theorem row3_entry {s0 s1 s2 : FVec Ideal S256x256 .f32} {S : Fin 256 → Fin 768 → EReal}
    (h0 : ∀ r s : Fin 256, s0 (ix2 r s) = S r ⟨s.val, by omega⟩) (h1 : ∀ r s : Fin 256, s1 (ix2 r s) = S r ⟨256 + s.val, by omega⟩)
    (h2 : ∀ r s : Fin 256, s2 (ix2 r s) = S r ⟨512 + s.val, by omega⟩) (r : Fin 256) (w : Fin 768) : row3 s0 s1 s2 (ix2 r w) = S r w := by
  rcases Nat.lt_or_ge w.val 256 with h | h
  · refine Eq.trans ?_ (h0 r ⟨w.val, h⟩)
    pointwise [row3]
    all_goals (repeat' split) <;> first | (exfalso; omega) | exact congrArg s0 (congrArg (ix2 r) (Fin.ext (by dsimp only)))
  · rcases Nat.lt_or_ge w.val 512 with h' | h'
    · refine Eq.trans ?_ ((h1 r ⟨w.val - 256, by omega⟩).trans (congrArg (S r) (Fin.ext (by dsimp only; omega))))
      pointwise [row3]
      all_goals (repeat' split) <;> first | (exfalso; omega) | exact congrArg s1 (congrArg (ix2 r) (Fin.ext (by dsimp only)))
    · refine Eq.trans ?_ ((h2 r ⟨w.val - 512, by omega⟩).trans (congrArg (S r) (Fin.ext (by dsimp only; omega))))
      pointwise [row3]
      all_goals (repeat' split) <;> first | (exfalso; omega) | exact congrArg s2 (congrArg (ix2 r) (Fin.ext (by dsimp only; omega)))

/-- A sum over a window, block by block. -/
theorem sum_window (f : Fin 768 → EReal) : (∑ s : Fin 256, f ⟨s.val, by omega⟩) + (∑ s : Fin 256, f ⟨256 + s.val, by omega⟩)
    + (∑ s : Fin 256, f ⟨512 + s.val, by omega⟩) = ∑ w : Fin 768, f w := by
  have e : ∑ w : Fin 768, f w = ∑ w : Fin (256 + 256 + 256), f w := rfl
  rw [e, Fin.sum_univ_add, Fin.sum_univ_add]
  rfl

/-- The weighted sum over the window. -/
theorem mixTile_entry (p : FVec Ideal S256x768 .bf16) (v0 v1 v2 : FVec Ideal S256x128 .f32) {V : Fin 768 → EReal} (l : Fin 128)
    (h0 : ∀ s : Fin 256, v0 (ix2 s l) = V ⟨s.val, by omega⟩) (h1 : ∀ s : Fin 256, v1 (ix2 s l) = V ⟨256 + s.val, by omega⟩)
    (h2 : ∀ s : Fin 256, v2 (ix2 s l) = V ⟨512 + s.val, by omega⟩) (r : Fin 256) :
    mixTile p v0 v1 v2 (ix2 r l) = ∑ w : Fin 768, p (ix2 r w) * V w := by
  rw [← sum_window]
  simp only [← h0, ← h1, ← h2]
  pointwise [mixTile]

/-- The lower lanes of a pair. -/
theorem pairTile_lo (x y : FVec Ideal S256x128 .f32) (r : Fin 256) (d : Fin 64) : pairTile x y (ix2 r ⟨d.val, by omega⟩) = x (ix2 r ⟨d.val, by omega⟩) := by
  pointwise [pairTile]
  rw [half_at, show d.val / 64 = 0 by omega]
  simp [Scalar.select, eq_00, eq_01, eq_10, eq_11]

/-- The upper lanes. -/
theorem pairTile_hi (x y : FVec Ideal S256x128 .f32) (r : Fin 256) (d : Fin 64) : pairTile x y (ix2 r ⟨64 + d.val, by omega⟩) = y (ix2 r ⟨64 + d.val, by omega⟩) := by
  pointwise [pairTile]
  rw [half_at, show (64 + d.val) / 64 = 1 by omega]
  simp [Scalar.select, eq_00, eq_01, eq_10, eq_11]

/-- The first pair's columns, -/
theorem outTile_fst (x y : FVec Ideal S256x128 .f32) (r : Fin 256) (l : Fin 128) : outTile x y (ix2 r ⟨l.val, by omega⟩) = x (ix2 r l) := by
  pointwise [outTile]

/-- and the second's. -/
theorem outTile_snd (x y : FVec Ideal S256x128 .f32) (r : Fin 256) (l : Fin 128) : outTile x y (ix2 r ⟨128 + l.val, by omega⟩) = y (ix2 r l) := by
  pointwise [outTile]

/-- The tile of the first head of a pair is the reference's output of that head. -/
theorem head_lo {q k0 k1 k2 v0 v1 v2 : FVec Ideal S256x128 .f32} {b0 b1 b2 : FVec Ideal S1x256x256 .f32}
    {a0 a1 a2 : FVec Ideal Cert.AttsRefIdeal.S6144x1024 .f32} {a3 : FVec Ideal Cert.AttsRefIdeal.S16x256x768 .f32} {b : Fin 8} {h : Fin 16}
    (hq : ∀ (r : Fin 256) (d : Fin 64), q (ix2 r ⟨d.val, by omega⟩) = queries a0 (ix4 b r h d))
    (hk0 : ∀ (s : Fin 256) (d : Fin 64), k0 (ix2 s ⟨d.val, by omega⟩) = heads a1 (ix4 b ⟨s.val, by omega⟩ h d))
    (hk1 : ∀ (s : Fin 256) (d : Fin 64), k1 (ix2 s ⟨d.val, by omega⟩) = heads a1 (ix4 b ⟨256 + s.val, by omega⟩ h d))
    (hk2 : ∀ (s : Fin 256) (d : Fin 64), k2 (ix2 s ⟨d.val, by omega⟩) = heads a1 (ix4 b ⟨512 + s.val, by omega⟩ h d))
    (hv0 : ∀ (s : Fin 256) (d : Fin 64), v0 (ix2 s ⟨d.val, by omega⟩) = heads a2 (ix4 b ⟨s.val, by omega⟩ h d))
    (hv1 : ∀ (s : Fin 256) (d : Fin 64), v1 (ix2 s ⟨d.val, by omega⟩) = heads a2 (ix4 b ⟨256 + s.val, by omega⟩ h d))
    (hv2 : ∀ (s : Fin 256) (d : Fin 64), v2 (ix2 s ⟨d.val, by omega⟩) = heads a2 (ix4 b ⟨512 + s.val, by omega⟩ h d))
    (hb0 : ∀ r s : Fin 256, b0 (ix3 0 r s) = a3 (ix3 h r ⟨s.val, by omega⟩))
    (hb1 : ∀ r s : Fin 256, b1 (ix3 0 r s) = a3 (ix3 h r ⟨256 + s.val, by omega⟩))
    (hb2 : ∀ r s : Fin 256, b2 (ix3 0 r s) = a3 (ix3 h r ⟨512 + s.val, by omega⟩)) (r : Fin 256) (d : Fin 64) :
    headTile 1#1 1#1 0#32 q k0 k1 k2 v0 v1 v2 b0 b1 b2 (ix2 r ⟨d.val, by omega⟩)
      = output a0 a1 a2 a3 (ix2 ⟨256 * b.val + r.val, by omega⟩ ⟨64 * h.val + d.val, by omega⟩) := by
  rw [output_entry, headTile, gate_one, gate_one]
  refine (mixTile_entry _ _ _ _ (V := fun w => heads a2 (ix4 b w h d)) _ (fun s => hv0 s d) (fun s => hv1 s d) (fun s => hv2 s d) r).trans ?_
  refine Finset.sum_congr rfl fun w _ => congrArg₂ HMul.hMul (weightTile_entry (fun w => ?_) w) rfl
  refine row3_entry (S := fun r w => scores a0 a1 a3 (ix4 b h r w)) (fun r s => ?_) (fun r s => ?_) (fun r s => ?_) r w
  · rw [scoreTile_lo, scores_entry]; simp only [hq, hk0, hb0]
  · rw [scoreTile_lo, scores_entry]; simp only [hq, hk1, hb1]
  · rw [scoreTile_lo, scores_entry]; simp only [hq, hk2, hb2]

/-- The tile of the second head of a pair is the reference's output of that head. -/
theorem head_hi {q k0 k1 k2 v0 v1 v2 : FVec Ideal S256x128 .f32} {b0 b1 b2 : FVec Ideal S1x256x256 .f32}
    {a0 a1 a2 : FVec Ideal Cert.AttsRefIdeal.S6144x1024 .f32} {a3 : FVec Ideal Cert.AttsRefIdeal.S16x256x768 .f32} {b : Fin 8} {h : Fin 16}
    (hq : ∀ (r : Fin 256) (d : Fin 64), q (ix2 r ⟨64 + d.val, by omega⟩) = queries a0 (ix4 b r h d))
    (hk0 : ∀ (s : Fin 256) (d : Fin 64), k0 (ix2 s ⟨64 + d.val, by omega⟩) = heads a1 (ix4 b ⟨s.val, by omega⟩ h d))
    (hk1 : ∀ (s : Fin 256) (d : Fin 64), k1 (ix2 s ⟨64 + d.val, by omega⟩) = heads a1 (ix4 b ⟨256 + s.val, by omega⟩ h d))
    (hk2 : ∀ (s : Fin 256) (d : Fin 64), k2 (ix2 s ⟨64 + d.val, by omega⟩) = heads a1 (ix4 b ⟨512 + s.val, by omega⟩ h d))
    (hv0 : ∀ (s : Fin 256) (d : Fin 64), v0 (ix2 s ⟨64 + d.val, by omega⟩) = heads a2 (ix4 b ⟨s.val, by omega⟩ h d))
    (hv1 : ∀ (s : Fin 256) (d : Fin 64), v1 (ix2 s ⟨64 + d.val, by omega⟩) = heads a2 (ix4 b ⟨256 + s.val, by omega⟩ h d))
    (hv2 : ∀ (s : Fin 256) (d : Fin 64), v2 (ix2 s ⟨64 + d.val, by omega⟩) = heads a2 (ix4 b ⟨512 + s.val, by omega⟩ h d))
    (hb0 : ∀ r s : Fin 256, b0 (ix3 0 r s) = a3 (ix3 h r ⟨s.val, by omega⟩))
    (hb1 : ∀ r s : Fin 256, b1 (ix3 0 r s) = a3 (ix3 h r ⟨256 + s.val, by omega⟩))
    (hb2 : ∀ r s : Fin 256, b2 (ix3 0 r s) = a3 (ix3 h r ⟨512 + s.val, by omega⟩)) (r : Fin 256) (d : Fin 64) :
    headTile 1#1 1#1 1#32 q k0 k1 k2 v0 v1 v2 b0 b1 b2 (ix2 r ⟨64 + d.val, by omega⟩)
      = output a0 a1 a2 a3 (ix2 ⟨256 * b.val + r.val, by omega⟩ ⟨64 * h.val + d.val, by omega⟩) := by
  rw [output_entry, headTile, gate_one, gate_one]
  refine (mixTile_entry _ _ _ _ (V := fun w => heads a2 (ix4 b w h d)) _ (fun s => hv0 s d) (fun s => hv1 s d) (fun s => hv2 s d) r).trans ?_
  refine Finset.sum_congr rfl fun w _ => congrArg₂ HMul.hMul (weightTile_entry (fun w => ?_) w) rfl
  refine row3_entry (S := fun r w => scores a0 a1 a3 (ix4 b h r w)) (fun r s => ?_) (fun r s => ?_) (fun r s => ?_) r w
  · rw [scoreTile_hi, scores_entry]; simp only [hq, hk0, hb0]
  · rw [scoreTile_hi, scores_entry]; simp only [hq, hk1, hb1]
  · rw [scoreTile_hi, scores_entry]; simp only [hq, hk2, hb2]

end Cert.AttsIdeal.Att

end
-- ==== Proof.AttsValue.lean ====
/- What the attention kernel leaves in its result is what the reference computes. -/
module

public import proofs.«01_k».proof.Proof.AttsTile
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AttsIdeal.Att

open Cert.AttsIdeal Cert.AttsIdeal.Gen
open Cert.AttsRefIdeal (heads queries output heads_entry queries_entry)

variable (m : (ℓ : Loc nD τ sig) → Buf (Elt Ideal) ℓ)

/-- Where step `t` places each window's block: the sequence is `t % 8`, the group of four heads `t / 8`. -/
theorem place : ∀ t : Fin cfg0.N, win0_0.index t = ![3 * (t.val % 8) + 2, t.val / 8] ∧ win0_1.index t = ![3 * (t.val % 8), t.val / 8]
    ∧ win0_2.index t = ![3 * (t.val % 8) + 1, t.val / 8] ∧ win0_3.index t = ![3 * (t.val % 8) + 2, t.val / 8]
    ∧ win0_4.index t = ![3 * (t.val % 8), t.val / 8] ∧ win0_5.index t = ![3 * (t.val % 8) + 1, t.val / 8]
    ∧ win0_6.index t = ![3 * (t.val % 8) + 2, t.val / 8] ∧ win0_7.index t = ![t.val / 8, 0, 0] ∧ win0_8.index t = ![t.val % 8, t.val / 8] :=
  (by decide +kernel : ∀ t : Fin grid0.N, _)

/-- Every step has both earlier blocks. -/
theorem flag2 (i : grid0.Coords) : Scalar.cmpi .sge (Scalar.addi (BitVec.ofNat 32 (i 2).val) 2#32) 2#32 = 1#1 := by
  have h : (i 2).val < 1 := (i 2).isLt
  rw [show (i 2).val = 0 by omega]
  decide

theorem flag1 (i : grid0.Coords) : Scalar.cmpi .sge (Scalar.addi (BitVec.ofNat 32 (i 2).val) 2#32) 1#32 = 1#1 := by
  have h : (i 2).val < 1 := (i 2).isLt
  rw [show (i 2).val = 0 by omega]
  decide

/-- The sequence of step `t`, -/
def seq (t : Fin cfg0.N) : Fin 8 := ⟨t.val % 8, by omega⟩

/-- and its group of heads. -/
def grp (t : Fin cfg0.N) : Fin 4 := ⟨t.val / 8, by have : t.val < 32 := t.isLt; omega⟩

variable {m} {c : Dev nD} {t : Fin cfg0.N}

/-- The blocks of queries, keys and values, read at an entry, -/
theorem blk_q0 (r l : Fin 256) : (iblk m c 0 t : Vec Ideal S256x256 .f32) (ix2 r l)
    = m ((c : Thread nD τ).loc main_arg0) (ix2 ⟨768 * (seq t).val + 512 + r.val, by omega⟩ ⟨256 * (grp t).val + l.val, by omega⟩) := by
  blk_point [iblk, V, place t, seq, grp]

theorem blk_k0 (r l : Fin 256) : (iblk m c 1 t : Vec Ideal S256x256 .f32) (ix2 r l)
    = m ((c : Thread nD τ).loc main_arg1) (ix2 ⟨768 * (seq t).val + 0 + r.val, by omega⟩ ⟨256 * (grp t).val + l.val, by omega⟩) := by
  blk_point [iblk, V, place t, seq, grp]

theorem blk_k1 (r l : Fin 256) : (iblk m c 2 t : Vec Ideal S256x256 .f32) (ix2 r l)
    = m ((c : Thread nD τ).loc main_arg1) (ix2 ⟨768 * (seq t).val + 256 + r.val, by omega⟩ ⟨256 * (grp t).val + l.val, by omega⟩) := by
  blk_point [iblk, V, place t, seq, grp]

theorem blk_k2 (r l : Fin 256) : (iblk m c 3 t : Vec Ideal S256x256 .f32) (ix2 r l)
    = m ((c : Thread nD τ).loc main_arg1) (ix2 ⟨768 * (seq t).val + 512 + r.val, by omega⟩ ⟨256 * (grp t).val + l.val, by omega⟩) := by
  blk_point [iblk, V, place t, seq, grp]

theorem blk_v0 (r l : Fin 256) : (iblk m c 4 t : Vec Ideal S256x256 .f32) (ix2 r l)
    = m ((c : Thread nD τ).loc main_arg2) (ix2 ⟨768 * (seq t).val + 0 + r.val, by omega⟩ ⟨256 * (grp t).val + l.val, by omega⟩) := by
  blk_point [iblk, V, place t, seq, grp]

theorem blk_v1 (r l : Fin 256) : (iblk m c 5 t : Vec Ideal S256x256 .f32) (ix2 r l)
    = m ((c : Thread nD τ).loc main_arg2) (ix2 ⟨768 * (seq t).val + 256 + r.val, by omega⟩ ⟨256 * (grp t).val + l.val, by omega⟩) := by
  blk_point [iblk, V, place t, seq, grp]

theorem blk_v2 (r l : Fin 256) : (iblk m c 6 t : Vec Ideal S256x256 .f32) (ix2 r l)
    = m ((c : Thread nD τ).loc main_arg2) (ix2 ⟨768 * (seq t).val + 512 + r.val, by omega⟩ ⟨256 * (grp t).val + l.val, by omega⟩) := by
  blk_point [iblk, V, place t, seq, grp]

/-- and the block of the bias. -/
theorem blk_bias (j : Fin 4) (r : Fin 256) (w : Fin 768) : (iblk m c 7 t : Vec Ideal S4x256x768 .f32) (ix3 j r w)
    = m ((c : Thread nD τ).loc main_arg3) (ix3 ⟨4 * (grp t).val + j.val, by omega⟩ r w) := by
  blk_point [iblk, V, place t, grp]

/-- A pair's columns of a block, read at an entry. -/
theorem ld_pair (W : FVec Ideal S256x256 .f32) (o : ℕ) (inb) (r : Fin 256) (l : Fin 128) (l' : Fin 256) (h : l'.val = o + l.val) :
    (View.ld (Val := Elt Ideal) (e' := .f32) W (Rect.unit (s := S256x256) ![0, o] ![256, 128] inb) : FVec Ideal S256x128 .f32) (ix2 r l) = W (ix2 r l') := by
  refine View.ld_unit_apply_of (Val := Elt Ideal) (e := .f32) (S := S256x256) W ![0, o] ![256, 128] inb _ (ix2 r l') fun a => ?_
  fin_cases a
  · exact (Nat.zero_add _).symm
  · exact h

/-- A head's block of the bias, read at an entry. -/
theorem ld_bias (W : FVec Ideal S4x256x768 .f32) (j : Fin 4) (i o : ℕ) (hi : i = j.val) (inb) (r s : Fin 256) (w : Fin 768) (h : w.val = o + s.val) :
    (View.ld (Val := Elt Ideal) (e' := .f32) W (Rect.unit (s := S4x256x768) ![i, 0, o] ![1, 256, 256] inb) : FVec Ideal S1x256x256 .f32) (ix3 0 r s) = W (ix3 j r w) := by
  refine View.ld_unit_apply_of (Val := Elt Ideal) (e := .f32) (S := S4x256x768) W ![i, 0, o] ![1, 256, 256] inb _ (ix3 j r w) fun a => ?_
  fin_cases a
  · exact hi.symm
  · exact (Nat.zero_add _).symm
  · exact h

/-- A head's lanes of a block of keys or values, as the reference's heads. -/
theorem ld_heads {W : FVec Ideal S256x256 .f32} {a : FVec Ideal Cert.AttsRefIdeal.S6144x1024 .f32} {R : ℕ} {hR : ∀ r : Fin 256, 768 * (seq t).val + R + r.val < 6144}
    (hW : ∀ r l : Fin 256, W (ix2 r l) = a (ix2 ⟨768 * (seq t).val + R + r.val, hR r⟩ ⟨256 * (grp t).val + l.val, by omega⟩))
    {o : ℕ} (inb) (h : Fin 16) (r : Fin 256) (x : Fin 128) (d : Fin 64) (w : Fin 768) (hw : w.val = R + r.val)
    (hx : 256 * (grp t).val + (o + x.val) = 64 * h.val + d.val) :
    (View.ld (Val := Elt Ideal) (e' := .f32) W (Rect.unit (s := S256x256) ![0, o] ![256, 128] inb) : FVec Ideal S256x128 .f32) (ix2 r x)
      = heads a (ix4 (seq t) w h d) := by
  have h1 : o + 128 ≤ 256 := inb 1
  rw [heads_entry, ld_pair W o inb r x ⟨o + x.val, by omega⟩ rfl, hW]
  exact congrArg a (congrArg₂ ix2 (Fin.ext (by dsimp only; omega)) (Fin.ext hx))

/-- A head's lanes of the block of queries, as the reference's. -/
theorem ld_queries {W : FVec Ideal S256x256 .f32} {a : FVec Ideal Cert.AttsRefIdeal.S6144x1024 .f32}
    (hW : ∀ r l : Fin 256, W (ix2 r l) = a (ix2 ⟨768 * (seq t).val + 512 + r.val, by omega⟩ ⟨256 * (grp t).val + l.val, by omega⟩))
    {o : ℕ} (inb) (h : Fin 16) (r : Fin 256) (x : Fin 128) (d : Fin 64) (hx : 256 * (grp t).val + (o + x.val) = 64 * h.val + d.val) :
    (View.ld (Val := Elt Ideal) (e' := .f32) W (Rect.unit (s := S256x256) ![0, o] ![256, 128] inb) : FVec Ideal S256x128 .f32) (ix2 r x)
      = queries a (ix4 (seq t) r h d) := by
  have h1 : o + 128 ≤ 256 := inb 1
  rw [queries_entry, ld_pair W o inb r x ⟨o + x.val, by omega⟩ rfl, hW]
  exact congrArg a (congrArg (ix2 _) (Fin.ext hx))

/-- A head's block of the bias. -/
theorem ld_head_bias {i o : ℕ} (j : Fin 4) (hi : i = j.val) (inb) (h : Fin 16) (hh : h.val = 4 * (grp t).val + j.val) (r s : Fin 256) (w : Fin 768) (hw : w.val = o + s.val) :
    (View.ld (Val := Elt Ideal) (e' := .f32) (iblk m c 7 t : Vec Ideal S4x256x768 .f32) (Rect.unit (s := S4x256x768) ![i, 0, o] ![1, 256, 256] inb) : FVec Ideal S1x256x256 .f32)
      (ix3 0 r s) = m ((c : Thread nD τ).loc main_arg3) (ix3 h r w) := by
  rw [ld_bias _ j i o hi inb r s w hw, blk_bias]
  exact congrArg (fun h => m ((c : Thread nD τ).loc main_arg3) (ix3 h r w)) (Fin.ext hh.symm)

/-- The body's value, as the tiles of its four heads. -/
theorem body_eq (f g : BitVec 1) (q k0 k1 k2 v0 v1 v2 q' k0' k1' k2' v0' v1' v2' : FVec Ideal S256x128 .f32)
    (b0 b1 b2 b3 b4 b5 b6 b7 b8 b9 b10 b11 : FVec Ideal S1x256x256 .f32) :
    k0_pay1 (k0_pay18 number (k0_pay7 v2)
        (k0_pay13 (k0_pay5 v0) (k0_pay6 v1) (k0_pay7 v2) (k0_pay11 f g q (k0_pay2 k0) (k0_pay3 k1) (k0_pay4 k2) k0_pay8 k0_pay9 k0_pay10 b0 b1 b2)
          (k0_pay12 f g q (k0_pay2 k0) (k0_pay3 k1) (k0_pay4 k2) k0_pay8 k0_pay9 k0_pay10 b0 b1 b2))
        (k0_pay16 f g (k0_pay2 k0) (k0_pay3 k1) (k0_pay4 k2) (k0_pay5 v0) (k0_pay6 v1) (k0_pay14 number q) b3 b4 b5)
        (k0_pay17 f g (k0_pay2 k0) (k0_pay3 k1) (k0_pay4 k2) (k0_pay14 number q) b3 b4 b5))
      (k0_pay28 f g (k0_pay20 k1') (k0_pay21 k2') (k0_pay22 v0') (k0_pay23 v1') (k0_pay24 v2') (k0_pay25 number q')
        (k0_pay26 number q' (k0_pay19 k0') b6) k0_pay27 b7 b8)
      (k0_pay36 (k0_pay22 v0') (k0_pay23 v1') (k0_pay24 v2')
        (k0_pay33 number f q' (k0_pay19 k0') 64#32 (k0_pay29 number) (k0_pay30 number) (k0_pay31 number) b9)
        (k0_pay34 number g q' (k0_pay20 k1') 64#32 (k0_pay29 number) (k0_pay30 number) (k0_pay31 number) b10)
        (k0_pay35 number q' (k0_pay21 k2') 64#32 (k0_pay29 number) (k0_pay30 number) (k0_pay31 number)) b11)
      (k0_pay37 number) (k0_pay38 number)
    = outTile (pairTile (headTile f g 0#32 q k0 k1 k2 v0 v1 v2 b0 b1 b2) (headTile f g 1#32 q k0 k1 k2 v0 v1 v2 b3 b4 b5))
        (pairTile (headTile f g 0#32 q' k0' k1' k2' v0' v1' v2' b6 b7 b8) (headTile f g 1#32 q' k0' k1' k2' v0' v1' v2' b9 b10 b11)) := rfl

/-- The array of results is the reference's output. -/
theorem whole (m : (ℓ : Loc nD τ sig) → Buf (Elt Ideal) ℓ) (c : Dev nD) : (dats m 0 c).arrAt 8 (cfgs 0).N
    = output (m ((c : Thread nD τ).loc main_arg0)) (m ((c : Thread nD τ).loc main_arg1)) (m ((c : Thread nD τ).loc main_arg2))
        (m ((c : Thread nD τ).loc main_arg3)) := by
  refine (dats m 0 c).arrAt_eq_of_covers 8 _ (by decide +kernel) fun t _ y => ?_
  blk_simp
  rw [after0_8]; frame_out
  obtain ⟨r, l, rfl⟩ : ∃ r l : Fin 256, y = ix2 r l := ⟨y 0, y 1, by funext a; fin_cases a <;> rfl⟩
  have hemb : ((cfg0.win 8).blk t).view.emb (ix2 r l) = ix2 ⟨256 * (seq t).val + r.val, by omega⟩ ⟨256 * (grp t).val + l.val, by omega⟩ := by
    refine funext fun a => Fin.ext ((win0_8.rect_emb_val t (ix2 r l) a).trans ?_)
    rw [(place t).2.2.2.2.2.2.2.2]
    fin_cases a
    · show t.val % 8 * 256 + r.val = 256 * (t.val % 8) + r.val
      omega
    · show t.val / 8 * 256 + l.val = 256 * (t.val / 8) + l.val
      omega
  refine Eq.trans ?_ (congrArg _ hemb.symm)
  refine (congrFun (body_eq _ _ _ _ _ _ _ _ _ _ _ _ _ _ _ _ _ _ _ _ _ _ _ _ _ _ _ _) _).trans ?_
  rw [flag2, flag1]
  have hcase : l.val < 64 ∨ (64 ≤ l.val ∧ l.val < 128) ∨ (128 ≤ l.val ∧ l.val < 192) ∨ 192 ≤ l.val := by omega
  rcases hcase with hl | hl | hl | hl
  · obtain ⟨d, rfl⟩ : ∃ d : Fin 64, l = ⟨0 + d.val, by clear hl; omega⟩ := ⟨⟨l.val - 0, by omega⟩, Fin.ext (by dsimp only; omega)⟩
    rw [show (⟨0 + d.val, by omega⟩ : Fin 256) = ⟨(⟨d.val, by omega⟩ : Fin 128).val, by dsimp only; omega⟩ from Fin.ext (by dsimp only; omega), outTile_fst, pairTile_lo]
    refine (head_lo (b := seq t) (h := ⟨4 * (grp t).val + 0, by omega⟩) (fun r d => ld_queries blk_q0 _ _ r _ d (by dsimp only; omega))
      (fun s d => ld_heads blk_k0 _ _ s _ d _ (by dsimp only; omega) (by dsimp only; omega))
      (fun s d => ld_heads blk_k1 _ _ s _ d _ (by dsimp only) (by dsimp only; omega))
      (fun s d => ld_heads blk_k2 _ _ s _ d _ (by dsimp only) (by dsimp only; omega))
      (fun s d => ld_heads blk_v0 _ _ s _ d _ (by dsimp only; omega) (by dsimp only; omega))
      (fun s d => ld_heads blk_v1 _ _ s _ d _ (by dsimp only) (by dsimp only; omega))
      (fun s d => ld_heads blk_v2 _ _ s _ d _ (by dsimp only) (by dsimp only; omega))
      (fun r s => ld_head_bias 0 rfl _ _ rfl r s _ (by dsimp only; omega))
      (fun r s => ld_head_bias 0 rfl _ _ rfl r s _ (by dsimp only))
      (fun r s => ld_head_bias 0 rfl _ _ rfl r s _ (by dsimp only)) r d).trans ?_
    exact congrArg _ (congrArg (ix2 _) (Fin.ext (by dsimp only; omega)))
  · obtain ⟨d, rfl⟩ : ∃ d : Fin 64, l = ⟨64 + d.val, by clear hl; omega⟩ := ⟨⟨l.val - 64, by omega⟩, Fin.ext (by dsimp only; omega)⟩
    rw [show (⟨64 + d.val, by omega⟩ : Fin 256) = ⟨(⟨64 + d.val, by omega⟩ : Fin 128).val, by dsimp only; omega⟩ from Fin.ext (by dsimp only), outTile_fst, pairTile_hi]
    refine (head_hi (b := seq t) (h := ⟨4 * (grp t).val + 1, by omega⟩) (fun r d => ld_queries blk_q0 _ _ r _ d (by dsimp only; omega))
      (fun s d => ld_heads blk_k0 _ _ s _ d _ (by dsimp only; omega) (by dsimp only; omega))
      (fun s d => ld_heads blk_k1 _ _ s _ d _ (by dsimp only) (by dsimp only; omega))
      (fun s d => ld_heads blk_k2 _ _ s _ d _ (by dsimp only) (by dsimp only; omega))
      (fun s d => ld_heads blk_v0 _ _ s _ d _ (by dsimp only; omega) (by dsimp only; omega))
      (fun s d => ld_heads blk_v1 _ _ s _ d _ (by dsimp only) (by dsimp only; omega))
      (fun s d => ld_heads blk_v2 _ _ s _ d _ (by dsimp only) (by dsimp only; omega))
      (fun r s => ld_head_bias 1 rfl _ _ rfl r s _ (by dsimp only; omega))
      (fun r s => ld_head_bias 1 rfl _ _ rfl r s _ (by dsimp only))
      (fun r s => ld_head_bias 1 rfl _ _ rfl r s _ (by dsimp only)) r d).trans ?_
    exact congrArg _ (congrArg (ix2 _) (Fin.ext (by dsimp only; omega)))
  · obtain ⟨d, rfl⟩ : ∃ d : Fin 64, l = ⟨128 + d.val, by clear hl; omega⟩ := ⟨⟨l.val - 128, by omega⟩, Fin.ext (by dsimp only; omega)⟩
    rw [show (⟨128 + d.val, by omega⟩ : Fin 256) = ⟨128 + (⟨d.val, by omega⟩ : Fin 128).val, by dsimp only; omega⟩ from Fin.ext (by dsimp only), outTile_snd, pairTile_lo]
    refine (head_lo (b := seq t) (h := ⟨4 * (grp t).val + 2, by omega⟩) (fun r d => ld_queries blk_q0 _ _ r _ d (by dsimp only; omega))
      (fun s d => ld_heads blk_k0 _ _ s _ d _ (by dsimp only; omega) (by dsimp only; omega))
      (fun s d => ld_heads blk_k1 _ _ s _ d _ (by dsimp only) (by dsimp only; omega))
      (fun s d => ld_heads blk_k2 _ _ s _ d _ (by dsimp only) (by dsimp only; omega))
      (fun s d => ld_heads blk_v0 _ _ s _ d _ (by dsimp only; omega) (by dsimp only; omega))
      (fun s d => ld_heads blk_v1 _ _ s _ d _ (by dsimp only) (by dsimp only; omega))
      (fun s d => ld_heads blk_v2 _ _ s _ d _ (by dsimp only) (by dsimp only; omega))
      (fun r s => ld_head_bias 2 rfl _ _ rfl r s _ (by dsimp only; omega))
      (fun r s => ld_head_bias 2 rfl _ _ rfl r s _ (by dsimp only))
      (fun r s => ld_head_bias 2 rfl _ _ rfl r s _ (by dsimp only)) r d).trans ?_
    exact congrArg _ (congrArg (ix2 _) (Fin.ext (by dsimp only; omega)))
  · obtain ⟨d, rfl⟩ : ∃ d : Fin 64, l = ⟨192 + d.val, by clear hl; omega⟩ := ⟨⟨l.val - 192, by omega⟩, Fin.ext (by dsimp only; omega)⟩
    rw [show (⟨192 + d.val, by omega⟩ : Fin 256) = ⟨128 + (⟨64 + d.val, by omega⟩ : Fin 128).val, by dsimp only; omega⟩ from Fin.ext (by dsimp only; omega), outTile_snd, pairTile_hi]
    refine (head_hi (b := seq t) (h := ⟨4 * (grp t).val + 3, by omega⟩) (fun r d => ld_queries blk_q0 _ _ r _ d (by dsimp only; omega))
      (fun s d => ld_heads blk_k0 _ _ s _ d _ (by dsimp only; omega) (by dsimp only; omega))
      (fun s d => ld_heads blk_k1 _ _ s _ d _ (by dsimp only) (by dsimp only; omega))
      (fun s d => ld_heads blk_k2 _ _ s _ d _ (by dsimp only) (by dsimp only; omega))
      (fun s d => ld_heads blk_v0 _ _ s _ d _ (by dsimp only; omega) (by dsimp only; omega))
      (fun s d => ld_heads blk_v1 _ _ s _ d _ (by dsimp only) (by dsimp only; omega))
      (fun s d => ld_heads blk_v2 _ _ s _ d _ (by dsimp only) (by dsimp only; omega))
      (fun r s => ld_head_bias 3 rfl _ _ rfl r s _ (by dsimp only; omega))
      (fun r s => ld_head_bias 3 rfl _ _ rfl r s _ (by dsimp only))
      (fun r s => ld_head_bias 3 rfl _ _ rfl r s _ (by dsimp only)) r d).trans ?_
    exact congrArg _ (congrArg (ix2 _) (Fin.ext (by dsimp only; omega)))

end Cert.AttsIdeal.Att

end
-- ==== Proof.ProjValue.lean ====
/- The input projection and the key and value rows cut out of it: the result arrays are the reference's. -/
module

public import proofs.«01_k».proof.Proof.Gen.ProjIdeal.Frame
public import proofs.«01_k».proof.Proof.Gen.ProjRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.Product

open Cert.ProjIdeal Cert.ProjIdeal.Gen

variable (m : (ℓ : Loc nD τ sig) → Buf (Elt Ideal) ℓ)

/-- The plain product of the two arguments, as the reference computes it. -/
abbrev prod (a0 : FVec Ideal Cert.ProjRefIdeal.S33280x2048 .bf16)
    (a1 : FVec Ideal Cert.ProjRefIdeal.S2048x16896 .bf16) : FVec Ideal Cert.ProjRefIdeal.S33280x16896 .f32 :=
  Host.dotGeneral Cert.ProjRefIdeal.dot_S33280x2048_S2048x16896_S33280x16896_1_0_0_1_n_n none
    (extf .f32 a0 Cert.ProjRefIdeal.Gen.bitsLt_bf16_f32) (extf .f32 a1 Cert.ProjRefIdeal.Gen.bitsLt_bf16_f32)

/-- Point `t` reads row block `t / 22` of the rows and column block `t % 22` of the weights. -/
theorem place : ∀ t : Fin cfg0.N, win0_0.index t = ![t.val / 22, 0] ∧ win0_1.index t = ![0, t.val % 22]
    ∧ win0_2.index t = ![t.val / 22, t.val % 22] :=
  (by decide +kernel : ∀ t : Fin grid0.N, _)

/-- One entry of a tile is the entry of the plain product at the tile's place. -/
theorem tile (c : Dev nD) (t : Fin cfg0.N) (y) :
    k0_pay1 (iblk m c 0 t) (iblk m c 1 t) y
      = prod (m ((c : Thread nD τ).loc main_arg0)) (m ((c : Thread nD τ).loc main_arg1))
          (((cfg0.win 2).blk t).view.emb y) := by
  pointwise [k0_pay1, prod]
  blk_point [iblk, V, place t]

/-- The array of results is the plain product. -/
theorem whole (c : Dev nD) : (dats m 0 c).arrAt 2 (cfgs 0).N
    = prod (m ((c : Thread nD τ).loc main_arg0)) (m ((c : Thread nD τ).loc main_arg1)) := by
  refine (dats m 0 c).arrAt_eq_of_covers 2 _ (by decide +kernel) fun t _ y => ?_
  blk_simp
  rw [after0_2]; frame_out
  exact tile m c t y

/-- The last rows of each of the four prompts, the key and value columns only. -/
def lastRows (h : FVec Ideal S33280x16896 .f32) : FVec Ideal S4x512x2048 .f32 :=
  concatenate S4x512x2048 0
    [⟨S1x512x2048, broadcastInDim S1x512x2048 ![1, 2] bcast_S512x2048_S1x512x2048_1_2 (extractStridedSlice S512x2048 ![7680, 8704] h slices_S33280x16896_S512x2048_7680_8704)⟩,
     ⟨S1x512x2048, broadcastInDim S1x512x2048 ![1, 2] bcast_S512x2048_S1x512x2048_1_2 (extractStridedSlice S512x2048 ![15872, 8704] h slices_S33280x16896_S512x2048_15872_8704)⟩,
     ⟨S1x512x2048, broadcastInDim S1x512x2048 ![1, 2] bcast_S512x2048_S1x512x2048_1_2 (extractStridedSlice S512x2048 ![24064, 8704] h slices_S33280x16896_S512x2048_24064_8704)⟩,
     ⟨S1x512x2048, broadcastInDim S1x512x2048 ![1, 2] bcast_S512x2048_S1x512x2048_1_2 (extractStridedSlice S512x2048 ![32256, 8704] h slices_S33280x16896_S512x2048_32256_8704)⟩]
    concatenates_S1x512x2048_S1x512x2048_S1x512x2048_S1x512x2048_S4x512x2048_d0

/-- Row `r`, column `k` of prompt `a`'s last rows, in the projected array. -/
theorem lastRows_entry (h : FVec Ideal S33280x16896 .f32) (a : Fin 4) (r : Fin 512) (k : Fin 2048) :
    lastRows h (ix3 a r k) = h (ix2 ⟨a.val * 8192 + (7680 + r.val), by omega⟩ ⟨8704 + k.val, by omega⟩) := by
  have ha := a.isLt
  pointwise [lastRows]
  by_cases c0 : a.val < 1
  · refine (dif_pos c0).trans ?_
    refine congrArg h (congrArg₂ ix2 (Fin.ext ?_) (Fin.ext ?_))
    · change 7680 + r.val = a.val * 8192 + (7680 + r.val); omega
    · rfl
  refine (dif_neg c0).trans ?_
  by_cases c1 : a.val - 1 < 1
  · refine (dif_pos c1).trans ?_
    refine congrArg h (congrArg₂ ix2 (Fin.ext ?_) (Fin.ext ?_))
    · change 15872 + r.val = a.val * 8192 + (7680 + r.val); omega
    · rfl
  refine (dif_neg c1).trans ?_
  by_cases c2 : a.val - 1 - 1 < 1
  · refine (dif_pos c2).trans ?_
    refine congrArg h (congrArg₂ ix2 (Fin.ext ?_) (Fin.ext ?_))
    · change 24064 + r.val = a.val * 8192 + (7680 + r.val); omega
    · rfl
  refine (dif_neg c2).trans ?_
  refine congrArg h (congrArg₂ ix2 (Fin.ext ?_) (Fin.ext ?_))
  · change 32256 + r.val = a.val * 8192 + (7680 + r.val); omega
  · rfl

/-- The prompt rows of the attention columns, by prompt. -/
def attPrompt (h : FVec Ideal S33280x16896 .f32) : FVec Ideal Cert.ProjRefIdeal.S4x8192x3072 .f32 :=
  shapeCast Cert.ProjRefIdeal.S4x8192x3072
            (extractStridedSlice Cert.ProjRefIdeal.S32768x3072 ![0, 7680]
              (extractStridedSlice Cert.ProjRefIdeal.S32768x16896 ![0, 0] h Cert.ProjRefIdeal.Gen.slices_S33280x16896_S32768x16896_0_0)
              Cert.ProjRefIdeal.Gen.slices_S32768x16896_S32768x3072_0_7680)
            Cert.ProjRefIdeal.Gen.shapeCasts_S32768x3072_S4x8192x3072

/-- Its entries in the projected array. -/
theorem attPrompt_entry (h : FVec Ideal S33280x16896 .f32) (a : Fin 4) (r : Fin 8192) (k : Fin 3072) :
    attPrompt h (ix3 a r k) = h (ix2 ⟨a.val * 8192 + r.val, by omega⟩ ⟨7680 + k.val, by omega⟩) := by
  pointwise [attPrompt]

/-- The last rows of the heads of a prompt's columns, at one entry, -/
theorem lastHeads (p : FVec Ideal Cert.ProjRefIdeal.S4x8192x1024 .f32) (a : Fin 4) (r : Fin 512) (i : Fin 16) (j : Fin 64) :
    extractStridedSlice Cert.ProjRefIdeal.S4x512x16x64 ![0, 7680, 0, 0]
      (shapeCast Cert.ProjRefIdeal.S4x8192x16x64 p Cert.ProjRefIdeal.Gen.shapeCasts_S4x8192x1024_S4x8192x16x64)
      Cert.ProjRefIdeal.Gen.slices_S4x8192x16x64_S4x512x16x64_0_7680_0_0 (ix4 a r i j)
      = p (ix3 a ⟨7680 + r.val, by omega⟩ ⟨i.val * 64 + j.val, by omega⟩) := by
  pointwise

/-- and of the array of the kernel's cut. -/
theorem cutHeads (p : FVec Ideal S4x512x1024 .f32) (a : Fin 4) (r : Fin 512) (i : Fin 16) (j : Fin 64) :
    shapeCast S4x512x16x64 p shapeCasts_S4x512x1024_S4x512x16x64 (ix4 a r i j) = p (ix3 a r ⟨i.val * 64 + j.val, by omega⟩) := by
  pointwise

/-- The keys' columns of a prompt's rows, at one entry, -/
theorem partKeys (q : FVec Ideal Cert.ProjRefIdeal.S4x8192x3072 .f32) (a : Fin 4) (r : Fin 8192) (k : Fin 1024) :
    extractStridedSlice Cert.ProjRefIdeal.S4x8192x1024 ![0, 0, 1024] q Cert.ProjRefIdeal.Gen.slices_S4x8192x3072_S4x8192x1024_0_0_1024 (ix3 a r k)
      = q (ix3 a r ⟨1024 + k.val, by omega⟩) := by
  pointwise

/-- and of the kernel's cut. -/
theorem cutKeys (q : FVec Ideal S4x512x2048 .f32) (a : Fin 4) (r : Fin 512) (k : Fin 1024) :
    extractStridedSlice S4x512x1024 ![0, 0, 0] q slices_S4x512x2048_S4x512x1024_0_0_0 (ix3 a r k)
      = q (ix3 a r ⟨0 + k.val, by omega⟩) := by
  pointwise

/-- The values' columns of a prompt's rows, at one entry, -/
theorem partValues (q : FVec Ideal Cert.ProjRefIdeal.S4x8192x3072 .f32) (a : Fin 4) (r : Fin 8192) (k : Fin 1024) :
    extractStridedSlice Cert.ProjRefIdeal.S4x8192x1024 ![0, 0, 2048] q Cert.ProjRefIdeal.Gen.slices_S4x8192x3072_S4x8192x1024_0_0_2048 (ix3 a r k)
      = q (ix3 a r ⟨2048 + k.val, by omega⟩) := by
  pointwise

/-- and of the kernel's cut. -/
theorem cutValues (q : FVec Ideal S4x512x2048 .f32) (a : Fin 4) (r : Fin 512) (k : Fin 1024) :
    extractStridedSlice S4x512x1024 ![0, 0, 1024] q slices_S4x512x2048_S4x512x1024_0_0_1024 (ix3 a r k)
      = q (ix3 a r ⟨1024 + k.val, by omega⟩) := by
  pointwise

/-- What the region leaves in its result array, as the operations after it find it. -/
theorem exit (c : Dev nD) : Pipeline.withArrays (cfgs 0).spec c (V0 m c) (fun w => (dats m 0 c).arrAt w (cfgs 0).N) main_v0
    = prod (m ((c : Thread nD τ).loc main_arg0)) (m ((c : Thread nD τ).loc main_arg1)) :=
  (Pipeline.withArrays_arr (cfgs 0).spec (by decide) c (V0 m c) _ 2).trans (whole m c)

/-- The key rows that the prompts hand on, as the reference cuts them out of the projected array. -/
def keysPrompt (h : FVec Ideal S33280x16896 .f32) : FVec Ideal S4x512x16x64 .f32 :=
  extractStridedSlice Cert.ProjRefIdeal.S4x512x16x64 ![0, 7680, 0, 0]
      (shapeCast Cert.ProjRefIdeal.S4x8192x16x64
        (extractStridedSlice Cert.ProjRefIdeal.S4x8192x1024 ![0, 0, 1024] (attPrompt h)
          Cert.ProjRefIdeal.Gen.slices_S4x8192x3072_S4x8192x1024_0_0_1024)
        Cert.ProjRefIdeal.Gen.shapeCasts_S4x8192x1024_S4x8192x16x64)
      Cert.ProjRefIdeal.Gen.slices_S4x8192x16x64_S4x512x16x64_0_7680_0_0

/-- The kernel's own cuts give the same rows. -/
theorem keysPrompt_cut (h : FVec Ideal S33280x16896 .f32) : shapeCast S4x512x16x64 (extractStridedSlice S4x512x1024 ![0, 0, 0] (lastRows h) slices_S4x512x2048_S4x512x1024_0_0_0) shapeCasts_S4x512x1024_S4x512x16x64 = keysPrompt h := by
  funext y
  obtain ⟨a, r, i, j, rfl⟩ : ∃ (a : Fin 4) (r : Fin 512) (i : Fin 16) (j : Fin 64), y = ix4 a r i j :=
    ⟨y 0, y 1, y 2, y 3, by funext d; fin_cases d <;> rfl⟩
  unfold keysPrompt
  refine ((cutHeads _ a r i j).trans ((cutKeys _ a r _).trans (lastRows_entry h a r _))).trans (Eq.symm ?_)
  refine ((lastHeads _ a r i j).trans ((partKeys _ a _ _).trans (attPrompt_entry h a _ _))).trans ?_
  refine congrArg h (congrArg (ix2 _) (Fin.ext ?_))
  change 7680 + (1024 + (i.val * 64 + j.val)) = 8704 + (0 + (i.val * 64 + j.val))
  omega

/-- What the operations after the region leave in that result is those rows of the array they start from. -/
theorem keysPrompt_after (W : Valuation τ sig (Elt Ideal)) : StableHlo.after hostOps1 W main_v17 = keysPrompt (W main_v0) := by
  refine Eq.trans ?_ (keysPrompt_cut (W main_v0))
  unfold hostOps1
  simp (disch := decide) only [StableHlo.after_cons, StableHlo.after_nil, StableHlo.unary_result', StableHlo.reshape_result',
    StableHlo.nary4_result', StableHlo.unary_result_ne', StableHlo.reshape_result_ne', StableHlo.nary_result_ne']
  rfl

/-- The kernel's result of the key rows that the prompts hand on is those rows of the plain product. -/
theorem keysPrompt_end (c : Dev nD) : Pipeline.afterTail₀ cfgs (dats m) 0 (V0 m) [hostOps1] c main_v17
    = keysPrompt (prod (m ((c : Thread nD τ).loc main_arg0)) (m ((c : Thread nD τ).loc main_arg1))) :=
  (keysPrompt_after _).trans (congrArg keysPrompt (exit m c))

/-- The value rows that the prompts hand on, as the reference cuts them out of the projected array. -/
def valuesPrompt (h : FVec Ideal S33280x16896 .f32) : FVec Ideal S4x512x16x64 .f32 :=
  extractStridedSlice Cert.ProjRefIdeal.S4x512x16x64 ![0, 7680, 0, 0]
      (shapeCast Cert.ProjRefIdeal.S4x8192x16x64
        (extractStridedSlice Cert.ProjRefIdeal.S4x8192x1024 ![0, 0, 2048] (attPrompt h)
          Cert.ProjRefIdeal.Gen.slices_S4x8192x3072_S4x8192x1024_0_0_2048)
        Cert.ProjRefIdeal.Gen.shapeCasts_S4x8192x1024_S4x8192x16x64)
      Cert.ProjRefIdeal.Gen.slices_S4x8192x16x64_S4x512x16x64_0_7680_0_0

/-- The kernel's own cuts give the same rows. -/
theorem valuesPrompt_cut (h : FVec Ideal S33280x16896 .f32) : shapeCast S4x512x16x64 (extractStridedSlice S4x512x1024 ![0, 0, 1024] (lastRows h) slices_S4x512x2048_S4x512x1024_0_0_1024) shapeCasts_S4x512x1024_S4x512x16x64 = valuesPrompt h := by
  funext y
  obtain ⟨a, r, i, j, rfl⟩ : ∃ (a : Fin 4) (r : Fin 512) (i : Fin 16) (j : Fin 64), y = ix4 a r i j :=
    ⟨y 0, y 1, y 2, y 3, by funext d; fin_cases d <;> rfl⟩
  unfold valuesPrompt
  refine ((cutHeads _ a r i j).trans ((cutValues _ a r _).trans (lastRows_entry h a r _))).trans (Eq.symm ?_)
  refine ((lastHeads _ a r i j).trans ((partValues _ a _ _).trans (attPrompt_entry h a _ _))).trans ?_
  refine congrArg h (congrArg (ix2 _) (Fin.ext ?_))
  change 7680 + (2048 + (i.val * 64 + j.val)) = 8704 + (1024 + (i.val * 64 + j.val))
  omega

/-- What the operations after the region leave in that result is those rows of the array they start from. -/
theorem valuesPrompt_after (W : Valuation τ sig (Elt Ideal)) : StableHlo.after hostOps1 W main_v18 = valuesPrompt (W main_v0) := by
  refine Eq.trans ?_ (valuesPrompt_cut (W main_v0))
  unfold hostOps1
  simp (disch := decide) only [StableHlo.after_cons, StableHlo.after_nil, StableHlo.unary_result', StableHlo.reshape_result',
    StableHlo.nary4_result', StableHlo.unary_result_ne', StableHlo.reshape_result_ne', StableHlo.nary_result_ne']
  rfl

/-- The kernel's result of the value rows that the prompts hand on is those rows of the plain product. -/
theorem valuesPrompt_end (c : Dev nD) : Pipeline.afterTail₀ cfgs (dats m) 0 (V0 m) [hostOps1] c main_v18
    = valuesPrompt (prod (m ((c : Thread nD τ).loc main_arg0)) (m ((c : Thread nD τ).loc main_arg1))) :=
  (valuesPrompt_after _).trans (congrArg valuesPrompt (exit m c))

/-- The key rows of the samples, as the reference cuts them out of the projected array. -/
def keysSample (h : FVec Ideal S33280x16896 .f32) : FVec Ideal S8x64x16x64 .f32 :=
  shapeCast Cert.ProjRefIdeal.S8x64x16x64
      (extractStridedSlice Cert.ProjRefIdeal.S8x64x1024 ![0, 0, 1024]
        (shapeCast Cert.ProjRefIdeal.S8x64x3072
          (extractStridedSlice Cert.ProjRefIdeal.S512x3072 ![0, 7680]
            (extractStridedSlice Cert.ProjRefIdeal.S512x16896 ![32768, 0] h Cert.ProjRefIdeal.Gen.slices_S33280x16896_S512x16896_32768_0)
            Cert.ProjRefIdeal.Gen.slices_S512x16896_S512x3072_0_7680)
          Cert.ProjRefIdeal.Gen.shapeCasts_S512x3072_S8x64x3072)
        Cert.ProjRefIdeal.Gen.slices_S8x64x3072_S8x64x1024_0_0_1024)
      Cert.ProjRefIdeal.Gen.shapeCasts_S8x64x1024_S8x64x16x64

/-- The kernel's own cuts give the same rows. -/
theorem keysSample_cut (h : FVec Ideal S33280x16896 .f32) : shapeCast S8x64x16x64 (shapeCast S8x64x1024 (extractStridedSlice S512x1024 ![0, 8704]
      (extractStridedSlice S512x16896 ![32768, 0] h slices_S33280x16896_S512x16896_32768_0)
      slices_S512x16896_S512x1024_0_8704) shapeCasts_S512x1024_S8x64x1024) shapeCasts_S8x64x1024_S8x64x16x64 = keysSample h := by
  funext y
  pointwise [keysSample]
  refine congrArg h (congrArg (ix2 _) (Fin.ext ?_))
  change 8704 + ((y 2).val * 64 + (y 3).val) = 7680 + (1024 + ((y 2).val * 64 + (y 3).val))
  ring

/-- What the operations after the region leave in that result is those rows of the array they start from. -/
theorem keysSample_after (W : Valuation τ sig (Elt Ideal)) : StableHlo.after hostOps1 W main_v19 = keysSample (W main_v0) := by
  refine Eq.trans ?_ (keysSample_cut (W main_v0))
  unfold hostOps1
  simp (disch := decide) only [StableHlo.after_cons, StableHlo.after_nil, StableHlo.unary_result', StableHlo.reshape_result',
    StableHlo.nary4_result', StableHlo.unary_result_ne', StableHlo.reshape_result_ne', StableHlo.nary_result_ne']
  rfl

/-- The kernel's result of the key rows of the samples is those rows of the plain product. -/
theorem keysSample_end (c : Dev nD) : Pipeline.afterTail₀ cfgs (dats m) 0 (V0 m) [hostOps1] c main_v19
    = keysSample (prod (m ((c : Thread nD τ).loc main_arg0)) (m ((c : Thread nD τ).loc main_arg1))) :=
  (keysSample_after _).trans (congrArg keysSample (exit m c))

/-- The value rows of the samples, as the reference cuts them out of the projected array. -/
def valuesSample (h : FVec Ideal S33280x16896 .f32) : FVec Ideal S8x64x16x64 .f32 :=
  shapeCast Cert.ProjRefIdeal.S8x64x16x64
      (extractStridedSlice Cert.ProjRefIdeal.S8x64x1024 ![0, 0, 2048]
        (shapeCast Cert.ProjRefIdeal.S8x64x3072
          (extractStridedSlice Cert.ProjRefIdeal.S512x3072 ![0, 7680]
            (extractStridedSlice Cert.ProjRefIdeal.S512x16896 ![32768, 0] h Cert.ProjRefIdeal.Gen.slices_S33280x16896_S512x16896_32768_0)
            Cert.ProjRefIdeal.Gen.slices_S512x16896_S512x3072_0_7680)
          Cert.ProjRefIdeal.Gen.shapeCasts_S512x3072_S8x64x3072)
        Cert.ProjRefIdeal.Gen.slices_S8x64x3072_S8x64x1024_0_0_2048)
      Cert.ProjRefIdeal.Gen.shapeCasts_S8x64x1024_S8x64x16x64

/-- The kernel's own cuts give the same rows. -/
theorem valuesSample_cut (h : FVec Ideal S33280x16896 .f32) : shapeCast S8x64x16x64 (shapeCast S8x64x1024 (extractStridedSlice S512x1024 ![0, 9728]
      (extractStridedSlice S512x16896 ![32768, 0] h slices_S33280x16896_S512x16896_32768_0)
      slices_S512x16896_S512x1024_0_9728) shapeCasts_S512x1024_S8x64x1024) shapeCasts_S8x64x1024_S8x64x16x64 = valuesSample h := by
  funext y
  pointwise [valuesSample]
  refine congrArg h (congrArg (ix2 _) (Fin.ext ?_))
  change 9728 + ((y 2).val * 64 + (y 3).val) = 7680 + (2048 + ((y 2).val * 64 + (y 3).val))
  ring

/-- What the operations after the region leave in that result is those rows of the array they start from. -/
theorem valuesSample_after (W : Valuation τ sig (Elt Ideal)) : StableHlo.after hostOps1 W main_v20 = valuesSample (W main_v0) := by
  refine Eq.trans ?_ (valuesSample_cut (W main_v0))
  unfold hostOps1
  simp (disch := decide) only [StableHlo.after_cons, StableHlo.after_nil, StableHlo.unary_result', StableHlo.reshape_result',
    StableHlo.nary4_result', StableHlo.unary_result_ne', StableHlo.reshape_result_ne', StableHlo.nary_result_ne']
  rfl

/-- The kernel's result of the value rows of the samples is those rows of the plain product. -/
theorem valuesSample_end (c : Dev nD) : Pipeline.afterTail₀ cfgs (dats m) 0 (V0 m) [hostOps1] c main_v20
    = valuesSample (prod (m ((c : Thread nD τ).loc main_arg0)) (m ((c : Thread nD τ).loc main_arg1))) :=
  (valuesSample_after _).trans (congrArg valuesSample (exit m c))

end Cert.ProjIdeal.Product

end
-- ==== Proof.MergeValue.lean ====
/- The merge of the three branches: the result array is the reference's gated sum of products. -/
module

public import proofs.«01_k».proof.Proof.Gen.MergeIdeal.Frame
public import proofs.«01_k».proof.Proof.Gen.MergeRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeRefIdeal

open Cert.MergeRefIdeal.Gen

/-- The gated sum of the three branches' products, as the reference computes it from its seven arguments. -/
abbrev gated (a0 a1 a2 : FVec Ideal S33280x1024 .bf16) (a3 : FVec Ideal S33280x16896 .f32)
    (a4 a5 a6 : FVec Ideal S1024x2048 .bf16) : FVec Ideal S33280x2048 .bf16 :=
  truncf .bf16 (addf (addf (mulf (extractStridedSlice S33280x2048 ![0, 0] (Host.divf (broadcastInDim S33280x6144 ![]
  bcast_S_S33280x6144 (constant S_ .f32 0x3F800000#32)) (addf (broadcastInDim S33280x6144 ![] bcast_S_S33280x6144
  (constant S_ .f32 0x3F800000#32)) (Host.exp (Host.negf (extractStridedSlice S33280x6144 ![0, 10752] a3
  slices_S33280x16896_S33280x6144_0_10752))))) slices_S33280x6144_S33280x2048_0_0) (Host.dotGeneral
  dot_S33280x1024_S1024x2048_S33280x2048_1_0_0_1_n_n none (extf .f32 a0 bitsLt_bf16_f32) (extf .f32 a4
  bitsLt_bf16_f32))) (mulf (extractStridedSlice S33280x2048 ![0, 2048] (Host.divf (broadcastInDim S33280x6144 ![]
  bcast_S_S33280x6144 (constant S_ .f32 0x3F800000#32)) (addf (broadcastInDim S33280x6144 ![] bcast_S_S33280x6144
  (constant S_ .f32 0x3F800000#32)) (Host.exp (Host.negf (extractStridedSlice S33280x6144 ![0, 10752] a3
  slices_S33280x16896_S33280x6144_0_10752))))) slices_S33280x6144_S33280x2048_0_2048) (Host.dotGeneral
  dot_S33280x1024_S1024x2048_S33280x2048_1_0_0_1_n_n none (extf .f32 a1 bitsLt_bf16_f32) (extf .f32 a5
  bitsLt_bf16_f32)))) (mulf (extractStridedSlice S33280x2048 ![0, 4096] (Host.divf (broadcastInDim S33280x6144 ![]
  bcast_S_S33280x6144 (constant S_ .f32 0x3F800000#32)) (addf (broadcastInDim S33280x6144 ![] bcast_S_S33280x6144
  (constant S_ .f32 0x3F800000#32)) (Host.exp (Host.negf (extractStridedSlice S33280x6144 ![0, 10752] a3
  slices_S33280x16896_S33280x6144_0_10752))))) slices_S33280x6144_S33280x2048_0_4096) (Host.dotGeneral
  dot_S33280x1024_S1024x2048_S33280x2048_1_0_0_1_n_n none (extf .f32 a2 bitsLt_bf16_f32) (extf .f32 a6
  bitsLt_bf16_f32)))) bitsLt_bf16_f32

end Cert.MergeRefIdeal

namespace Cert.MergeIdeal.Gated

open Cert.MergeIdeal Cert.MergeIdeal.Gen
open Cert.MergeRefIdeal (gated)

variable (m : (ℓ : Loc nD τ sig) → Buf (Elt Ideal) ℓ)

/-- Point `t` is row block `t / 4` and column block `t % 4`; the three gates lie in columns 21, 25 and 29 onward. -/
theorem place : ∀ t : Fin cfg0.N, win0_0.index t = ![t.val / 4, 0] ∧ win0_1.index t = ![t.val / 4, 0]
    ∧ win0_2.index t = ![t.val / 4, 0] ∧ win0_3.index t = ![t.val / 4, 21 + (t.val % 4)]
    ∧ win0_4.index t = ![t.val / 4, 25 + (t.val % 4)] ∧ win0_5.index t = ![t.val / 4, 29 + (t.val % 4)]
    ∧ win0_6.index t = ![0, t.val % 4] ∧ win0_7.index t = ![0, t.val % 4] ∧ win0_8.index t = ![0, t.val % 4]
    ∧ win0_9.index t = ![t.val / 4, t.val % 4] :=
  (by decide +kernel : ∀ t : Fin grid0.N, _)

/-- One entry of a tile is the entry of the gated sum at the tile's place. -/
theorem tile (c : Dev nD) (t : Fin cfg0.N) (y) :
    k0_pay1 (k0_pay2 (iblk m c 3 t) (iblk m c 0 t) (iblk m c 6 t) (iblk m c 4 t) (iblk m c 1 t) (iblk m c 7 t))
        (k0_pay3 (iblk m c 5 t)) (iblk m c 2 t) (iblk m c 8 t) y
      = gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (((cfg0.win 9).blk t).view.emb y) := by
  pointwise [k0_pay1, k0_pay2, k0_pay3, gated]
  simp only [zero_sub]
  blk_point [iblk, V, place t]

/-- The array of results is the gated sum. -/
theorem whole (c : Dev nD) : (dats m 0 c).arrAt 9 (cfgs 0).N
    = gated (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  refine (dats m 0 c).arrAt_eq_of_covers 9 _ (by decide +kernel) fun t _ y => ?_
  blk_simp
  rw [after0_9]; frame_out
  exact tile m c t y

end Cert.MergeIdeal.Gated

end
-- ==== Proof.OutValue.lean ====
/- The output projection with the first post-norm: the result arrays are the reference's. -/
module

public import proofs.«01_k».proof.Proof.Gen.OutIdeal.Frame
public import proofs.«01_k».proof.Proof.Gen.OutRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutRefIdeal

open Cert.OutRefIdeal.Gen

/-- The normalised rows, as the reference computes them from its five arguments. -/
abbrev normed (a0 : FVec Ideal S33280x2048 .f32) (a1 : FVec Ideal S33280x2048 .bf16)
    (a2 : FVec Ideal S2048x2048 .bf16) (a3 a4 : FVec Ideal S1x2048 .f32) : FVec Ideal S33280x2048 .f32 :=
  addf (mulf (mulf (subf (addf (mulf (broadcastInDim S33280x2048 ![] bcast_S_S33280x2048 (constant S_ .f32
  0x3FB504F3#32)) a0) (Host.dotGeneral dot_S33280x2048_S2048x2048_S33280x2048_1_0_0_1_n_n none (extf .f32 a1
  bitsLt_bf16_f32) (extf .f32 a2 bitsLt_bf16_f32))) (broadcastInDim S33280x2048 ![0, 1] bcast_S33280x1_S33280x2048_0_1
  (Host.divf (broadcastInDim S33280x1 ![0] bcast_S33280_S33280x1_0 (Host.reduceAdd (addf (mulf (broadcastInDim
  S33280x2048 ![] bcast_S_S33280x2048 (constant S_ .f32 0x3FB504F3#32)) a0) (Host.dotGeneral
  dot_S33280x2048_S2048x2048_S33280x2048_1_0_0_1_n_n none (extf .f32 a1 bitsLt_bf16_f32) (extf .f32 a2
  bitsLt_bf16_f32))) (constant S_ .f32 0x00000000#32) reducesTo_S33280x2048_S33280_d1 h_S_)) (broadcastInDim S33280x1
  ![] bcast_S_S33280x1 (constant S_ .f32 0x45000000#32))))) (broadcastInDim S33280x2048 ![0, 1]
  bcast_S33280x1_S33280x2048_0_1 (Host.rsqrt (addf (Host.divf (broadcastInDim S33280x1 ![0] bcast_S33280_S33280x1_0
  (Host.reduceAdd (mulf (subf (addf (mulf (broadcastInDim S33280x2048 ![] bcast_S_S33280x2048 (constant S_ .f32
  0x3FB504F3#32)) a0) (Host.dotGeneral dot_S33280x2048_S2048x2048_S33280x2048_1_0_0_1_n_n none (extf .f32 a1
  bitsLt_bf16_f32) (extf .f32 a2 bitsLt_bf16_f32))) (broadcastInDim S33280x2048 ![0, 1] bcast_S33280x1_S33280x2048_0_1
  (Host.divf (broadcastInDim S33280x1 ![0] bcast_S33280_S33280x1_0 (Host.reduceAdd (addf (mulf (broadcastInDim
  S33280x2048 ![] bcast_S_S33280x2048 (constant S_ .f32 0x3FB504F3#32)) a0) (Host.dotGeneral
  dot_S33280x2048_S2048x2048_S33280x2048_1_0_0_1_n_n none (extf .f32 a1 bitsLt_bf16_f32) (extf .f32 a2
  bitsLt_bf16_f32))) (constant S_ .f32 0x00000000#32) reducesTo_S33280x2048_S33280_d1 h_S_)) (broadcastInDim S33280x1
  ![] bcast_S_S33280x1 (constant S_ .f32 0x45000000#32))))) (subf (addf (mulf (broadcastInDim S33280x2048 ![]
  bcast_S_S33280x2048 (constant S_ .f32 0x3FB504F3#32)) a0) (Host.dotGeneral
  dot_S33280x2048_S2048x2048_S33280x2048_1_0_0_1_n_n none (extf .f32 a1 bitsLt_bf16_f32) (extf .f32 a2
  bitsLt_bf16_f32))) (broadcastInDim S33280x2048 ![0, 1] bcast_S33280x1_S33280x2048_0_1 (Host.divf (broadcastInDim
  S33280x1 ![0] bcast_S33280_S33280x1_0 (Host.reduceAdd (addf (mulf (broadcastInDim S33280x2048 ![]
  bcast_S_S33280x2048 (constant S_ .f32 0x3FB504F3#32)) a0) (Host.dotGeneral
  dot_S33280x2048_S2048x2048_S33280x2048_1_0_0_1_n_n none (extf .f32 a1 bitsLt_bf16_f32) (extf .f32 a2
  bitsLt_bf16_f32))) (constant S_ .f32 0x00000000#32) reducesTo_S33280x2048_S33280_d1 h_S_)) (broadcastInDim S33280x1
  ![] bcast_S_S33280x1 (constant S_ .f32 0x45000000#32)))))) (constant S_ .f32 0x00000000#32)
  reducesTo_S33280x2048_S33280_d1 h_S_)) (broadcastInDim S33280x1 ![] bcast_S_S33280x1 (constant S_ .f32
  0x45000000#32))) (broadcastInDim S33280x1 ![] bcast_S_S33280x1 (constant S_ .f32 0x3727C5AC#32)))))) (broadcastInDim
  S33280x2048 ![0, 1] bcast_S1x2048_S33280x2048_0_1 (broadcastInDim S1x2048 ![1] bcast_S2048_S1x2048_1 (shapeCast _ a3
  shapeCasts_S1x2048_S2048)))) (broadcastInDim S33280x2048 ![0, 1] bcast_S1x2048_S33280x2048_0_1 (broadcastInDim
  S1x2048 ![1] bcast_S2048_S1x2048_1 (shapeCast _ a4 shapeCasts_S1x2048_S2048)))

end Cert.OutRefIdeal

namespace Cert.OutIdeal.Normed

open Cert.OutIdeal Cert.OutIdeal.Gen
open Cert.OutRefIdeal (normed)

variable (m : (ℓ : Loc nD τ sig) → Buf (Elt Ideal) ℓ)

/-- Point `t` is row block `t`; the weights and the two vectors are whole at every point. -/
theorem place : ∀ t : Fin cfg0.N, win0_0.index t = ![t.val, 0] ∧ win0_1.index t = ![t.val, 0]
    ∧ win0_2.index t = ![0, 0] ∧ win0_3.index t = ![0, 0] ∧ win0_4.index t = ![0, 0]
    ∧ win0_5.index t = ![t.val, 0] ∧ win0_6.index t = ![t.val, 0] :=
  (by decide +kernel : ∀ t : Fin grid0.N, _)

/-- One entry of a tile is the normalised row's entry at the tile's place. -/
theorem tile (c : Dev nD) (t : Fin cfg0.N) (y) :
    k0_pay1 (iblk m c 0 t) (iblk m c 1 t) (iblk m c 2 t) (iblk m c 3 t) (iblk m c 4 t) y
      = normed (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 5).blk t).view.emb y) := by
  pointwise [k0_pay1, normed]
  blk_point [iblk, V, place t]

/-- The same for the second output, the copy in the narrower format. -/
theorem tileNarrow (c : Dev nD) (t : Fin cfg0.N) (y) :
    k0_pay2 (iblk m c 0 t) (iblk m c 1 t) (iblk m c 2 t) (iblk m c 3 t) (iblk m c 4 t) y
      = truncf .bf16 (normed (m ((c : Thread nD τ).loc main_arg0)) (m ((c : Thread nD τ).loc main_arg1)) (m ((c : Thread nD τ).loc main_arg2))
          (m ((c : Thread nD τ).loc main_arg3)) (m ((c : Thread nD τ).loc main_arg4))) Cert.OutRefIdeal.Gen.bitsLt_bf16_f32
          (((cfg0.win 6).blk t).view.emb y) := by
  pointwise [k0_pay2, normed]
  blk_point [iblk, V, place t]

/-- The first result array is the normalised rows. -/
theorem whole (c : Dev nD) : (dats m 0 c).arrAt 5 (cfgs 0).N
    = normed (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  blk_simp
  rw [after0_5]; frame_out
  exact tile m c t y

/-- The second result array is the normalised rows in the narrower format. -/
theorem wholeNarrow (c : Dev nD) : (dats m 0 c).arrAt 6 (cfgs 0).N
    = truncf .bf16 (normed (m ((c : Thread nD τ).loc main_arg0)) (m ((c : Thread nD τ).loc main_arg1)) (m ((c : Thread nD τ).loc main_arg2))
          (m ((c : Thread nD τ).loc main_arg3)) (m ((c : Thread nD τ).loc main_arg4))) Cert.OutRefIdeal.Gen.bitsLt_bf16_f32 := by
  refine (dats m 0 c).arrAt_eq_of_covers 6 _ (by decide +kernel) fun t _ y => ?_
  blk_simp
  rw [after0_6]; frame_out
  exact tileNarrow m c t y

end Cert.OutIdeal.Normed

end
-- ==== Proof.CombValue.lean ====
/- The shared expert, the gated sum of the routed rows and the second post-norm: the result arrays are the reference's. -/
module

public import proofs.«01_k».proof.Proof.Gen.CombIdeal.Frame
public import proofs.«01_k».proof.Proof.Gen.CombRefIdeal
public import proofs.«01_k».proof.Proof.Gen.CombRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.CombRefIdeal

open Cert.CombRefIdeal.Gen

/-- What the reference normalises: the scaled rows plus the gated sum of the routed rows and the shared expert's rows. -/
def mixed (a0 : FVec Ideal S33280x2048 .f32) (a1 : FVec Ideal S8x33280x2048 .bf16) (a2 : FVec Ideal S33280x128 .f32)
    (a3 : FVec Ideal S2048x1024 .bf16) (a4 : FVec Ideal S512x2048 .bf16) : FVec Ideal S33280x2048 .f32 :=
  addf (mulf (broadcastInDim S33280x2048 ![] bcast_S_S33280x2048 (constant S_ .f32 0x3FB504F3#32)) a0) (addf (Host.dotGeneral
  dot_S8x33280x2048_S33280x8_S33280x2048_0_1_2_n_1_0 none (extf .f32 a1 bitsLt_bf16_f32) (extractStridedSlice S33280x8 ![0, 0] a2
  slices_S33280x128_S33280x8_0_0)) (Host.dotGeneral dot_S33280x512_S512x2048_S33280x2048_1_0_0_1_n_n none (mulf (mulf (extractStridedSlice S33280x512
  ![0, 0] (Host.dotGeneral dot_S33280x2048_S2048x1024_S33280x1024_1_0_0_1_n_n none a0 (extf .f32 a3 bitsLt_bf16_f32))
  slices_S33280x1024_S33280x512_0_0) (Host.divf (broadcastInDim S33280x512 ![] bcast_S_S33280x512 (constant S_ .f32 0x3F800000#32)) (addf
  (broadcastInDim S33280x512 ![] bcast_S_S33280x512 (constant S_ .f32 0x3F800000#32)) (Host.exp (Host.negf (extractStridedSlice S33280x512 ![0, 0]
  (Host.dotGeneral dot_S33280x2048_S2048x1024_S33280x1024_1_0_0_1_n_n none a0 (extf .f32 a3 bitsLt_bf16_f32)) slices_S33280x1024_S33280x512_0_0))))))
  (extractStridedSlice S33280x512 ![0, 512] (Host.dotGeneral dot_S33280x2048_S2048x1024_S33280x1024_1_0_0_1_n_n none a0 (extf .f32 a3
  bitsLt_bf16_f32)) slices_S33280x1024_S33280x512_0_512)) (extf .f32 a4 bitsLt_bf16_f32)))

/-- The normalised rows, as the reference computes them from its seven arguments. -/
def combined (a0 : FVec Ideal S33280x2048 .f32) (a1 : FVec Ideal S8x33280x2048 .bf16) (a2 : FVec Ideal S33280x128 .f32)
    (a3 : FVec Ideal S2048x1024 .bf16) (a4 : FVec Ideal S512x2048 .bf16) (a5 a6 : FVec Ideal S1x2048 .f32) : FVec Ideal S33280x2048 .f32 :=
  addf (mulf (mulf (subf (mixed a0 a1 a2 a3 a4) (broadcastInDim S33280x2048 ![0, 1] bcast_S33280x1_S33280x2048_0_1 (Host.divf (broadcastInDim S33280x1
  ![0] bcast_S33280_S33280x1_0 (Host.reduceAdd (mixed a0 a1 a2 a3 a4) (constant S_ .f32 0x00000000#32) reducesTo_S33280x2048_S33280_d1 h_S_))
  (broadcastInDim S33280x1 ![] bcast_S_S33280x1 (constant S_ .f32 0x45000000#32))))) (broadcastInDim S33280x2048 ![0, 1]
  bcast_S33280x1_S33280x2048_0_1 (Host.rsqrt (addf (Host.divf (broadcastInDim S33280x1 ![0] bcast_S33280_S33280x1_0 (Host.reduceAdd (mulf (subf (mixed
  a0 a1 a2 a3 a4) (broadcastInDim S33280x2048 ![0, 1] bcast_S33280x1_S33280x2048_0_1 (Host.divf (broadcastInDim S33280x1 ![0] bcast_S33280_S33280x1_0
  (Host.reduceAdd (mixed a0 a1 a2 a3 a4) (constant S_ .f32 0x00000000#32) reducesTo_S33280x2048_S33280_d1 h_S_)) (broadcastInDim S33280x1 ![]
  bcast_S_S33280x1 (constant S_ .f32 0x45000000#32))))) (subf (mixed a0 a1 a2 a3 a4) (broadcastInDim S33280x2048 ![0, 1]
  bcast_S33280x1_S33280x2048_0_1 (Host.divf (broadcastInDim S33280x1 ![0] bcast_S33280_S33280x1_0 (Host.reduceAdd (mixed a0 a1 a2 a3 a4) (constant S_
  .f32 0x00000000#32) reducesTo_S33280x2048_S33280_d1 h_S_)) (broadcastInDim S33280x1 ![] bcast_S_S33280x1 (constant S_ .f32 0x45000000#32))))))
  (constant S_ .f32 0x00000000#32) reducesTo_S33280x2048_S33280_d1 h_S_)) (broadcastInDim S33280x1 ![] bcast_S_S33280x1 (constant S_ .f32
  0x45000000#32))) (broadcastInDim S33280x1 ![] bcast_S_S33280x1 (constant S_ .f32 0x3727C5AC#32)))))) (broadcastInDim S33280x2048 ![0, 1]
  bcast_S1x2048_S33280x2048_0_1 (broadcastInDim S1x2048 ![1] bcast_S2048_S1x2048_1 (shapeCast _ a5 shapeCasts_S1x2048_S2048)))) (broadcastInDim
  S33280x2048 ![0, 1] bcast_S1x2048_S33280x2048_0_1 (broadcastInDim S1x2048 ![1] bcast_S2048_S1x2048_1 (shapeCast _ a6 shapeCasts_S1x2048_S2048)))

/-- The reference program's first result is that array, -/
theorem result_eq (m : (ℓ : Loc nD τ sig) → Buf (Elt Ideal) ℓ) (c : Dev nD) : Value.res_main_v40 m c
    = combined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Value.res_main_v40 combined mixed; rfl

/-- and its second the same in the narrower format. -/
theorem result_narrow (m : (ℓ : Loc nD τ sig) → Buf (Elt Ideal) ℓ) (c : Dev nD) : Value.res_main_v41 m c
    = truncf .bf16 (combined (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6))) bitsLt_bf16_f32 := by
  unfold Value.res_main_v41 combined mixed; rfl

end Cert.CombRefIdeal

namespace Cert.CombIdeal.Combined

open Cert.CombIdeal Cert.CombIdeal.Gen
open Cert.CombRefIdeal (combined mixed)

variable (m : (ℓ : Loc nD τ sig) → Buf (Elt Ideal) ℓ)
/-- Point `t` is row block `t` of the rows, the routed rows and the gates; the weights and the two vectors are whole at every point. -/
theorem place : ∀ t : Fin cfg0.N, win0_0.index t = ![t.val, 0] ∧ win0_1.index t = ![t.val, 0]
    ∧ win0_2.index t = ![0, t.val, 0] ∧ win0_3.index t = ![t.val, 0] ∧ win0_4.index t = ![0, 0]
    ∧ win0_5.index t = ![0, 0] ∧ win0_6.index t = ![0, 0] ∧ win0_7.index t = ![0, 0]
    ∧ win0_8.index t = ![t.val, 0] ∧ win0_9.index t = ![t.val, 0] :=
  (by decide +kernel : ∀ t : Fin grid0.N, _)

/-- Eight products added one by one to a sum are that sum added to the eight products. -/
theorem reorder (s a b c d e f g h p q r u v w x y : EReal) :
    s + p * a + q * b + r * c + u * d + v * e + w * f + x * g + y * h
      = (a * p + b * q + c * r + d * u + e * v + f * w + g * x + h * y) + s := by
  rw [add_comm _ s]
  simp only [← add_assoc, mul_comm a, mul_comm b, mul_comm c, mul_comm d, mul_comm e, mul_comm f, mul_comm g, mul_comm h]

/-- The body's sum before the norm, with the gated rows gathered in one sum over the eight experts of a token. -/
theorem regroup (x0 : Vec Ideal S128x2048 .f32) (x1 : Vec Ideal S128x2048 .bf16) (x2 : Vec Ideal S8x128x2048 .bf16)
    (x3 : Vec Ideal S128x128 .f32) (x4 : Vec Ideal S2048x1024 .bf16) (x5 : Vec Ideal S512x2048 .bf16)
    (x6 x7 : Vec Ideal S1x2048 .f32) (r : Fin 128) (k : Fin 2048) :
    k0_pay9 x0 x1 x2 x3 x4 x5 x6 x7 (ix2 r k) * x0 (ix2 r k) + k0_pay8 x0 x1 x2 x3 x4 x5 x6 x7 (ix2 r k)
      = Ideal.ofBits FTy.f32 0x3FB504F3#32 * x0 (ix2 r k)
        + (∑ e : Fin 8, x2 (ix3 e r k) * x3 (ix2 r ⟨e.val, by omega⟩)
          + ∑ j : Fin 512, ((∑ i : Fin 2048, x1 (ix2 r i) * x4 (ix2 i ⟨j.val, by omega⟩))
              * Ideal.div 1 (1 + Ideal.exp (-∑ i : Fin 2048, x1 (ix2 r i) * x4 (ix2 i ⟨j.val, by omega⟩)))
              * ∑ i : Fin 2048, x1 (ix2 r i) * x4 (ix2 i ⟨512 + j.val, by omega⟩)) * x5 (ix2 j k)) := by
  pointwise [k0_pay9, k0_pay8, k0_pay7, k0_pay6, k0_pay4, k0_pay5, k0_pay3]
  simp only [zero_sub]
  rw [Fin.sum_univ_eight]
  exact congrArg _ (reorder _ _ _ _ _ _ _ _ _ _ _ _ _ _ _ _ _)

/-- One entry of the body's sum before the norm is the reference's entry at the tile's place. -/
theorem entry (c : Dev nD) (t : Fin cfg0.N) (r : Fin 128) (k : Fin 2048) :
    k0_pay9 (iblk m c 0 t) (iblk m c 1 t) (iblk m c 2 t) (iblk m c 3 t) (iblk m c 4 t) (iblk m c 5 t) (iblk m c 6 t) (iblk m c 7 t) (ix2 r k)
        * (iblk m c 0 t : Vec Ideal S128x2048 .f32) (ix2 r k)
      + k0_pay8 (iblk m c 0 t) (iblk m c 1 t) (iblk m c 2 t) (iblk m c 3 t) (iblk m c 4 t) (iblk m c 5 t) (iblk m c 6 t) (iblk m c 7 t) (ix2 r k)
      = mixed (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 8).blk t).view.emb (ix2 r k)) := by
  refine (regroup _ _ _ _ _ _ _ _ r k).trans ?_
  pointwise [mixed]
  blk_point [iblk, V, place t]

/-- The same along a whole row, for a tile of window 8. -/
theorem entryRow8 (c : Dev nD) (t : Fin cfg0.N) (r : Fin 128) (k l : Fin 2048) :
    k0_pay9 (iblk m c 0 t) (iblk m c 1 t) (iblk m c 2 t) (iblk m c 3 t) (iblk m c 4 t) (iblk m c 5 t) (iblk m c 6 t) (iblk m c 7 t) (ix2 r k)
        * (iblk m c 0 t : Vec Ideal S128x2048 .f32) (ix2 r k)
      + k0_pay8 (iblk m c 0 t) (iblk m c 1 t) (iblk m c 2 t) (iblk m c 3 t) (iblk m c 4 t) (iblk m c 5 t) (iblk m c 6 t) (iblk m c 7 t) (ix2 r k)
      = mixed (m ((c : Thread nD τ).loc main_arg0)) (m ((c : Thread nD τ).loc main_arg1)) (m ((c : Thread nD τ).loc main_arg2))
          (m ((c : Thread nD τ).loc main_arg3)) (m ((c : Thread nD τ).loc main_arg4)) (ix2 ((((cfg0.win 8).blk t).view.emb (ix2 r l)) 0) k) := by
  refine (regroup _ _ _ _ _ _ _ _ r k).trans ?_
  pointwise [mixed]
  blk_point [iblk, V, place t]

/-- The same along a whole row, for a tile of window 9. -/
theorem entryRow9 (c : Dev nD) (t : Fin cfg0.N) (r : Fin 128) (k l : Fin 2048) :
    k0_pay9 (iblk m c 0 t) (iblk m c 1 t) (iblk m c 2 t) (iblk m c 3 t) (iblk m c 4 t) (iblk m c 5 t) (iblk m c 6 t) (iblk m c 7 t) (ix2 r k)
        * (iblk m c 0 t : Vec Ideal S128x2048 .f32) (ix2 r k)
      + k0_pay8 (iblk m c 0 t) (iblk m c 1 t) (iblk m c 2 t) (iblk m c 3 t) (iblk m c 4 t) (iblk m c 5 t) (iblk m c 6 t) (iblk m c 7 t) (ix2 r k)
      = mixed (m ((c : Thread nD τ).loc main_arg0)) (m ((c : Thread nD τ).loc main_arg1)) (m ((c : Thread nD τ).loc main_arg2))
          (m ((c : Thread nD τ).loc main_arg3)) (m ((c : Thread nD τ).loc main_arg4)) (ix2 ((((cfg0.win 9).blk t).view.emb (ix2 r l)) 0) k) := by
  refine (regroup _ _ _ _ _ _ _ _ r k).trans ?_
  pointwise [mixed]
  blk_point [iblk, V, place t]

/-- One entry of the body's sum before the norm is the reference's entry at the tile's place of the second output. -/
theorem entryNarrow (c : Dev nD) (t : Fin cfg0.N) (r : Fin 128) (k : Fin 2048) :
    k0_pay9 (iblk m c 0 t) (iblk m c 1 t) (iblk m c 2 t) (iblk m c 3 t) (iblk m c 4 t) (iblk m c 5 t) (iblk m c 6 t) (iblk m c 7 t) (ix2 r k)
        * (iblk m c 0 t : Vec Ideal S128x2048 .f32) (ix2 r k)
      + k0_pay8 (iblk m c 0 t) (iblk m c 1 t) (iblk m c 2 t) (iblk m c 3 t) (iblk m c 4 t) (iblk m c 5 t) (iblk m c 6 t) (iblk m c 7 t) (ix2 r k)
      = mixed (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 9).blk t).view.emb (ix2 r k)) := by
  refine (regroup _ _ _ _ _ _ _ _ r k).trans ?_
  pointwise [mixed]
  blk_point [iblk, V, place t]

/-- One entry of a tile is the normalised row's entry at the tile's place. -/
theorem tile (c : Dev nD) (t : Fin cfg0.N) (y) :
    k0_pay1 (iblk m c 0 t) (k0_pay8 (iblk m c 0 t) (iblk m c 1 t) (iblk m c 2 t) (iblk m c 3 t) (iblk m c 4 t) (iblk m c 5 t) (iblk m c 6 t) (iblk m c 7 t))
        (k0_pay9 (iblk m c 0 t) (iblk m c 1 t) (iblk m c 2 t) (iblk m c 3 t) (iblk m c 4 t) (iblk m c 5 t) (iblk m c 6 t) (iblk m c 7 t)) (iblk m c 6 t) (iblk m c 7 t) y
      = combined (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) (((cfg0.win 8).blk t).view.emb y) := by
  obtain ⟨r, k, rfl⟩ : ∃ (r : Fin 128) (k : Fin 2048), y = ix2 r k := ⟨y 0, y 1, by funext d; fin_cases d <;> rfl⟩
  have hr := entryRow8 m c t r (l := k)
  have he := entry m c t r k
  generalize k0_pay8 (iblk m c 0 t) (iblk m c 1 t) (iblk m c 2 t) (iblk m c 3 t) (iblk m c 4 t) (iblk m c 5 t) (iblk m c 6 t) (iblk m c 7 t) = p at *
  generalize k0_pay9 (iblk m c 0 t) (iblk m c 1 t) (iblk m c 2 t) (iblk m c 3 t) (iblk m c 4 t) (iblk m c 5 t) (iblk m c 6 t) (iblk m c 7 t) = q at *
  pointwise [k0_pay2, k0_pay1, combined]
  simp only [he, hr]
  blk_point [iblk, V, place t]

/-- The same for the second output, the copy in the narrower format. -/
theorem tileNarrow (c : Dev nD) (t : Fin cfg0.N) (y) :
    k0_pay2 (iblk m c 0 t) (k0_pay8 (iblk m c 0 t) (iblk m c 1 t) (iblk m c 2 t) (iblk m c 3 t) (iblk m c 4 t) (iblk m c 5 t) (iblk m c 6 t) (iblk m c 7 t))
        (k0_pay9 (iblk m c 0 t) (iblk m c 1 t) (iblk m c 2 t) (iblk m c 3 t) (iblk m c 4 t) (iblk m c 5 t) (iblk m c 6 t) (iblk m c 7 t)) (iblk m c 6 t) (iblk m c 7 t) y
      = truncf .bf16 (combined (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))) Cert.CombRefIdeal.Gen.bitsLt_bf16_f32 (((cfg0.win 9).blk t).view.emb y) := by
  obtain ⟨r, k, rfl⟩ : ∃ (r : Fin 128) (k : Fin 2048), y = ix2 r k := ⟨y 0, y 1, by funext d; fin_cases d <;> rfl⟩
  have hr := entryRow9 m c t r (l := k)
  have he := entryNarrow m c t r k
  generalize k0_pay8 (iblk m c 0 t) (iblk m c 1 t) (iblk m c 2 t) (iblk m c 3 t) (iblk m c 4 t) (iblk m c 5 t) (iblk m c 6 t) (iblk m c 7 t) = p at *
  generalize k0_pay9 (iblk m c 0 t) (iblk m c 1 t) (iblk m c 2 t) (iblk m c 3 t) (iblk m c 4 t) (iblk m c 5 t) (iblk m c 6 t) (iblk m c 7 t) = q at *
  pointwise [k0_pay2, k0_pay1, combined]
  simp only [he, hr]
  blk_point [iblk, V, place t]

/-- The first result array is the normalised rows. -/
theorem whole (c : Dev nD) : (dats m 0 c).arrAt 8 (cfgs 0).N
    = combined (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t _ y => ?_
  blk_simp
  rw [after0_8]; frame_out
  exact tile m c t y

/-- The second result array is the normalised rows in the narrower format. -/
theorem wholeNarrow (c : Dev nD) : (dats m 0 c).arrAt 9 (cfgs 0).N
    = truncf .bf16 (combined (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))) Cert.CombRefIdeal.Gen.bitsLt_bf16_f32 := by
  refine (dats m 0 c).arrAt_eq_of_covers 9 _ (by decide +kernel) fun t _ y => ?_
  blk_simp
  rw [after0_9]; frame_out
  exact tileNarrow m c t y

end Cert.CombIdeal.Combined

end
-- ==== Proof.ExpertsRange.lean ====
/- What the range asked of the routed experts' first argument says of its words. -/
module

public import proofs.«01_k».proof.Pre_experts_range
public import Idealize.ShloMosaic.Lib.Pipeline.ValueKit

@[expose] public section

noncomputable section

open Idealize.ShloMosaic

namespace Cert.Pre_experts_range

/-- A word that is at least zero and below 64 as a signed integer is one of the numbers 0 … 63. -/
theorem word_lt (x : BitVec 32) (h0 : IntOp.cmpi .sge x 0#32 = 1#1) (h1 : IntOp.cmpi .slt x 64#32 = 1#1) : x.toNat < 64 := by
  have g0 : (0#32).sle x = true := by
    revert h0; cases h : (0#32).sle x <;> simp [IntOp.cmpi, h]
  have g1 : x.slt 64#32 = true := by
    revert h1; cases h : x.slt 64#32 <;> simp [IntOp.cmpi, h]
  simp only [BitVec.sle, BitVec.slt, decide_eq_true_eq] at g0 g1
  have e0 : (0#32 : BitVec 32).toInt = 0 := by decide
  have e1 : (64#32 : BitVec 32).toInt = 64 := by decide
  rw [e0] at g0; rw [e1] at g1
  rw [BitVec.toInt_eq_toNat_cond] at g0 g1
  split at g0 <;> omega

variable [Facts]

/-- Under the precondition every block's expert is one of the numbers 0 … 63. -/
theorem expert_lt {F : FTy → Type} [FloatOps F] {a0 : IVec S584 32} {a1 : IVec S1 32} {a2 : FVec F S299008x2048 .bf16}
    {a3 : FVec F S2x64x2048x1024 .f32} {a4 : FVec F S2x64x512x2048 .f32} (h : fn a0 a1 a2 a3 a4 = fun _ => 1#1) (i : S584.Idx) :
    (a0 i).toNat < 64 := by
  have e : IntOp.andi (IntOp.cmpi .sge (a0 i) 0#32) (IntOp.cmpi .slt (a0 i) 64#32) = 1#1 := congrFun h i
  have a : ∀ p q : BitVec 1, IntOp.andi p q = 1#1 → p = 1#1 ∧ q = 1#1 := by decide
  exact word_lt _ (a _ _ e).1 (a _ _ e).2

end Cert.Pre_experts_range

end
-- ==== Proof.ExpertsIdealKit.lean ====
/- The routed experts' pipeline at the contents of its tables: its windows' blocks, its staging buffers and scratch. -/
module
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the pipeline starts: as they were launched, since the program is the call alone. -/
abbrev V (c : Dev nD) (b : Ref sig .tc) : Buf (Elt F) ((c : Thread nD τ).loc b) := m ((c : Thread nD τ).loc b)

set_option maxHeartbeats 800000 in
/-- The program is the pipeline's region and nothing before it. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables (each block's expert; the number of blocks in use) at launch. -/
def tbl : pre0.Contents (Elt F) := fun j => V m (0 : Dev nD) (pre0.ref j)

/-- There is one device, so every device's tables hold those contents. -/
theorem V_pre (c : Dev nD) (j : Fin 2) : V m c (pre0.ref j) = tbl m j := by
  obtain rfl : c = 0 := Subsingleton.elim _ _; rfl

/-- Every block of weights the tables name lies inside the weight arrays. -/
abbrev Ok : Prop := ok0 (F := F) (tbl m)
/-- The tables as contents the pipeline admits. -/
abbrev adm (hO : Ok m) : (pcfg0 (F := F)).Adm := ⟨tbl m, hO⟩
/-- The pipeline at those tables. -/
abbrev pipe (hO : Ok m) : Pipeline.Cfg sig Λ₀ := cfg0 (adm m hO)

/-- The table of experts and the count of blocks, whole. -/
abbrev expM : Memref sig .tc .smem S584 .i32 := Memref.whole main_arg0
abbrev hexpM : expM.IsWhole := Memref.isWhole_whole _
abbrev cntM : Memref sig .tc .smem S1 .i32 := Memref.whole main_arg1
abbrev hcntM : cntM.IsWhole := Memref.isWhole_whole _

/-- A table's buffer on a core, and that buffer held at half a share, to be read. -/
abbrev TabBuf (c : Dev nD) {S : Shape} {e : EltTy} (M : Memref sig .tc .smem S e) : Type := Buf (Elt F) (M.view.loc (c : Thread nD τ))
abbrev tabPt (c : Dev nD) {S : Shape} {e : EltTy} (M : Memref sig .tc .smem S e) (f : TabBuf (F := F) c M) : sProp 𝕄 :=
  M.view.loc (c : Thread nD τ) ↦{fullShare.right} f

/-- What the region hands the body of the tables, one table at a time. -/
theorem tables_eq (c : Dev nD) : (Pipeline.ΦT pre0 (tbl m) c : sProp 𝕄) = iprop(tabPt c expM (tbl m 0) ∗ tabPt c cntM (tbl m 1)) := by
  unfold Pipeline.ΦT Pipeline.prefHeld
  rw [show (Finset.univ : Finset (Fin 2)) = insert (0 : Fin 2) {(1 : Fin 2)} from by decide,
    bigSep_insert (by decide), bigSep_singleton]
  rfl

/-- Window `w`'s block of its array at point `t`. -/
def iblk (hO : Ok m) (c : Dev nD) (w : Fin (pipe m hO).W) (t : Fin (pipe m hO).N) : (((pipe m hO).win w).xblock ((pipe m hO).grid.coords t)).Idx → Elt F ((pipe m hO).win w).elt :=
  (((pipe m hO).win w).blk t).view.read (Elt F) (V m c (Pipeline.arrRef spec0 w))

/-- An input window's staging buffer holds that window's block at every point, for proof data which leave the block in
    place: where the block is not fetched anew the index has not moved. -/
theorem staged0 (hO : Ok m) {c : Dev nD} (dat : Dat τ (Elt F) Unit ℕ (UR sig nD τ) ℕ (pipe m hO) c) (hA : dat.A 0 = V m c (Pipeline.arrRef spec0 0))
    (hafter : ∀ t, dat.after 0 t = iblk m hO c 0 t) (t : Fin (pipe m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem staged1 (hO : Ok m) {c : Dev nD} (dat : Dat τ (Elt F) Unit ℕ (UR sig nD τ) ℕ (pipe m hO) c) (hA : dat.A 1 = V m c (Pipeline.arrRef spec0 1))
    (hafter : ∀ t, dat.after 1 t = iblk m hO c 1 t) (t : Fin (pipe m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem staged2 (hO : Ok m) {c : Dev nD} (dat : Dat τ (Elt F) Unit ℕ (UR sig nD τ) ℕ (pipe m hO) c) (hA : dat.A 2 = V m c (Pipeline.arrRef spec0 2))
    (hafter : ∀ t, dat.after 2 t = iblk m hO c 2 t) (t : Fin (pipe m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging memref at point `t`, and that it is whole. -/
abbrev st0 (hO : Ok m) (t : Fin (pipe m hO).N) : Memref sig .tc .vmem S512x2048 .bf16 := spec0_0.stage ((pipe m hO).slots t 0)
abbrev hst0 (hO : Ok m) (t : Fin (pipe m hO).N) : (st0 m hO t).IsWhole := hstage0_0 (((pipe m hO).slots t 0).cast nbuf0_0)
abbrev st1 (hO : Ok m) (t : Fin (pipe m hO).N) : Memref sig .tc .vmem S1x1x2048x1024 .f32 := spec0_1.stage ((pipe m hO).slots t 1)
abbrev hst1 (hO : Ok m) (t : Fin (pipe m hO).N) : (st1 m hO t).IsWhole := hstage0_1 (((pipe m hO).slots t 1).cast nbuf0_1)
abbrev st2 (hO : Ok m) (t : Fin (pipe m hO).N) : Memref sig .tc .vmem S1x1x512x2048 .f32 := spec0_2.stage ((pipe m hO).slots t 2)
abbrev hst2 (hO : Ok m) (t : Fin (pipe m hO).N) : (st2 m hO t).IsWhole := hstage0_2 (((pipe m hO).slots t 2).cast nbuf0_2)
abbrev st3 (hO : Ok m) (t : Fin (pipe m hO).N) : Memref sig .tc .vmem S512x2048 .bf16 := spec0_3.stage ((pipe m hO).slots t 3)
abbrev hst3 (hO : Ok m) (t : Fin (pipe m hO).N) : (st3 m hO t).IsWhole := hstage0_3 (((pipe m hO).slots t 3).cast nbuf0_3)
/-- The two scratch buffers which keep the narrowed weights. -/
abbrev guM : Memref sig .tc .vmem S2048x1024 .bf16 := Memref.whole cc0_scratch0
abbrev dnM : Memref sig .tc .vmem S512x2048 .bf16 := Memref.whole cc0_scratch1

/-- The body at point `t`, as the pipeline calls it. -/
abbrev bodyAt (hO : Ok m) (t : Fin (pipe m hO).N) : Prog (TpuEff nD τ sig (Elt F) Λ₀ .tc) PUnit :=
  cc0_routed_experts (grid0.coords t) expM hexpM cntM hcntM (st0 m hO t) (hst0 m hO t) (st1 m hO t) (hst1 m hO t) (st2 m hO t) (hst2 m hO t) (st3 m hO t) (hst3 m hO t) guM (Memref.isWhole_whole _) dnM (Memref.isWhole_whole _)

/-- The region's invariant with the scratch buffers at some contents. -/
theorem scratch_eq (c : Dev nD) :
    (Pipeline.ΦA spec0 c : sProp 𝕄)
      = iprop(iprop((∃ d, owns (c : Thread nD τ) guM fullShare d) ∗ (∃ d, owns (c : Thread nD τ) dnM fullShare d)) ∗ (∃ r, prngReg c r)) := by
  unfold Pipeline.ΦA; rw [scopedRest0_eq]; simp only [guM, dnM, owns_whole]; try rfl

/-- A count of blocks is above the point or it is not: one of the two branches on it is taken, and only one. -/
theorem branch_iff (i : grid0.Coords) (v : BitVec 32) : k0_cond3 i v = 1#1 ↔ ¬ k0_cond2 i v = 1#1 := by
  have h : ∀ a b : BitVec 32, Iff (Scalar.cmpi .ne (Scalar.extui (Scalar.cmpi .sge a b) : BitVec 32) 0#32 = 1#1)
      (¬ (Scalar.cmpi .ne (Scalar.extui (Scalar.cmpi .slt a b) : BitVec 32) 0#32 = 1#1)) := by
    intro a b
    simp only [Scalar.cmpi, IntOp.cmpi, Scalar.extui]
    rcases Decidable.em (a.toInt < b.toInt) with hlt | hlt
    · simp [BitVec.slt, BitVec.sle, hlt, not_le.mpr hlt]
    · simp [BitVec.slt, BitVec.sle, hlt, not_lt.mp hlt]
  exact h _ _

/-- The output window is live at every point. -/
theorem live3 (hO : Ok m) (t : Fin (pipe m hO).N) : (pipe m hO).idle 3 (grid0.coords t) = false := by
  show (!(k0_cond2 (grid0.coords t) ((tbl m).atD 1 ![0]) == 1#1) && !(k0_cond3 (grid0.coords t) ((tbl m).atD 1 ![0]) == 1#1)) = false
  have h := branch_iff (grid0.coords t) ((tbl m).atD 1 ![0])
  by_cases h2 : k0_cond2 (grid0.coords t) ((tbl m).atD 1 ![0]) = 1#1
  · simp [h2]
  · simp [h.mpr h2]

end Cert.ExpertsIdeal.Hand

end
-- ==== Proof.ExpertsIdealStep.lean ====
/- One run of the routed experts' kernel body, and what it leaves. -/
module
public import proofs.«01_k».proof.Proof.ExpertsIdealKit
public import Idealize.ShloMosaic.Lib.VecWindow
@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The expert of the block at a point, as the body loads it from the table, -/
def cur (c : Dev nD) (i : grid0.Coords) (xt0 : TabBuf (F := F) c expM) : BitVec 32 :=
  View.readAt (Elt F) expM.view (Rect.unit (s := S584) (k0_off1 i) S1.size (k0_off1_inb i)).toLoadRect xt0 (Shape.Idx.first (numel1_S1.symm ▸ Nat.one_pos))
/-- the expert of the block before it (at the first point, its own), -/
def prev (c : Dev nD) (i : grid0.Coords) (xt0 : TabBuf (F := F) c expM) : BitVec 32 :=
  View.readAt (Elt F) expM.view (Rect.unit (s := S584) (k0_off2 i) S1.size (k0_off2_inb i)).toLoadRect xt0 (Shape.Idx.first (numel1_S1.symm ▸ Nat.one_pos))
/-- and the number of blocks in use. -/
def used (c : Dev nD) (xt1 : TabBuf (F := F) c cntM) : BitVec 32 :=
  View.readAt (Elt F) cntM.view (Rect.unit (s := S1) ![0] S1.size inb_S1_S1_0).toLoadRect xt1 (Shape.Idx.first (numel1_S1.symm ▸ Nat.one_pos))

/-- Whether the body narrows the weights anew: at the first point, and where the expert changes. -/
def anew (c : Dev nD) (i : grid0.Coords) (xt0 : TabBuf (F := F) c expM) : BitVec 1 :=
  Scalar.cmpi .ne (Scalar.extui (Scalar.ori (Scalar.cmpi .eq (BitVec.ofNat 32 (i 0).val) 0#32) (Scalar.cmpi .ne (cur c i xt0) (prev c i xt0))) : BitVec 32) 0#32

/-- What the body leaves in the first scratch buffer, -/
def guOf (c : Dev nD) (i : grid0.Coords) (xt0 : TabBuf (F := F) c expM) (x1 : Vec F S1x1x2048x1024 .f32) (xs : Vec F S2048x1024 .bf16) : Vec F S2048x1024 .bf16 :=
  if anew c i xt0 = 1#1 then k0_pay1 x1 else xs
/-- in the second, -/
def dnOf (c : Dev nD) (i : grid0.Coords) (xt0 : TabBuf (F := F) c expM) (x2 : Vec F S1x1x512x2048 .f32) (xs : Vec F S512x2048 .bf16) : Vec F S512x2048 .bf16 :=
  if anew c i xt0 = 1#1 then k0_pay2 x2 else xs
/-- and in the output block, of the weights in the scratch buffers: the expert's network where the block is in use, else zero. -/
def outOf (c : Dev nD) (i : grid0.Coords) (xt1 : TabBuf (F := F) c cntM) (x0 : Vec F S512x2048 .bf16) (gu : Vec F S2048x1024 .bf16) (dn : Vec F S512x2048 .bf16) : Vec F S512x2048 .bf16 :=
  if k0_cond2 i (used c xt1) = 1#1 then k0_pay3 x0 gu dn else k0_pay4

set_option maxHeartbeats 1600000 in
/-- One run of the body on whole memrefs: the inputs and the tables stay, the scratch buffers and the output end at what
    `guOf`, `dnOf` and `outOf` say of what they began with. -/
theorem step (c : Dev nD) (i : grid0.Coords) (arg3 : Memref sig .tc .vmem S512x2048 .bf16) (harg3 : arg3.IsWhole) (arg4 : Memref sig .tc .vmem S1x1x2048x1024 .f32) (harg4 : arg4.IsWhole)
    (arg5 : Memref sig .tc .vmem S1x1x512x2048 .f32) (harg5 : arg5.IsWhole) (arg6 : Memref sig .tc .vmem S512x2048 .bf16) (harg6 : arg6.IsWhole) (arg7 : Memref sig .tc .vmem S2048x1024 .bf16) (harg7 : arg7.IsWhole)
    (arg8 : Memref sig .tc .vmem S512x2048 .bf16) (harg8 : arg8.IsWhole)
    (x0 : Vec F S512x2048 .bf16) (x1 : Vec F S1x1x2048x1024 .f32) (x2 : Vec F S1x1x512x2048 .f32) (xt0 : TabBuf (F := F) c expM) (xt1 : TabBuf (F := F) c cntM)
    (xs0 : Vec F S2048x1024 .bf16) (xs1 : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d)
        ∗ owns (c : Thread nD τ) arg7 fullShare xs0 ∗ owns (c : Thread nD τ) arg8 fullShare xs1 ∗ tabPt c expM xt0 ∗ tabPt c cntM xt1
        ∗ (iprop(owns (c : Thread nD τ) arg3 fullShare x0 ∗ owns (c : Thread nD τ) arg4 fullShare x1 ∗ owns (c : Thread nD τ) arg5 fullShare x2
              ∗ owns (c : Thread nD τ) arg6 fullShare (outOf c i xt1 x0 (guOf c i xt0 x1 xs0) (dnOf c i xt0 x2 xs1))
              ∗ owns (c : Thread nD τ) arg7 fullShare (guOf c i xt0 x1 xs0) ∗ owns (c : Thread nD τ) arg8 fullShare (dnOf c i xt0 x2 xs1)
              ∗ tabPt c expM xt0 ∗ tabPt c cntM xt1) -∗ K ⟨⟩))
      ⊢ wp frame (wpE (defs₀ (F := F)) Variants.none c none) E (cc0_routed_experts i expM hexpM cntM hcntM arg3 harg3 arg4 harg4 arg5 harg5 arg6 harg6 arg7 harg7 arg8 harg8) K := by
  simp only [cc0_routed_experts_eq_skeleton]; unfold cc0_routed_experts_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, HT0, HT1, Hk⟩
  obtain rfl := harg3.eq_unread hf0; obtain rfl := harg4.eq_unread hf1; obtain rfl := harg5.eq_unread hf2
  obtain rfl := harg7.eq_unread hfs0; obtain rfl := harg8.eq_unread hfs1
  sl_exec
  have e1 : View.readAt (Elt F) arg4.view (Rect.unit ![0, 0, 0, 0] S1x1x2048x1024.size inb_S1x1x2048x1024_S1x1x2048x1024_0_0_0_0).toLoadRect (harg4.unread x1) = x1 :=
    (View.readAt_full _ _ _).trans (harg4.read_unread _)
  have e2 : View.readAt (Elt F) arg5.view (Rect.unit ![0, 0, 0, 0] S1x1x512x2048.size inb_S1x1x512x2048_S1x1x512x2048_0_0_0_0).toLoadRect (harg5.unread x2) = x2 :=
    (View.readAt_full _ _ _).trans (harg5.read_unread _)
  have e0 : View.readAt (Elt F) arg3.view (Rect.unit ![0, 0] S512x2048.size inb_S512x2048_S512x2048_0_0).toLoadRect (harg3.unread x0) = x0 :=
    (View.readAt_full _ _ _).trans (harg3.read_unread _)
  have g : arg7.view.read (Elt F) (if hc : anew c i xt0 = 1#1 then
      arg7.view.writes (Elt F) (harg7.unread xs0) [⟨Rect.unit ![0, 0] S2048x1024.size inb_S2048x1024_S2048x1024_0_0, k0_pay1 (View.readAt (Elt F) arg4.view
        (Rect.unit ![0, 0, 0, 0] S1x1x2048x1024.size inb_S1x1x2048x1024_S1x1x2048x1024_0_0_0_0).toLoadRect (harg4.unread x1))⟩]
      else harg7.unread xs0) = guOf c i xt0 x1 xs0 := by
    unfold guOf
    by_cases h : anew c i xt0 = 1#1
    · rw [dif_pos h, if_pos h, e1]; exact View.read_writes_full _ _ _ _ _
    · rw [dif_neg h, if_neg h]; exact harg7.read_unread _
  have d : arg8.view.read (Elt F) (if hc : anew c i xt0 = 1#1 then
      arg8.view.writes (Elt F) (harg8.unread xs1) [⟨Rect.unit ![0, 0] S512x2048.size inb_S512x2048_S512x2048_0_0, k0_pay2 (View.readAt (Elt F) arg5.view
        (Rect.unit ![0, 0, 0, 0] S1x1x512x2048.size inb_S1x1x512x2048_S1x1x512x2048_0_0_0_0).toLoadRect (harg5.unread x2))⟩]
      else harg8.unread xs1) = dnOf c i xt0 x2 xs1 := by
    unfold dnOf
    by_cases h : anew c i xt0 = 1#1
    · rw [dif_pos h, if_pos h, e2]; exact View.read_writes_full _ _ _ _ _
    · rw [dif_neg h, if_neg h]; exact harg8.read_unread _
  have g' : step.sl.v20 c i arg4 harg4 arg7 harg7 x1 xt0 xs0 = guOf c i xt0 x1 xs0 := (View.readAt_full _ _ _).trans g
  have d' : step.sl.v34 c i arg5 harg5 arg8 harg8 x2 xt0 xs1 = dnOf c i xt0 x2 xs1 := (View.readAt_full _ _ _).trans d
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [g', d', e0]
    unfold outOf
    by_cases h : k0_cond2 i (used c xt1) = 1#1
    · have h3 : ¬ k0_cond3 i (used c xt1) = 1#1 := fun h' => (branch_iff i _).mp h' h
      rw [if_pos h]
      refine (congrArg (arg6.view.read (Elt F)) ((dif_neg h3).trans (dif_pos h))).trans ?_
      exact View.read_writes_full _ _ _ _ _
    · have h3 : k0_cond3 i (used c xt1) = 1#1 := (branch_iff i _).mpr h
      rw [if_neg h]
      refine (congrArg (arg6.view.read (Elt F)) (dif_pos h3)).trans ?_
      exact View.read_writes_full _ _ _ _ _
  isplitl [HS0]
  · iexists _; isplitr
    swap; · iexact HS0
    ipureintro; exact g
  isplitl [HS1]
  · iexists _; isplitr
    swap; · iexact HS1
    ipureintro; exact d
  isplitl [HT0]; · iexact HT0
  iexact HT1

end Cert.ExpertsIdeal.Hand

end
-- ==== Proof.ExpertsIdealQuiet.lean ====
/- The routed experts' whole run: the body at every point, and the frame. -/
module
public import proofs.«01_k».proof.Proof.ExpertsIdealStep
public import Idealize.ShloMosaic.Lib.WholeRead
@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one grid coordinate of a point is the point's number. -/
theorem coord (t : Fin grid0.N) : (grid0.coords t 0).val = t.val := by
  have ht : t.val < 584 := Nat.lt_of_lt_of_eq t.isLt N_0
  have e0 : (grid0.coords t 0).val = t.val / 1 % 584 := Pipeline.Grid.coords_val t 0 (by decide) rfl
  omega

/-- At the first point the weights are narrowed anew, -/
theorem anew_zero (c : Dev nD) (t : Fin grid0.N) (h : t.val = 0) (xt0 : TabBuf (F := F) c expM) : anew c (grid0.coords t) xt0 = 1#1 := by
  have e0 : (grid0.coords t 0).val = t.val / 1 % 584 := Pipeline.Grid.coords_val t 0 (by decide) rfl
  have e1 : (grid0.coords t 0).val = 0 := by rw [e0, h]
  unfold anew
  rw [e1]
  have : ∀ b : BitVec 1, Scalar.cmpi .ne (Scalar.extui (Scalar.ori (Scalar.cmpi .eq (BitVec.ofNat 32 0) 0#32) b) : BitVec 32) 0#32 = 1#1 := by decide
  exact this _

/-- and where they are not narrowed anew, the point is not the first and has the expert of the point before. -/
theorem kept (c : Dev nD) (t : Fin grid0.N) (xt0 : TabBuf (F := F) c expM) (h : ¬ anew c (grid0.coords t) xt0 = 1#1) :
    t.val ≠ 0 ∧ cur c (grid0.coords t) xt0 = prev c (grid0.coords t) xt0 := by
  refine ⟨fun h0 => h (anew_zero c t h0 xt0), ?_⟩
  by_contra hne
  refine h ?_
  have key : ∀ b : BitVec 1, Scalar.cmpi .ne (Scalar.extui (Scalar.ori b 1#1) : BitVec 32) 0#32 = 1#1 := by decide
  have hw : Scalar.cmpi .ne (cur c (grid0.coords t) xt0) (prev c (grid0.coords t) xt0) = 1#1 := by
    have hb : (cur c (grid0.coords t) xt0 != prev c (grid0.coords t) xt0) = true := by simpa using hne
    simp only [Scalar.cmpi, IntOp.cmpi]
    rw [hb]; rfl
  unfold anew
  rw [hw]
  exact key _

/-- The load of the expert before point `t`, `t` not the first, is the load at the point before. -/
theorem prev_eq (c : Dev nD) (t t' : Fin grid0.N) (h : t.val = t'.val + 1) (xt0 : TabBuf (F := F) c expM) :
    prev c (grid0.coords t) xt0 = cur c (grid0.coords t') xt0 := by
  have e : k0_off2 (grid0.coords t) = k0_off1 (grid0.coords t') := by
    have ht : t.val < 584 := Nat.lt_of_lt_of_eq t.isLt N_0
    have e0 : (grid0.coords t 0).val = t.val := coord t
    have e1 : (grid0.coords t' 0).val = t'.val := coord t'
    have hs : Scalar.maxsi (Scalar.subi (BitVec.ofNat 32 (t'.val + 1)) 1#32) 0#32 = BitVec.ofNat 32 t'.val := by
      have hsub : Scalar.subi (BitVec.ofNat 32 (t'.val + 1)) 1#32 = BitVec.ofNat 32 t'.val := by
        simp only [Scalar.subi, IntOp.subi]
        apply BitVec.eq_of_toNat_eq
        simp
        omega
      rw [hsub]
      have hle : (0#32).slt (BitVec.ofNat 32 t'.val) = false → 0#32 = BitVec.ofNat 32 t'.val := by
        intro hle
        have hi : (BitVec.ofNat 32 t'.val).toInt = t'.val := by
          rw [BitVec.toInt_eq_toNat_of_lt] <;> simp <;> omega
        have : t'.val = 0 := by simp [BitVec.slt, hi] at hle; omega
        rw [this]
      simp only [Scalar.maxsi, IntOp.maxsi]
      split <;> simp_all
    unfold k0_off2 k0_off1
    dsimp only
    rw [e0, e1, h, hs]
  have key : ∀ (o o' : Fin 1 → ℕ) (h : ∀ a, o a + S1.size a ≤ S584.size a) (h' : ∀ a, o' a + S1.size a ≤ S584.size a), o = o' →
      View.readAt (Elt F) expM.view (Rect.unit (s := S584) o S1.size h).toLoadRect xt0 (Shape.Idx.first (numel1_S1.symm ▸ Nat.one_pos))
        = View.readAt (Elt F) expM.view (Rect.unit (s := S584) o' S1.size h').toLoadRect xt0 (Shape.Idx.first (numel1_S1.symm ▸ Nat.one_pos)) := by
    intro o o' h h' ho; subst ho; rfl
  exact key _ _ _ _ e

/-- What the body leaves in the output block at point `t`: the network of the point's expert, its weights narrowed, on the
    point's block of slots; zero past the blocks in use. -/
def outAt (hO : Ok m) (c : Dev nD) (t : Fin (pipe m hO).N) : Vec F S512x2048 .bf16 :=
  outOf c (grid0.coords t) (tbl m 1) (iblk m hO c 0 t) (k0_pay1 (iblk m hO c 1 t)) (k0_pay2 (iblk m hO c 2 t))

/-- The region's invariant before position `n`: the tables, and from the second point on the scratch buffers at the narrowed
    weights of the point before. -/
def keeps (hO : Ok m) (c : Dev nD) : (n : ℕ) → n ≤ (pipe m hO).N → sProp 𝕄
  | 0, _ => iprop(Pipeline.ΦA spec0 c ∗ Pipeline.ΦT pre0 (tbl m) c)
  | n + 1, hn => iprop(iprop(iprop(owns (c : Thread nD τ) guM fullShare (k0_pay1 (iblk m hO c 1 ⟨n, hn⟩)) ∗ owns (c : Thread nD τ) dnM fullShare (k0_pay2 (iblk m hO c 2 ⟨n, hn⟩))) ∗ (∃ r, prngReg c r)) ∗ Pipeline.ΦT pre0 (tbl m) c)

theorem keeps_zero (hO : Ok m) (c : Dev nD) (n : ℕ) (h : n ≤ (pipe m hO).N) (hz : n = 0) : keeps m hO c n h = iprop(Pipeline.ΦA spec0 c ∗ Pipeline.ΦT pre0 (tbl m) c) := by
  subst hz; rfl
theorem keeps_succ (hO : Ok m) (c : Dev nD) (n : ℕ) (hn : n < (pipe m hO).N) :
    keeps m hO c (n + 1) hn = iprop(iprop(iprop(owns (c : Thread nD τ) guM fullShare (k0_pay1 (iblk m hO c 1 ⟨n, hn⟩)) ∗ owns (c : Thread nD τ) dnM fullShare (k0_pay2 (iblk m hO c 2 ⟨n, hn⟩))) ∗ (∃ r, prngReg c r)) ∗ Pipeline.ΦT pre0 (tbl m) c) := rfl
theorem keeps_pos (hO : Ok m) (c : Dev nD) (n : ℕ) (h : n ≤ (pipe m hO).N) (hz : n ≠ 0) :
    keeps m hO c n h = iprop(iprop(iprop(owns (c : Thread nD τ) guM fullShare (k0_pay1 (iblk m hO c 1 ⟨n - 1, by omega⟩)) ∗ owns (c : Thread nD τ) dnM fullShare (k0_pay2 (iblk m hO c 2 ⟨n - 1, by omega⟩))) ∗ (∃ r, prngReg c r)) ∗ Pipeline.ΦT pre0 (tbl m) c) := by
  cases n with
  | zero => exact absurd rfl hz
  | succ n => rfl

/-- The pipeline's proof data: the arrays as launched, each input's buffer at its block, the output's at `outAt`. -/
def dats (hO : Ok m) (_ : Fin 1) (c : Dev nD) : Dat τ (Elt F) Unit ℕ (UR sig nD τ) ℕ (pipe m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => outAt m hO c t
  Φ t := keeps m hO c t.val (Nat.le_of_lt_succ t.isLt)
  q _ := fullShare
  owed _ := 0

theorem A_eq (hO : Ok m) (c : Dev nD) (w : Fin (pipe m hO).W) : (dats m hO 0 c).A w = V m c (Pipeline.arrRef spec0 w) := by
  dsimp only [dats]
theorem Φ_before (hO : Ok m) (c : Dev nD) (t : Fin (pipe m hO).N) :
    (dats m hO 0 c).Φ t.castSucc = keeps m hO c t.val (Nat.le_of_lt t.isLt) := by
  dsimp only [dats]; exact Pipeline.Dat.Φ_castSucc (keeps m hO c) t
theorem after_0 (hO : Ok m) (c : Dev nD) (t : Fin (pipe m hO).N) : (dats m hO 0 c).after 0 t = iblk m hO c 0 t := by dsimp only [dats]; try rfl
theorem after_1 (hO : Ok m) (c : Dev nD) (t : Fin (pipe m hO).N) : (dats m hO 0 c).after 1 t = iblk m hO c 1 t := by dsimp only [dats]; try rfl
theorem after_2 (hO : Ok m) (c : Dev nD) (t : Fin (pipe m hO).N) : (dats m hO 0 c).after 2 t = iblk m hO c 2 t := by dsimp only [dats]; try rfl
theorem after_3 (hO : Ok m) (c : Dev nD) (t : Fin (pipe m hO).N) : (dats m hO 0 c).after 3 t = outAt m hO c t := by dsimp only [dats]; try rfl
theorem before_0 (hO : Ok m) (c : Dev nD) (t : Fin (pipe m hO).N) (d) : (dats m hO 0 c).before 0 t d = iblk m hO c 0 t :=
  staged0 m hO (dats m hO 0 c) (A_eq m hO c 0) (after_0 m hO c) t d
theorem before_1 (hO : Ok m) (c : Dev nD) (t : Fin (pipe m hO).N) (d) : (dats m hO 0 c).before 1 t d = iblk m hO c 1 t :=
  staged1 m hO (dats m hO 0 c) (A_eq m hO c 1) (after_1 m hO c) t d
theorem before_2 (hO : Ok m) (c : Dev nD) (t : Fin (pipe m hO).N) (d) : (dats m hO 0 c).before 2 t d = iblk m hO c 2 t :=
  staged2 m hO (dats m hO 0 c) (A_eq m hO c 2) (after_2 m hO c) t d

/-- The index of a window of weights is made of the table's word at the point, so where two points load the same word
    their blocks of weights are the same. -/
theorem index_1 (hO : Ok m) (c : Dev nD) (t : Fin (pipe m hO).N) : ((pipe m hO).win 1).index t = ![0, (cur c (grid0.coords t) (tbl m 0)).toNat, 0, 0] := rfl
theorem index_2 (hO : Ok m) (c : Dev nD) (t : Fin (pipe m hO).N) : ((pipe m hO).win 2).index t = ![0, (cur c (grid0.coords t) (tbl m 0)).toNat, 0, 0] := rfl

theorem same_1 (hO : Ok m) (c : Dev nD) (t t' : Fin (pipe m hO).N) (h : cur c (grid0.coords t) (tbl m 0) = cur c (grid0.coords t') (tbl m 0)) :
    (iblk m hO c 1 t : Vec F S1x1x2048x1024 .f32) = iblk m hO c 1 t' := by
  have e := fun (t : Fin (pipe m hO).N) => (show (dats m hO 0 c).fetched 1 t default = iblk m hO c 1 t from by unfold Dat.fetched Dat.blockOf iblk; rw [A_eq]; try rfl)
  have hix : ((pipe m hO).win 1).index t = ((pipe m hO).win 1).index t' :=
    (index_1 m hO c t).trans ((congrArg (fun w : BitVec 32 => (![0, w.toNat, 0, 0] : Fin 4 → ℕ)) h).trans (index_1 m hO c t').symm)
  exact (e t).symm.trans (((dats m hO 0 c).fetched_congr 1 (t := t) (t' := t') hix rfl default).trans (e t'))
theorem same_2 (hO : Ok m) (c : Dev nD) (t t' : Fin (pipe m hO).N) (h : cur c (grid0.coords t) (tbl m 0) = cur c (grid0.coords t') (tbl m 0)) :
    (iblk m hO c 2 t : Vec F S1x1x512x2048 .f32) = iblk m hO c 2 t' := by
  have e := fun (t : Fin (pipe m hO).N) => (show (dats m hO 0 c).fetched 2 t default = iblk m hO c 2 t from by unfold Dat.fetched Dat.blockOf iblk; rw [A_eq]; try rfl)
  have hix : ((pipe m hO).win 2).index t = ((pipe m hO).win 2).index t' :=
    (index_2 m hO c t).trans ((congrArg (fun w : BitVec 32 => (![0, w.toNat, 0, 0] : Fin 4 → ℕ)) h).trans (index_2 m hO c t').symm)
  exact (e t).symm.trans (((dats m hO 0 c).fetched_congr 2 (t := t) (t' := t') hix rfl default).trans (e t'))

/-- Whatever the scratch buffers held at the first point, and if they held the point before's narrowed weights at a later one,
    the body leaves the point's own narrowed weights in them. -/
theorem gu_first (hO : Ok m) (c : Dev nD) (t : Fin (pipe m hO).N) (hz : t.val = 0) (xs) : guOf c (grid0.coords t) (tbl m 0) (iblk m hO c 1 t) xs = k0_pay1 (iblk m hO c 1 t) :=
  if_pos (anew_zero c t hz _)
theorem dn_first (hO : Ok m) (c : Dev nD) (t : Fin (pipe m hO).N) (hz : t.val = 0) (xs) : dnOf c (grid0.coords t) (tbl m 0) (iblk m hO c 2 t) xs = k0_pay2 (iblk m hO c 2 t) :=
  if_pos (anew_zero c t hz _)
theorem gu_later (hO : Ok m) (c : Dev nD) (t t' : Fin (pipe m hO).N) (h : t.val = t'.val + 1) :
    guOf c (grid0.coords t) (tbl m 0) (iblk m hO c 1 t) (k0_pay1 (iblk m hO c 1 t')) = k0_pay1 (iblk m hO c 1 t) := by
  unfold guOf
  by_cases ha : anew c (grid0.coords t) (tbl m 0) = 1#1
  · exact if_pos ha
  · refine (if_neg ha).trans (congrArg k0_pay1 ?_)
    exact (same_1 m hO c t t' ((kept c t _ ha).2.trans (prev_eq c t t' h _))).symm
theorem dn_later (hO : Ok m) (c : Dev nD) (t t' : Fin (pipe m hO).N) (h : t.val = t'.val + 1) :
    dnOf c (grid0.coords t) (tbl m 0) (iblk m hO c 2 t) (k0_pay2 (iblk m hO c 2 t')) = k0_pay2 (iblk m hO c 2 t) := by
  unfold dnOf
  by_cases ha : anew c (grid0.coords t) (tbl m 0) = 1#1
  · exact if_pos ha
  · refine (if_neg ha).trans (congrArg k0_pay2 ?_)
    exact (same_2 m hO c t t' ((kept c t _ ha).2.trans (prev_eq c t t' h _))).symm

/-- What the body is called with at point `t`, -/
def bodyPre (hO : Ok m) (c : Dev nD) (t : Fin (pipe m hO).N) : sProp 𝕄 :=
  iprop((dats m hO 0 c).Φ t.castSucc ∗ (dats m hO 0 c).owesAt () t.castSucc
    ∗ (∃ d, owns (c : Thread nD τ) (st0 m hO t) fullShare ((dats m hO 0 c).before 0 t d))
    ∗ (∃ d, owns (c : Thread nD τ) (st1 m hO t) fullShare ((dats m hO 0 c).before 1 t d))
    ∗ (∃ d, owns (c : Thread nD τ) (st2 m hO t) fullShare ((dats m hO 0 c).before 2 t d))
    ∗ (∃ d, owns (c : Thread nD τ) (st3 m hO t) fullShare ((dats m hO 0 c).before 3 t d)))
/-- and what it returns. -/
def bodyPost (hO : Ok m) (c : Dev nD) (t : Fin (pipe m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

set_option maxHeartbeats 3200000 in
/-- The body at any point, from the invariant before it to the invariant after it. -/
theorem body_point (hO : Ok m) (c : Dev nD) (t : Fin (pipe m hO).N) :
    bodyPre m hO c t ⊢ wp frame (wpE (defs₀ (F := F)) Variants.none c none) Set.univ (bodyAt m hO t) (fun _ => bodyPost m hO c t) := by
  unfold bodyPre bodyPost bodyAt
  simp only [before_0, before_1, before_2]
  rw [show (dats m hO 0 c).owesAt () t.succ = (dats m hO 0 c).owesAt () t.castSucc from rfl]
  rw [show (dats m hO 0 c).Φ t.succ = keeps m hO c (t.val + 1) t.isLt from rfl, keeps_succ, tables_eq]
  rw [show (dats m hO 0 c).leavesExact 0 t = owns (c : Thread nD τ) (st0 m hO t) fullShare ((dats m hO 0 c).after 0 t) from by
    unfold Dat.leavesExact; rw [show (pipe m hO).idle 0 (grid0.coords t) = false from rfl]; try rfl, after_0]
  rw [show (dats m hO 0 c).leavesExact 1 t = owns (c : Thread nD τ) (st1 m hO t) fullShare ((dats m hO 0 c).after 1 t) from by
    unfold Dat.leavesExact; rw [show (pipe m hO).idle 1 (grid0.coords t) = false from rfl]; try rfl, after_1]
  rw [show (dats m hO 0 c).leavesExact 2 t = owns (c : Thread nD τ) (st2 m hO t) fullShare ((dats m hO 0 c).after 2 t) from by
    unfold Dat.leavesExact; rw [show (pipe m hO).idle 2 (grid0.coords t) = false from rfl]; try rfl, after_2]
  rw [show (dats m hO 0 c).leavesExact 3 t = owns (c : Thread nD τ) (st3 m hO t) fullShare ((dats m hO 0 c).after 3 t) from by
    unfold Dat.leavesExact; rw [live3 m hO t]; try rfl, after_3]
  unfold outAt
  by_cases hz : t.val = 0
  · rw [Φ_before m hO c t, keeps_zero m hO c _ _ hz, tables_eq, scratch_eq]
    iintro ⟨⟨⟨⟨⟨%s0, HS0⟩, ⟨%s1, HS1⟩⟩, Hg⟩, ⟨HT0, HT1⟩⟩, Ho, ⟨%d0, H0⟩, ⟨%d1, H1⟩, ⟨%d2, H2⟩, ⟨%d3, H3⟩⟩
    have hs := step c (grid0.coords t) (st0 m hO t) (hst0 m hO t) (st1 m hO t) (hst1 m hO t) (st2 m hO t) (hst2 m hO t) (st3 m hO t) (hst3 m hO t) guM (Memref.isWhole_whole _) dnM (Memref.isWhole_whole _)
      (iblk m hO c 0 t) (iblk m hO c 1 t) (iblk m hO c 2 t) (tbl m 0) (tbl m 1) s0 s1 Set.univ
    rw [gu_first m hO c t hz, dn_first m hO c t hz] at hs
    iapply (hs _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3
  · rw [Φ_before m hO c t, keeps_pos m hO c _ _ hz, tables_eq]
    iintro ⟨⟨⟨⟨HS0, HS1⟩, Hg⟩, ⟨HT0, HT1⟩⟩, Ho, ⟨%d0, H0⟩, ⟨%d1, H1⟩, ⟨%d2, H2⟩, ⟨%d3, H3⟩⟩
    have hs := step c (grid0.coords t) (st0 m hO t) (hst0 m hO t) (st1 m hO t) (hst1 m hO t) (st2 m hO t) (hst2 m hO t) (st3 m hO t) (hst3 m hO t) guM (Memref.isWhole_whole _) dnM (Memref.isWhole_whole _)
      (iblk m hO c 0 t) (iblk m hO c 1 t) (iblk m hO c 2 t) (tbl m 0) (tbl m 1) (k0_pay1 (iblk m hO c 1 ⟨t.val - 1, by omega⟩)) (k0_pay2 (iblk m hO c 2 ⟨t.val - 1, by omega⟩)) Set.univ
    rw [gu_later m hO c t ⟨t.val - 1, by omega⟩ (by simp; omega), dn_later m hO c t ⟨t.val - 1, by omega⟩ (by simp; omega)] at hs
    iapply (hs _)
    isplitl [H0]; · iexact H0
    isplitl [H1]; · iexact H1
    isplitl [H2]; · iexact H2
    isplitl [H3]; · iexists _; iexact H3
    isplitl [HS0]; · iexact HS0
    isplitl [HS1]; · iexact HS1
    isplitl [HT0]; · iexact HT0
    isplitl [HT1]; · iexact HT1
    iintro ⟨H0, H1, H2, H3, HS0, HS1, HT0, HT1⟩
    isplitl [HS0 HS1 Hg HT0 HT1]
    · isplitl [HS0 HS1 Hg]
      · isplitl [HS0 HS1]
        · isplitl [HS0]; · iexact HS0
          iexact HS1
        iexact Hg
      isplitl [HT0]; · iexact HT0
      iexact HT1
    isplitl [Ho]; · iexact Ho
    isplitl [H0]; · iexact H0
    isplitl [H1]; · iexact H1
    isplitl [H2]; · iexact H2
    iexact H3

/-- The pipeline's procedure at point `t` is the body there. -/
theorem row (hO : Ok m) (t : Fin (pipe m hO).N) :
    defs₀ (F := F) .tc (pipe m hO).body ((pipe m hO).bodyArgs t ((pipe m hO).slots t)) = bodyAt m hO t := by
  unfold defs₀; rw [Defs.onTc_tc]

theorem body_all (hO : Ok m) (c : Dev nD) : BodyObligation (dats (F := F) m hO 0 c) (defs₀ (F := F)) Variants.none () Set.univ := fun t => by
  rw [bigSep_W0, bigSep_W0, row m hO]
  exact triple_restated (body_point m hO c t) rfl .rfl fun _ => .rfl

/-- The region enters with the invariant before the first point, -/
theorem enter (hO : Ok m) (c : Dev nD) : iprop(Pipeline.ΦA spec0 c ∗ Pipeline.ΦT pre0 (tbl m) c) ⊢ (dats m hO 0 c).Φ 0 := by
  rw [show (dats m hO 0 c).Φ 0 = keeps m hO c 0 (Nat.zero_le _) from rfl, keeps_zero m hO c 0 _ rfl]
  try exact Idealize.SL.BI.Entails.refl _
/-- and leaves with the scratch buffers at some contents. -/
theorem leave (hO : Ok m) (c : Dev nD) : (dats m hO 0 c).Φ (Fin.last (pipe m hO).N) ⊢ Pipeline.ΦA spec0 c := by
  rw [show (dats m hO 0 c).Φ (Fin.last (pipe m hO).N) = keeps m hO c (pipe m hO).N le_rfl from rfl,
    keeps_pos m hO c _ _ (by have : (pipe m hO).N = 584 := N_0; omega), scratch_eq]
  iintro ⟨⟨⟨HS0, HS1⟩, Hg⟩, -⟩
  isplitl [HS0 HS1]
  · isplitl [HS0]
    · iexists _; iexact HS0
    iexists _; iexact HS1
  iexact Hg

-- the launch theorem's implicit arguments are found by unfolding plain definitions in a metavariable's type
set_option backward.isDefEq.respectTransparency.types false in
/-- The whole program: every execution terminates with every array at what the proof data say, every other buffer as it was,
    and every counter at zero. -/
theorem run_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_all m hO c).loose) (hshare := fun c => (dats m hO 0 c).share_full fun _ => rfl)
    (howed := fun _ _ => rfl) (V := V m) (hmain := hmain m Variants.none) (hA := A_eq m hO) (hpf := V_pre m)
    (hin := enter m hO) (hout := leave m hO)

/-- The same without the counters. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_quiescent m ρ hO)

/-- The program runs to the end with its arguments unchanged and every counter at zero, when the tables' blocks lie inside the
    weights. -/
theorem quiet (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).2 main_arg0 (by decide : main_arg0 ∈ Pipeline.restRefs sig spec0),
      (h.1 c).2 main_arg1 (by decide : main_arg1 ∈ Pipeline.restRefs sig spec0),
      ((h.1 c).1 0).trans (((dats m hO 0 c).arrAt_in 0 rfl _).trans (A_eq m hO c 0)),
      ((h.1 c).1 1).trans (((dats m hO 0 c).arrAt_in 1 rfl _).trans (A_eq m hO c 1)),
      ((h.1 c).1 2).trans (((dats m hO 0 c).arrAt_in 2 rfl _).trans (A_eq m hO c 2))⟩, h.2⟩) (run_quiescent m ρ hO)

end Cert.ExpertsIdeal.Hand

end
-- ==== Proof.ExpertsIdealOk.lean ====
/- The blocks of weights the routed experts' tables name lie inside the weight arrays. -/
module

public import proofs.«01_k».proof.Proof.ExpertsIdealQuiet
public import proofs.«01_k».proof.Proof.ExpertsRange
public import proofs.«01_k».proof.Proof.Gen.Pre_experts_range

@[expose] public section

set_option maxRecDepth 16384

noncomputable section

open Idealize.ShloMosaic Idealize.ShloMosaic.TcCoe

namespace Cert.ExpertsIdeal.Hand

open Cert.ExpertsIdeal Cert.ExpertsIdeal.Gen

variable {F : FTy → Type} [FloatOps F] (m : (ℓ : Loc nD τ sig) → Buf (Elt F) ℓ)

/-- Where every word of the table of experts is below 64, the pipeline admits the tables. -/
theorem ok_of_words (h : ∀ i : S584.Idx, ((tbl m 0 : IVec S584 32) i).toNat < 64) : Ok m := by
  refine ⟨fun i => ⟨fun a => ?_, Or.inl rfl⟩, fun i => ⟨fun a => ?_, Or.inl rfl⟩⟩
  · have hw := h ((Rect.unit (s := S584) (k0_off1 i) S1.size (k0_off1_inb i)).emb (Shape.Idx.first (numel1_S1.symm ▸ Nat.one_pos)))
    match a with
    | ⟨0, _⟩ => exact (by decide : (0 + 1) * 1 ≤ 2)
    | ⟨1, _⟩ => exact Nat.le_trans (Nat.le_of_eq (Nat.mul_one _)) hw
    | ⟨2, _⟩ => exact (by decide : (0 + 1) * 2048 ≤ 2048)
    | ⟨3, _⟩ => exact (by decide : (0 + 1) * 1024 ≤ 1024)
  · have hw := h ((Rect.unit (s := S584) (k0_off1 i) S1.size (k0_off1_inb i)).emb (Shape.Idx.first (numel1_S1.symm ▸ Nat.one_pos)))
    match a with
    | ⟨0, _⟩ => exact (by decide : (0 + 1) * 1 ≤ 2)
    | ⟨1, _⟩ => exact Nat.le_trans (Nat.le_of_eq (Nat.mul_one _)) hw
    | ⟨2, _⟩ => exact (by decide : (0 + 1) * 512 ≤ 512)
    | ⟨3, _⟩ => exact (by decide : (0 + 1) * 2048 ≤ 2048)

/-- The precondition bounds every word of the table of experts, -/
theorem words_of_pre {a2 : FVec F Cert.Pre_experts_range.S299008x2048 .bf16}
    {a3 : FVec F Cert.Pre_experts_range.S2x64x2048x1024 .f32} {a4 : FVec F Cert.Pre_experts_range.S2x64x512x2048 .f32}
    (h : Cert.Pre_experts_range.fn (F := F) (m (((0 : Dev nD).tc : Thread nD τ).loc main_arg0)) (m (((0 : Dev nD).tc : Thread nD τ).loc main_arg1)) a2 a3 a4
      = fun _ => 1#1) (i : S584.Idx) : ((tbl m 0 : IVec S584 32) i).toNat < 64 :=
  Cert.Pre_experts_range.expert_lt h i

end Cert.ExpertsIdeal.Hand

end
-- ==== Proof.ExpertsTake.lean ====
/- The rows of a three-axis array that a table of words names: the reference's weights of each block's expert. -/
module

public import proofs.«01_k».proof.Proof.Gen.ExpertsRefIdeal
public import Idealize.ShloMosaic.Lib.Pipeline.ValueKit

@[expose] public section

set_option maxRecDepth 16384

noncomputable section

open Idealize.ShloMosaic Idealize.ShloMosaic.ValueIdx

namespace Cert.ExpertsRefIdeal.Take

open Cert.ExpertsRefIdeal Cert.ExpertsRefIdeal.Gen

/-- A word below 64 read signed and held between 0 and 63 is the word. -/
theorem clamp (x : BitVec 32) (h : x.toNat < 64) : min x.toInt.toNat (64 - 1) = x.toNat := by
  rw [BitVec.toInt_eq_toNat_cond, if_pos (by omega)]
  have : ((x.toNat : ℕ) : ℤ).toNat = x.toNat := Int.toNat_natCast _
  omega

/-- Entry `(n, k, f)` of the blocks' first weights is entry `(e, k, f)` of the weights, `e` the word at `(n, 0)`. -/
theorem gather_gu {α : Type} (x : S64x2048x1024.Idx → α) (idx : IVec S584x1 32) (y : S584x2048x1024.Idx) (z : S584x1.Idx)
    (hz : (z 0).val = (y 0).val) (h : (idx z).toNat < 64) (w : S64x2048x1024.Idx) (h0 : (w 0).val = (idx z).toNat)
    (h1 : (w 1).val = (y 1).val) (h2 : (w 2).val = (y 2).val) : Host.gather gather_S64x2048x1024_S584x1_S584x2048x1024_12_0_n_n_0_1_120481024 x idx y = x w := by
  have hs : ∀ k, GatherDims.siIdx gather_S64x2048x1024_S584x1_S584x2048x1024_12_0_n_n_0_1_120481024 y k = z := by
    intro k; funext b; refine Fin.ext ?_
    have hb : b = 0 ∨ b = 1 := by
      match b with
      | ⟨0, _⟩ => exact Or.inl rfl
      | ⟨1, _⟩ => exact Or.inr rfl
    rcases hb with rfl | rfl
    · exact hz.symm
    · have e1 : (z 1).val < 1 := (z 1).isLt
      have e2 : (GatherDims.siIdx gather_S64x2048x1024_S584x1_S584x2048x1024_12_0_n_n_0_1_120481024 y k 1).val < 1 := (GatherDims.siIdx gather_S64x2048x1024_S584x1_S584x2048x1024_12_0_n_n_0_1_120481024 y k 1).isLt
      omega
  unfold Host.gather
  refine congrArg x (funext fun a => Fin.ext ?_)
  show GatherDims.start gather_S64x2048x1024_S584x1_S584x2048x1024_12_0_n_n_0_1_120481024 y idx a + GatherDims.batchCoord gather_S64x2048x1024_S584x1_S584x2048x1024_12_0_n_n_0_1_120481024 y a + GatherDims.offCoord gather_S64x2048x1024_S584x1_S584x2048x1024_12_0_n_n_0_1_120481024 y a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ GatherDims.startIndexMap gather_S64x2048x1024_S584x1_S584x2048x1024_12_0_n_n_0_1_120481024 from List.mem_singleton.mpr rfl), hs]
    exact (clamp _ h).trans h0.symm
  · unfold GatherDims.start
    rw [dif_neg (show ¬ (1 : Fin 3) ∈ GatherDims.startIndexMap gather_S64x2048x1024_S584x1_S584x2048x1024_12_0_n_n_0_1_120481024 by decide), Nat.zero_add]
    exact h1.symm
  · unfold GatherDims.start
    rw [dif_neg (show ¬ (2 : Fin 3) ∈ GatherDims.startIndexMap gather_S64x2048x1024_S584x1_S584x2048x1024_12_0_n_n_0_1_120481024 by decide), Nat.zero_add]
    exact h2.symm

/-- Entry `(n, k, f)` of the blocks' second weights is entry `(e, k, f)` of the weights, `e` the word at `(n, 0)`. -/
theorem gather_dn {α : Type} (x : S64x512x2048.Idx → α) (idx : IVec S584x1 32) (y : S584x512x2048.Idx) (z : S584x1.Idx)
    (hz : (z 0).val = (y 0).val) (h : (idx z).toNat < 64) (w : S64x512x2048.Idx) (h0 : (w 0).val = (idx z).toNat)
    (h1 : (w 1).val = (y 1).val) (h2 : (w 2).val = (y 2).val) : Host.gather gather_S64x512x2048_S584x1_S584x512x2048_12_0_n_n_0_1_15122048 x idx y = x w := by
  have hs : ∀ k, GatherDims.siIdx gather_S64x512x2048_S584x1_S584x512x2048_12_0_n_n_0_1_15122048 y k = z := by
    intro k; funext b; refine Fin.ext ?_
    have hb : b = 0 ∨ b = 1 := by
      match b with
      | ⟨0, _⟩ => exact Or.inl rfl
      | ⟨1, _⟩ => exact Or.inr rfl
    rcases hb with rfl | rfl
    · exact hz.symm
    · have e1 : (z 1).val < 1 := (z 1).isLt
      have e2 : (GatherDims.siIdx gather_S64x512x2048_S584x1_S584x512x2048_12_0_n_n_0_1_15122048 y k 1).val < 1 := (GatherDims.siIdx gather_S64x512x2048_S584x1_S584x512x2048_12_0_n_n_0_1_15122048 y k 1).isLt
      omega
  unfold Host.gather
  refine congrArg x (funext fun a => Fin.ext ?_)
  show GatherDims.start gather_S64x512x2048_S584x1_S584x512x2048_12_0_n_n_0_1_15122048 y idx a + GatherDims.batchCoord gather_S64x512x2048_S584x1_S584x512x2048_12_0_n_n_0_1_15122048 y a + GatherDims.offCoord gather_S64x512x2048_S584x1_S584x512x2048_12_0_n_n_0_1_15122048 y a = _
  rw [GatherDims.batchCoord_eq_zero _ _ _ List.not_mem_nil, Nat.add_zero]
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ GatherDims.startIndexMap gather_S64x512x2048_S584x1_S584x512x2048_12_0_n_n_0_1_15122048 from List.mem_singleton.mpr rfl), hs]
    exact (clamp _ h).trans h0.symm
  · unfold GatherDims.start
    rw [dif_neg (show ¬ (1 : Fin 3) ∈ GatherDims.startIndexMap gather_S64x512x2048_S584x1_S584x512x2048_12_0_n_n_0_1_15122048 by decide), Nat.zero_add]
    exact h1.symm
  · unfold GatherDims.start
    rw [dif_neg (show ¬ (2 : Fin 3) ∈ GatherDims.startIndexMap gather_S64x512x2048_S584x1_S584x512x2048_12_0_n_n_0_1_15122048 by decide), Nat.zero_add]
    exact h2.symm

end Cert.ExpertsRefIdeal.Take

end
-- ==== Proof.ExpertsRef.lean ====
/- The routed experts' reference, entry by entry. -/
module

public import proofs.«01_k».proof.Proof.ExpertsTake
public import proofs.«01_k».proof.Proof.Gen.ExpertsRefIdeal.Run

@[expose] public section

set_option maxRecDepth 16384

noncomputable section

open Idealize.ShloMosaic Idealize.ShloMosaic.TcCoe

namespace Cert.ExpertsRefIdeal.Routed

open Cert.ExpertsRefIdeal Cert.ExpertsRefIdeal.Gen

/-- Each block's expert, counted from the end where it is negative, as a column. -/
def words (a0 : IVec S584 32) : IVec S584x1 32 :=
  broadcastInDim S584x1 ![0] bcast_S584_S584x1_0 (select (cmpi .slt a0 (broadcastInDim S584 ![] bcast_S_S584 (constantI S_ 32 0#32))) (addi a0
  (broadcastInDim S584 ![] bcast_S_S584 (constantI S_ 32 64#32))) a0)

/-- Each block's first weights, -/
def guW (a0 : IVec S584 32) (a3 : FVec Ideal S2x64x2048x1024 .f32) : FVec Ideal S584x2048x1024 .f32 :=
  Host.gather gather_S64x2048x1024_S584x1_S584x2048x1024_12_0_n_n_0_1_120481024 (shapeCast _ (extractStridedSlice S1x64x2048x1024 ![0, 0, 0, 0] a3
  slices_S2x64x2048x1024_S1x64x2048x1024_0_0_0_0) shapeCasts_S1x64x2048x1024_S64x2048x1024) (words a0)

/-- and its second weights. -/
def dnW (a0 : IVec S584 32) (a4 : FVec Ideal S2x64x512x2048 .f32) : FVec Ideal S584x512x2048 .f32 :=
  Host.gather gather_S64x512x2048_S584x1_S584x512x2048_12_0_n_n_0_1_15122048 (shapeCast _ (extractStridedSlice S1x64x512x2048 ![0, 0, 0, 0] a4
  slices_S2x64x512x2048_S1x64x512x2048_0_0_0_0) shapeCasts_S1x64x512x2048_S64x512x2048) (words a0)

/-- Each block's rows times its first weights. -/
def hidden (a0 : IVec S584 32) (a2 : FVec Ideal S299008x2048 .bf16) (a3 : FVec Ideal S2x64x2048x1024 .f32) : FVec Ideal S584x512x1024 .f32 :=
  Host.dotGeneral dot_S584x512x2048_S584x2048x1024_S584x512x1024_2_1_1_2_0_0 none (shapeCast _ (extf .f32 a2 bitsLt_bf16_f32)
  shapeCasts_S299008x2048_S584x512x2048) (guW a0 a3)

/-- The routed experts' result, as the reference computes it from its five arguments. -/
def routed (a0 : IVec S584 32) (a1 : IVec S1 32) (a2 : FVec Ideal S299008x2048 .bf16) (a3 : FVec Ideal S2x64x2048x1024 .f32)
    (a4 : FVec Ideal S2x64x512x2048 .f32) : FVec Ideal S299008x2048 .bf16 :=
  truncf .bf16 (shapeCast _ (select (broadcastInDim S584x512x2048 ![0, 1, 2] bcast_S584x1x1_S584x512x2048_0_1_2 (broadcastInDim S584x1x1 ![0]
  bcast_S584_S584x1x1_0 (cmpi .slt (iotaInDim S584 32 0) (broadcastInDim S584 ![] bcast_S_S584 (shapeCast _ a1 shapeCasts_S1_S_))))) (Host.dotGeneral
  dot_S584x512x512_S584x512x2048_S584x512x2048_2_1_1_2_0_0 none (mulf (mulf (extractStridedSlice S584x512x512 ![0, 0, 0] (hidden a0 a2 a3)
  slices_S584x512x1024_S584x512x512_0_0_0) (Host.divf (broadcastInDim S584x512x512 ![] bcast_S_S584x512x512 (constant S_ .f32 0x3F800000#32)) (addf
  (broadcastInDim S584x512x512 ![] bcast_S_S584x512x512 (constant S_ .f32 0x3F800000#32)) (Host.exp (Host.negf (extractStridedSlice S584x512x512 ![0,
  0, 0] (hidden a0 a2 a3) slices_S584x512x1024_S584x512x512_0_0_0)))))) (extractStridedSlice S584x512x512 ![0, 0, 512] (hidden a0 a2 a3)
  slices_S584x512x1024_S584x512x512_0_0_512)) (dnW a0 a4)) (broadcastInDim S584x512x2048 ![] bcast_S_S584x512x2048 (id (constant S_ .f32
  0x00000000#32)))) shapeCasts_S584x512x2048_S299008x2048) bitsLt_bf16_f32

/-- The reference program's result is that array. -/
theorem result_eq (m : (ℓ : Loc nD τ sig) → Buf (Elt Ideal) ℓ) (c : Dev nD) : Value.res_main_v33 m c
    = routed (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Value.res_main_v33 routed hidden guW dnW words; rfl

/-- A block whose expert is one of 0 … 63 has that word in the column. -/
theorem words_apply (a0 : IVec S584 32) (h : ∀ i, (a0 i).toNat < 64) (z : S584x1.Idx) : words a0 z = a0 (ix1 (z 0)) := by
  have hz := h (ix1 (z 0))
  have e : words a0 z = Scalar.select (IntOp.cmpi .slt (a0 (ix1 (z 0))) 0#32) (IntOp.addi (a0 (ix1 (z 0))) 64#32) (a0 (ix1 (z 0))) := by
    unfold words; pointwise
  rw [e]
  have g : IntOp.cmpi .slt (a0 (ix1 (z 0))) 0#32 = 0#1 := by
    have : (a0 (ix1 (z 0))).slt 0#32 = false := by
      simp only [BitVec.slt, decide_eq_false_iff_not]
      rw [BitVec.toInt_eq_toNat_cond, if_pos (by omega)]
      have e0 : (0#32 : BitVec 32).toInt = 0 := by decide
      omega
    simp [IntOp.cmpi, this]
  rw [g]; rfl

/-- An entry of a block's first weights, -/
theorem guW_apply (a0 : IVec S584 32) (h : ∀ i, (a0 i).toNat < 64) (a3 : FVec Ideal S2x64x2048x1024 .f32) (y : S584x2048x1024.Idx) :
    guW a0 a3 y = a3 (ix4 (0 : Fin 2) ⟨(a0 (ix1 (y 0))).toNat, h _⟩ (y 1) (y 2)) := by
  have hw := words_apply a0 h (ix2 (y 0) (0 : Fin 1))
  unfold guW
  rw [Take.gather_gu _ _ y (ix2 (y 0) (0 : Fin 1)) rfl (by rw [hw]; exact h _) (ix3 ⟨(a0 (ix1 (y 0))).toNat, h _⟩ (y 1) (y 2)) (by rw [hw]; rfl) rfl rfl]
  pointwise

/-- and of its second weights. -/
theorem dnW_apply (a0 : IVec S584 32) (h : ∀ i, (a0 i).toNat < 64) (a4 : FVec Ideal S2x64x512x2048 .f32) (y : S584x512x2048.Idx) :
    dnW a0 a4 y = a4 (ix4 (0 : Fin 2) ⟨(a0 (ix1 (y 0))).toNat, h _⟩ (y 1) (y 2)) := by
  have hw := words_apply a0 h (ix2 (y 0) (0 : Fin 1))
  unfold dnW
  rw [Take.gather_dn _ _ y (ix2 (y 0) (0 : Fin 1)) rfl (by rw [hw]; exact h _) (ix3 ⟨(a0 (ix1 (y 0))).toNat, h _⟩ (y 1) (y 2)) (by rw [hw]; rfl) rfl rfl]
  pointwise

/-- A row of a block that is used holds the block's expert's network of the row; -/
theorem routed_used (a0 : IVec S584 32) (h : ∀ i, (a0 i).toNat < 64) (a1 : IVec S1 32) (a2 : FVec Ideal S299008x2048 .bf16)
    (a3 : FVec Ideal S2x64x2048x1024 .f32) (a4 : FVec Ideal S2x64x512x2048 .f32) (y : S299008x2048.Idx) (n : Fin 584) (hn : n.val = (y 0).val / 512)
    (hu : IntOp.cmpi .slt (BitVec.ofNat 32 n.val) (a1 (ix1 0)) = 1#1) : routed a0 a1 a2 a3 a4 y =
      ∑ x : Fin 512, ((∑ k : Fin 2048, a2 (ix2 (y 0) k) * a3 (ix4 (0 : Fin 2) ⟨(a0 (ix1 n)).toNat, h _⟩ k (⟨x.val, by omega⟩ : Fin 1024)))
        * Ideal.div 1 (1 + Ideal.exp (-∑ k : Fin 2048, a2 (ix2 (y 0) k) * a3 (ix4 (0 : Fin 2) ⟨(a0 (ix1 n)).toNat, h _⟩ k (⟨x.val, by omega⟩ : Fin 1024))))
        * ∑ k : Fin 2048, a2 (ix2 (y 0) k) * a3 (ix4 (0 : Fin 2) ⟨(a0 (ix1 n)).toNat, h _⟩ k (⟨512 + x.val, by omega⟩ : Fin 1024)))
        * a4 (ix4 (0 : Fin 2) ⟨(a0 (ix1 n)).toNat, h _⟩ x (y 1)) := by
  obtain ⟨n, hlt⟩ := n
  obtain rfl : n = (y 0).val / 512 := hn
  pointwise [routed, hidden]
  rw [hu]
  simp only [guW_apply a0 h, dnW_apply a0 h]
  rfl

/-- of a block that is not, zero. -/
theorem routed_idle (a0 : IVec S584 32) (a1 : IVec S1 32) (a2 : FVec Ideal S299008x2048 .bf16)
    (a3 : FVec Ideal S2x64x2048x1024 .f32) (a4 : FVec Ideal S2x64x512x2048 .f32) (y : S299008x2048.Idx) (n : Fin 584) (hn : n.val = (y 0).val / 512)
    (hu : IntOp.cmpi .slt (BitVec.ofNat 32 n.val) (a1 (ix1 0)) = 0#1) : routed a0 a1 a2 a3 a4 y = 0 := by
  rw [hn] at hu
  pointwise [routed, hidden]
  rw [hu]
  show id (constant S_ FTy.f32 0#32) Idealize.ShloMosaic.ix0 = (0 : Ideal .f32)
  rw [id_eq]
  pointwise

end Cert.ExpertsRefIdeal.Routed

end
-- ==== Proof.ExpertsValue.lean ====
/- The routed experts: the kernel's array of results is the reference's. -/
module

public import proofs.«01_k».proof.Proof.ExpertsIdealOk
public import proofs.«01_k».proof.Proof.ExpertsRef

@[expose] public section

set_option maxRecDepth 16384

noncomputable section

open Idealize.ShloMosaic Idealize.ShloMosaic.TcCoe Idealize.SL.Sem
open Idealize.ShloMosaic.Pipeline (Dat)

namespace Cert.ExpertsIdeal.Hand

open Cert.ExpertsIdeal Cert.ExpertsIdeal.Gen
open Cert.ExpertsRefIdeal.Routed (routed routed_used routed_idle)

variable (m : (ℓ : Loc nD τ sig) → Buf (Elt Ideal) ℓ)

/-- The rows' and the results' windows at point `t` are row block `t`. -/
theorem index_0 (hO : Ok m) (t : Fin (pipe m hO).N) : ((pipe m hO).win 0).index t = ![t.val, 0] := by
  have e := coord t
  have ht : t.val < 584 := Nat.lt_of_lt_of_eq t.isLt N_0
  show ![(BitVec.ofNat 32 (grid0.coords t 0).val).toNat, 0] = _
  rw [e, BitVec.toNat_ofNat, Nat.mod_eq_of_lt (by omega)]
theorem index_3 (hO : Ok m) (t : Fin (pipe m hO).N) : ((pipe m hO).win 3).index t = ![t.val, 0] := index_0 m hO t

/-- The word the body reads at point `t` is the table's entry `t`; -/
theorem cur_eq (c : Dev nD) (hO : Ok m) (t : Fin (pipe m hO).N) (n : Fin 584) (hn : n.val = t.val) :
    cur (F := Ideal) c (grid0.coords t) (tbl m 0) = (m ((c : Thread nD τ).loc main_arg0) : IVec S584 32) (ix1 n) := by
  obtain rfl : c = 0 := Subsingleton.elim _ _
  refine congrArg (m (((0 : Dev nD) : Thread nD τ).loc main_arg0) : IVec S584 32) (funext fun a => Fin.ext ?_)
  obtain rfl : a = (0 : Fin 1) := Subsingleton.elim (α := Fin 1) _ _
  have e := coord t
  have hlt := n.isLt
  show (BitVec.ofNat 32 (grid0.coords t 0).val).toNat + 0 = n.val
  rw [e, BitVec.toNat_ofNat, Nat.mod_eq_of_lt (by omega)]; omega

/-- the count it reads is the count's one entry. -/
theorem used_eq (c : Dev nD) : used (F := Ideal) c (tbl m 1) = (m ((c : Thread nD τ).loc main_arg1) : IVec S1 32) (ix1 0) := by
  obtain rfl : c = 0 := Subsingleton.elim _ _
  refine congrArg (m (((0 : Dev nD) : Thread nD τ).loc main_arg1) : IVec S1 32) (funext fun a => Fin.ext ?_)
  obtain rfl : a = (0 : Fin 1) := Subsingleton.elim (α := Fin 1) _ _
  rfl

/-- Whether a block is used is a signed comparison of its number with the count. -/
theorem cond_eq (i : grid0.Coords) (v : BitVec 32) : k0_cond2 i v = IntOp.cmpi .slt (BitVec.ofNat 32 (i 0).val) v := by
  have h : ∀ b : BitVec 1, IntOp.cmpi .ne (b.zeroExtend 32) 0#32 = b := by decide
  exact h _

/-- What the body computes of a block of rows and of two blocks of weights, entry by entry. -/
theorem pay_apply (x : Vec Ideal S512x2048 .bf16) (w : Vec Ideal S1x1x2048x1024 .f32) (v : Vec Ideal S1x1x512x2048 .f32) (y : S512x2048.Idx) :
    k0_pay3 x (k0_pay1 w) (k0_pay2 v) y =
      ∑ j : Fin 512, ((∑ k : Fin 2048, x (ix2 (y 0) k) * w (ix4 (0 : Fin 1) (0 : Fin 1) k (⟨j.val, by omega⟩ : Fin 1024)))
        * Ideal.div 1 (1 + Ideal.exp (-∑ k : Fin 2048, x (ix2 (y 0) k) * w (ix4 (0 : Fin 1) (0 : Fin 1) k (⟨j.val, by omega⟩ : Fin 1024))))
        * ∑ k : Fin 2048, x (ix2 (y 0) k) * w (ix4 (0 : Fin 1) (0 : Fin 1) k (⟨512 + j.val, by omega⟩ : Fin 1024)))
        * v (ix4 (0 : Fin 1) (0 : Fin 1) j (y 1)) := by
  pointwise [k0_pay3, k0_pay1, k0_pay2]
  simp only [zero_sub]

/-- A row block at point `t`, entry by entry, -/
theorem rows_apply (hO : Ok m) (c : Dev nD) (t : Fin (pipe m hO).N) (r : Fin 512) (k : Fin 2048) (p : Fin 299008) (hp : p.val = t.val * 512 + r.val) :
    (iblk m hO c 0 t : Vec Ideal S512x2048 .bf16) (ix2 r k) = (m ((c : Thread nD τ).loc main_arg2) : FVec Ideal S299008x2048 .bf16) (ix2 p k) := by
  have e := index_0 m hO t
  refine congrArg (m ((c : Thread nD τ).loc main_arg2) : FVec Ideal S299008x2048 .bf16) (funext fun a => Fin.ext ?_)
  refine (((pipe m hO).win 0).rect_emb_val t (ix2 r k) a).trans ?_
  rw [e]
  match a with
  | ⟨0, _⟩ => exact hp.symm
  | ⟨1, _⟩ => exact (Nat.zero_add _)

/-- the block of first weights there, -/
theorem gu_apply (hO : Ok m) (c : Dev nD) (t : Fin (pipe m hO).N) (k : Fin 2048) (f : Fin 1024) (e : Fin 64)
    (he : e.val = (cur (F := Ideal) c (grid0.coords t) (tbl m 0)).toNat) :
    (iblk m hO c 1 t : Vec Ideal S1x1x2048x1024 .f32) (ix4 (0 : Fin 1) (0 : Fin 1) k f)
      = (m ((c : Thread nD τ).loc main_arg3) : FVec Ideal S2x64x2048x1024 .f32) (ix4 (0 : Fin 2) e k f) := by
  have e1 := index_1 m hO c t
  refine congrArg (m ((c : Thread nD τ).loc main_arg3) : FVec Ideal S2x64x2048x1024 .f32) (funext fun a => Fin.ext ?_)
  refine (((pipe m hO).win 1).rect_emb_val t (ix4 (0 : Fin 1) (0 : Fin 1) k f) a).trans ?_
  rw [e1, ← he]
  match a with
  | ⟨0, _⟩ => rfl
  | ⟨1, _⟩ => exact Nat.mul_one _
  | ⟨2, _⟩ => exact (Nat.zero_add _)
  | ⟨3, _⟩ => exact (Nat.zero_add _)

/-- and the block of second weights. -/
theorem dn_apply (hO : Ok m) (c : Dev nD) (t : Fin (pipe m hO).N) (k : Fin 512) (f : Fin 2048) (e : Fin 64)
    (he : e.val = (cur (F := Ideal) c (grid0.coords t) (tbl m 0)).toNat) :
    (iblk m hO c 2 t : Vec Ideal S1x1x512x2048 .f32) (ix4 (0 : Fin 1) (0 : Fin 1) k f)
      = (m ((c : Thread nD τ).loc main_arg4) : FVec Ideal S2x64x512x2048 .f32) (ix4 (0 : Fin 2) e k f) := by
  have e1 := index_2 m hO c t
  refine congrArg (m ((c : Thread nD τ).loc main_arg4) : FVec Ideal S2x64x512x2048 .f32) (funext fun a => Fin.ext ?_)
  refine (((pipe m hO).win 2).rect_emb_val t (ix4 (0 : Fin 1) (0 : Fin 1) k f) a).trans ?_
  rw [e1, ← he]
  match a with
  | ⟨0, _⟩ => rfl
  | ⟨1, _⟩ => exact Nat.mul_one _
  | ⟨2, _⟩ => exact (Nat.zero_add _)
  | ⟨3, _⟩ => exact (Nat.zero_add _)

/-- Where the blocks hold the rows and the weights of expert `e`, the body's result is that expert's network of the row. -/
theorem used_tile (x : Vec Ideal S512x2048 .bf16) (w : Vec Ideal S1x1x2048x1024 .f32) (v : Vec Ideal S1x1x512x2048 .f32)
    (a0 : IVec S584 32) (h : ∀ i, (a0 i).toNat < 64) (a1 : IVec S1 32) (a2 : FVec Ideal S299008x2048 .bf16)
    (a3 : FVec Ideal S2x64x2048x1024 .f32) (a4 : FVec Ideal S2x64x512x2048 .f32) (y : S512x2048.Idx) (z : S299008x2048.Idx) (hz1 : z 1 = y 1)
    (n : Fin 584) (hn : n.val = (z 0).val / 512) (hu : IntOp.cmpi .slt (BitVec.ofNat 32 n.val) (a1 (ix1 0)) = 1#1)
    (hx : ∀ k : Fin 2048, x (ix2 (y 0) k) = a2 (ix2 (z 0) k))
    (hw : ∀ (k : Fin 2048) (f : Fin 1024), w (ix4 (0 : Fin 1) (0 : Fin 1) k f) = a3 (ix4 (0 : Fin 2) ⟨(a0 (ix1 n)).toNat, h _⟩ k f))
    (hv : ∀ (k : Fin 512) (f : Fin 2048), v (ix4 (0 : Fin 1) (0 : Fin 1) k f) = a4 (ix4 (0 : Fin 2) ⟨(a0 (ix1 n)).toNat, h _⟩ k f)) :
    k0_pay3 x (k0_pay1 w) (k0_pay2 v) y = routed a0 a1 a2 a3 a4 z := by
  rw [pay_apply, routed_used a0 h a1 a2 a3 a4 z n hn hu, hz1]
  simp only [hx, hw]
  exact Finset.sum_congr rfl fun j _ => congrArg _ (hv j _)

/-- One entry of a block of results is the reference's entry at the block's place. -/
theorem tile (hO : Ok m) (h : ∀ i : S584.Idx, ((tbl m 0 : IVec S584 32) i).toNat < 64) (c : Dev nD) (t : Fin (pipe m hO).N) (y : S512x2048.Idx)
    (z : S299008x2048.Idx) (h0 : (z 0).val = t.val * 512 + (y 0).val) (h1 : (z 1).val = (y 1).val) :
    outAt m hO c t y = routed (m ((c : Thread nD τ).loc main_arg0)) (m ((c : Thread nD τ).loc main_arg1)) (m ((c : Thread nD τ).loc main_arg2))
          (m ((c : Thread nD τ).loc main_arg3)) (m ((c : Thread nD τ).loc main_arg4)) z := by
  obtain rfl : c = 0 := Subsingleton.elim _ _
  have ht : t.val < 584 := Nat.lt_of_lt_of_eq t.isLt N_0
  have hy : (y 0).val < 512 := (y 0).isLt
  have hn : (⟨t.val, ht⟩ : Fin 584).val = (z 0).val / 512 := by show t.val = _; omega
  have hcur := cur_eq m 0 hO t ⟨t.val, ht⟩ rfl
  unfold outAt outOf
  rw [used_eq, cond_eq, coord t]
  split
  · rename_i hu
    exact used_tile _ _ _ _ h _ _ _ _ y z (Fin.ext h1) ⟨t.val, ht⟩ hn hu (fun k => rows_apply m hO 0 t (y 0) k (z 0) h0)
      (fun k f => gu_apply m hO 0 t k f ⟨_, h (ix1 ⟨t.val, ht⟩)⟩ (congrArg BitVec.toNat hcur).symm)
      (fun k f => dn_apply m hO 0 t k f ⟨_, h (ix1 ⟨t.val, ht⟩)⟩ (congrArg BitVec.toNat hcur).symm)
  · rename_i hu
    have b : ∀ p : BitVec 1, ¬ p = 1#1 → p = 0#1 := by decide
    rw [routed_idle _ _ _ _ _ z ⟨t.val, ht⟩ hn (b _ hu)]
    pointwise [k0_pay4]

/-- Every block of results is written back, -/
theorem flushed (hO : Ok m) (t : Fin (pipe m hO).N) : ((pipe m hO).win 3).flush t = true := by
  refine (((pipe m hO).win 3).flush_out rfl t).2 ?_
  by_cases hl : t.val + 1 = (pipe m hO).grid.N
  · exact Or.inl hl
  · have hlt : t.val + 1 < (pipe m hO).grid.N := Nat.lt_of_le_of_ne (show t.val + 1 ≤ (pipe m hO).grid.N from t.isLt) hl
    refine Or.inr ⟨hlt, fun e => ?_⟩
    rw [index_3 m hO t, index_3 m hO ⟨t.val + 1, hlt⟩] at e
    have e0 := congrFun e 0
    have : t.val + 1 = t.val := e0
    omega

/-- and the blocks' places. -/
theorem out_place (hO : Ok m) (t : Fin (pipe m hO).N) (y : S512x2048.Idx) (a : Fin 2) :
    ((((pipe m hO).win 3).blk t).view.emb y a).val = (![t.val, 0] : Fin 2 → ℕ) a * S512x2048.size a + (y a).val := by
  rw [← index_3 m hO t]
  exact ((pipe m hO).win 3).rect_emb_val t y a

/-- Every place of the array lies in a block that is written back. -/
theorem covered (hO : Ok m) (i : S299008x2048.Idx) : ∃ t : Fin (pipe m hO).N, ((pipe m hO).win 3).flush t = true
    ∧ (show (((pipe m hO).win 3).arr.view.ref).ty.Idx from i) ∈ (((pipe m hO).win 3).blk t).view.set := by
  have hi : (i 0).val < 299008 := (i 0).isLt
  have hlt : (i 0).val / 512 < (pipe m hO).N := (show (i 0).val / 512 < 584 by omega).trans_eq N_0.symm
  refine ⟨⟨(i 0).val / 512, hlt⟩, flushed m hO _, ?_⟩
  have e : (((pipe m hO).win 3).blk ⟨(i 0).val / 512, hlt⟩).view.emb
      (ix2 (⟨(i 0).val % 512, Nat.mod_lt _ (by omega)⟩ : Fin 512) (i 1 : Fin 2048))
        = (show ((((pipe m hO).win 3).blk ⟨(i 0).val / 512, hlt⟩).view).ty.Idx from i) := by
    refine funext fun a => Fin.ext ?_
    refine (out_place m hO _ _ a).trans ?_
    match a with
    | ⟨0, _⟩ => exact Nat.div_add_mod' _ _
    | ⟨1, _⟩ => exact Nat.zero_add _
  have hm := View.emb_mem_set (((pipe m hO).win 3).blk ⟨(i 0).val / 512, hlt⟩).view
      (ix2 (⟨(i 0).val % 512, Nat.mod_lt _ (by omega)⟩ : Fin 512) (i 1 : Fin 2048))
  rw [e] at hm
  exact hm

/-- The array of results is the reference's. -/
theorem whole (hO : Ok m) (h : ∀ i : S584.Idx, ((tbl m 0 : IVec S584 32) i).toNat < 64) (c : Dev nD) : (dats m hO 0 c).arrAt 3 (pipe m hO).N
    = routed (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m hO 0 c).arrAt_eq_of_emb 3 _ (fun t _ y => ?_) (fun i => ?_)
  · rw [after_3]
    exact tile m hO h c t y _ (out_place m hO t y 0) ((out_place m hO t y 1).trans (Nat.zero_add _))
  · exact covered m hO i

/-- The program runs to the end with the reference's array as its result and its arguments unchanged, when every block's
    expert is one of 0 … 63. -/
theorem ends (ρ : Dev nD → PrngReg) (h : ∀ i : S584.Idx, ((tbl m 0 : IVec S584 32) i).toNat < 64) :
    θ_run defs (onTc (τ := τ) (main (F := Ideal))) ⟨m, fun _ => 0, ρ⟩ (fun r => ∀ c : Dev nD,
      r.2.mem ((c.tc : Thread nD τ).loc main_v0) = routed (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ g c => ⟨((g c).1 3).trans (whole m (ok_of_words m h) h c),
      (g c).2 main_arg0 (by decide : main_arg0 ∈ Pipeline.restRefs sig spec0),
      (g c).2 main_arg1 (by decide : main_arg1 ∈ Pipeline.restRefs sig spec0),
      ((g c).1 0).trans (((dats m (ok_of_words m h) 0 c).arrAt_in 0 rfl _).trans (A_eq m (ok_of_words m h) c 0)),
      ((g c).1 1).trans (((dats m (ok_of_words m h) 0 c).arrAt_in 1 rfl _).trans (A_eq m (ok_of_words m h) c 1)),
      ((g c).1 2).trans (((dats m (ok_of_words m h) 0 c).arrAt_in 2 rfl _).trans (A_eq m (ok_of_words m h) c 2))⟩)
    (run_main m ρ (ok_of_words m h))

end Cert.ExpertsIdeal.Hand
end
-- ==== Proof.lean ====
/- The certificate: the claims of each program, assembled. -/
module

public import proofs.«01_k».proof.Defs
public import proofs.«01_k».proof.Proof.Gen.Rets.Frame
public import proofs.«01_k».proof.Proof.Gen.RetsIdeal.Frame
public import proofs.«01_k».proof.Proof.Gen.RetsRefIdeal
public import proofs.«01_k».proof.Proof.Gen.RetsRefIdeal.Run
public import proofs.«01_k».proof.Proof.RetsValue
public import proofs.«01_k».proof.Proof.Gen.Atts.Frame
public import proofs.«01_k».proof.Proof.Gen.AttsIdeal.Frame
public import proofs.«01_k».proof.Proof.Gen.AttsRefIdeal
public import proofs.«01_k».proof.Proof.Gen.AttsRefIdeal.Run
public import proofs.«01_k».proof.Proof.AttsValue
public import proofs.«01_k».proof.Proof.Gen.Proj.Frame
public import proofs.«01_k».proof.Proof.Gen.ProjIdeal.Frame
public import proofs.«01_k».proof.Proof.Gen.ProjRefIdeal
public import proofs.«01_k».proof.Proof.Gen.ProjRefIdeal.Run
public import proofs.«01_k».proof.Proof.ProjValue
public import proofs.«01_k».proof.Proof.Gen.Merge.Frame
public import proofs.«01_k».proof.Proof.Gen.MergeIdeal.Frame
public import proofs.«01_k».proof.Proof.Gen.MergeRefIdeal
public import proofs.«01_k».proof.Proof.Gen.MergeRefIdeal.Run
public import proofs.«01_k».proof.Proof.MergeValue
public import proofs.«01_k».proof.Proof.Gen.Out.Frame
public import proofs.«01_k».proof.Proof.Gen.OutIdeal.Frame
public import proofs.«01_k».proof.Proof.Gen.OutRefIdeal
public import proofs.«01_k».proof.Proof.Gen.OutRefIdeal.Run
public import proofs.«01_k».proof.Proof.OutValue
public import proofs.«01_k».proof.Proof.Gen.Comb.Frame
public import proofs.«01_k».proof.Proof.Gen.CombIdeal.Frame
public import proofs.«01_k».proof.Proof.Gen.CombRefIdeal
public import proofs.«01_k».proof.Proof.Gen.CombRefIdeal.Run
public import proofs.«01_k».proof.Proof.CombValue
public import proofs.«01_k».proof.Proof.Gen.Experts.Skeleton
public import proofs.«01_k».proof.Proof.Gen.ExpertsIdeal.Skeleton
public import proofs.«01_k».proof.Proof.Gen.Experts.Launch
public import proofs.«01_k».proof.Proof.Gen.ExpertsIdeal.Launch
public import proofs.«01_k».proof.Proof.Gen.Pre_experts_range
public import proofs.«01_k».proof.Proof.Gen.ExpertsRefIdeal
public import proofs.«01_k».proof.Proof.Gen.ExpertsRefIdeal.Run
public import proofs.«01_k».proof.Proof.ExpertsOk
public import proofs.«01_k».proof.Proof.ExpertsIdealOk
public import proofs.«01_k».proof.Proof.ExpertsValue
public import Idealize.ShloMosaic.Adequacy
public import Idealize.ShloMosaic.Init
public import Idealize.ShloMosaic.Lib.Claim

@[expose] public section

noncomputable section

namespace Cert.Proof

open Idealize.ShloMosaic Idealize.ShloMosaic.TcCoe Idealize.SL.Sem

/-- Experts's reference runs, its arguments end unchanged and every counter is zero. -/
theorem frame_ExpertsRef : Cert.quiescent_ExpertsRefIdeal := fun m g _ =>
  (θ_run Cert.ExpertsRefIdeal.defs _ _).mono (fun r h => ⟨fun c => (h c).2, sem_eq_zero_of_no_sems (by decide) r.2⟩)
    (Cert.ExpertsRefIdeal.Value.run (F := Ideal) m g)

/-- Experts' kernel, where the table names experts, runs and ends with its arguments unchanged and every counter zero; -/
theorem frame_Experts : Cert.quiescent_Experts := fun m g h =>
  Cert.Experts.Hand.quiet m g (Cert.Experts.Hand.ok_of_words m (Cert.Experts.Hand.words_of_pre m (h 0)))

/-- so does the idealised kernel. -/
theorem frame_ExpertsIdeal : Cert.quiescent_ExpertsIdeal := fun m g h =>
  Cert.ExpertsIdeal.Hand.quiet m g (Cert.ExpertsIdeal.Hand.ok_of_words m (Cert.ExpertsIdeal.Hand.words_of_pre m (h 0)))

/-- Experts' idealised kernel and its reference end with equal results. -/
theorem algebraic_Experts : Cert.algebraic_ExpertsIdeal_ExpertsRefIdeal := by
  pair_intro
  · exact Cert.ExpertsIdeal.Hand.ends m g (Cert.ExpertsIdeal.Hand.words_of_pre m (hpre 0))
  · run_from Cert.ExpertsRefIdeal.Value.run m' g'
    · obtain ⟨e0, e1, e2, e3, e4⟩ := hagree c
      refine (Cert.ExpertsRefIdeal.Routed.result_eq m' c).trans ?_
      rw [e0, e1, e2, e3, e4]

/-- Proj's reference runs, its arguments end unchanged and every counter is zero. -/
theorem frame_ProjRef : Cert.quiescent_ProjRefIdeal := fun m g _ =>
  (θ_run Cert.ProjRefIdeal.defs _ _).mono (fun r h => ⟨fun c => (h c).2.2.2.2.2, sem_eq_zero_of_no_sems (by decide) r.2⟩)
    (Cert.ProjRefIdeal.Value.run (F := Ideal) m g)

/-- Proj's idealised kernel and its reference end with equal results. -/
theorem algebraic_Proj : Cert.algebraic_ProjIdeal_ProjRefIdeal := by
  pair_intro
  · run_from Cert.ProjIdeal.Gen.run_main m g
  · run_from Cert.ProjRefIdeal.Value.run m' g'
    · exact (Cert.ProjIdeal.Product.whole m c).symm
    · exact (Cert.ProjIdeal.Product.keysPrompt_end m c).symm
    · exact (Cert.ProjIdeal.Product.valuesPrompt_end m c).symm
    · exact (Cert.ProjIdeal.Product.keysSample_end m c).symm
    · exact (Cert.ProjIdeal.Product.valuesSample_end m c).symm

/-- Merge's reference runs, its arguments end unchanged and every counter is zero. -/
theorem frame_MergeRef : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run (F := Ideal) m g)

/-- Merge's idealised kernel and its reference end with equal results. -/
theorem algebraic_Merge : Cert.algebraic_MergeIdeal_MergeRefIdeal := by
  pair_intro
  · run_from Cert.MergeIdeal.Gen.run_main m g
  · run_from Cert.MergeRefIdeal.Value.run m' g'
    · exact (Cert.MergeIdeal.Gated.whole m c).symm

/-- Out's reference runs, its arguments end unchanged and every counter is zero. -/
theorem frame_OutRef : Cert.quiescent_OutRefIdeal := fun m g _ =>
  (θ_run Cert.OutRefIdeal.defs _ _).mono (fun r h => ⟨fun c => (h c).2.2, sem_eq_zero_of_no_sems (by decide) r.2⟩)
    (Cert.OutRefIdeal.Value.run (F := Ideal) m g)

/-- Out's idealised kernel and its reference end with equal results. -/
theorem algebraic_Out : Cert.algebraic_OutIdeal_OutRefIdeal := by
  pair_intro
  · run_from Cert.OutIdeal.Gen.run_main m g
  · run_from Cert.OutRefIdeal.Value.run m' g'
    · exact (Cert.OutIdeal.Normed.whole m c).symm
    · exact (Cert.OutIdeal.Normed.wholeNarrow m c).symm

/-- Comb's reference runs, its arguments end unchanged and every counter is zero. -/
theorem frame_CombRef : Cert.quiescent_CombRefIdeal := fun m g _ =>
  (θ_run Cert.CombRefIdeal.defs _ _).mono (fun r h => ⟨fun c => (h c).2.2, sem_eq_zero_of_no_sems (by decide) r.2⟩)
    (Cert.CombRefIdeal.Value.run (F := Ideal) m g)

/-- Comb's idealised kernel and its reference end with equal results. -/
theorem algebraic_Comb : Cert.algebraic_CombIdeal_CombRefIdeal := by
  pair_intro
  · run_from Cert.CombIdeal.Gen.run_main m g
  · run_from Cert.CombRefIdeal.Value.run m' g'
    · obtain ⟨e0, e1, e2, e3, e4, e5, e6⟩ := hagree c
      refine (Cert.CombRefIdeal.result_eq m' c).trans ?_
      rw [e0, e1, e2, e3, e4, e5, e6]
      exact (Cert.CombIdeal.Combined.whole m c).symm
    · obtain ⟨e0, e1, e2, e3, e4, e5, e6⟩ := hagree c
      refine (Cert.CombRefIdeal.result_narrow m' c).trans ?_
      rw [e0, e1, e2, e3, e4, e5, e6]
      exact (Cert.CombIdeal.Combined.wholeNarrow m c).symm

/-- Rets's reference runs, its arguments end unchanged and every counter is zero. -/
theorem frame_RetsRef : Cert.quiescent_RetsRefIdeal := fun m g _ =>
  (θ_run Cert.RetsRefIdeal.defs _ _).mono (fun r h => ⟨fun c => (h c).2.2, sem_eq_zero_of_no_sems (by decide) r.2⟩)
    (Cert.RetsRefIdeal.Value.run (F := Ideal) m g)

set_option maxHeartbeats 8000000 in
/-- Rets's idealised kernel and its reference end with equal results. -/
theorem algebraic_Rets : Cert.algebraic_RetsIdeal_RetsRefIdeal := by
  pair_intro
  · run_from Cert.RetsIdeal.Gen.run_main m g
    · exact hc.1 16
    · exact hc.1 17
  · run_from Cert.RetsRefIdeal.Value.run m' g'
    · obtain ⟨e0, e1, e2, e3, e4, e5, e6, e7, e8⟩ := hagree c
      refine (Cert.RetsRefIdeal.result_eq m' c).trans ?_
      rw [e0, e1, e2, e3, e4, e5, e7, e8]
      exact (Cert.RetsIdeal.Ret.whole16 m c).symm
    · obtain ⟨e0, e1, e2, e3, e4, e5, e6, e7, e8⟩ := hagree c
      refine Eq.trans (b := Cert.RetsRefIdeal.state _ _ _ _ _) rfl ?_
      rw [e7, e8]
      exact (Cert.RetsIdeal.Ret.whole17 m c).symm

/-- Atts's reference runs, its arguments end unchanged and every counter is zero. -/
theorem frame_AttsRef : Cert.quiescent_AttsRefIdeal := fun m g _ =>
  (θ_run Cert.AttsRefIdeal.defs _ _).mono (fun r h => ⟨fun c => (h c).2, sem_eq_zero_of_no_sems (by decide) r.2⟩)
    (Cert.AttsRefIdeal.Value.run (F := Ideal) m g)

/-- Atts's idealised kernel and its reference end with equal results. -/
theorem algebraic_Atts : Cert.algebraic_AttsIdeal_AttsRefIdeal := by
  pair_intro
  · run_from Cert.AttsIdeal.Gen.run_main m g
  · run_from Cert.AttsRefIdeal.Value.run m' g'
    · obtain ⟨e0, e1, e2, e3⟩ := hagree c
      refine (Cert.AttsRefIdeal.result_eq m' c).trans ?_
      rw [e0, e1, e2, e3]
      exact (Cert.AttsIdeal.Att.whole m c).symm

/-- Every claim of the certificate. -/
theorem claim : Cert.Claim :=
  ⟨Cert.Experts.Gen.facts, Cert.ExpertsIdeal.Gen.facts, Cert.ExpertsRefIdeal.Gen.facts,
    Cert.Proj.Gen.facts, Cert.ProjIdeal.Gen.facts, Cert.ProjRefIdeal.Gen.facts,
    Cert.Merge.Gen.facts, Cert.MergeIdeal.Gen.facts, Cert.MergeRefIdeal.Gen.facts,
    Cert.Out.Gen.facts, Cert.OutIdeal.Gen.facts, Cert.OutRefIdeal.Gen.facts,
    Cert.Comb.Gen.facts, Cert.CombIdeal.Gen.facts, Cert.CombRefIdeal.Gen.facts,
    Cert.Rets.Gen.facts, Cert.RetsIdeal.Gen.facts, Cert.RetsRefIdeal.Gen.facts,
    Cert.Atts.Gen.facts, Cert.AttsIdeal.Gen.facts, Cert.AttsRefIdeal.Gen.facts,
    Cert.Pre_experts_range.Gen.facts,
    frame_Experts, frame_ExpertsIdeal, frame_ExpertsRef,
    fun m g _ => Cert.Proj.Gen.frame m g, fun m g _ => Cert.ProjIdeal.Gen.frame m g, frame_ProjRef,
    fun m g _ => Cert.Merge.Gen.frame m g, fun m g _ => Cert.MergeIdeal.Gen.frame m g, frame_MergeRef,
    fun m g _ => Cert.Out.Gen.frame m g, fun m g _ => Cert.OutIdeal.Gen.frame m g, frame_OutRef,
    fun m g _ => Cert.Comb.Gen.frame m g, fun m g _ => Cert.CombIdeal.Gen.frame m g, frame_CombRef,
    fun m g _ => Cert.Rets.Gen.frame m g, fun m g _ => Cert.RetsIdeal.Gen.frame m g, frame_RetsRef,
    fun m g _ => Cert.Atts.Gen.frame m g, fun m g _ => Cert.AttsIdeal.Gen.frame m g, frame_AttsRef,
    trivial, algebraic_Experts,
    trivial, algebraic_Proj,
    trivial, algebraic_Merge,
    trivial, algebraic_Out,
    trivial, algebraic_Comb,
    trivial, algebraic_Rets,
    trivial, algebraic_Atts⟩

end Cert.Proof

end
